-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.bf16_pack.Statement Cert.KernelIdeal.S128x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8448x3584 : Shape := ⟨3, ![4, 8448, 3584]⟩
abbrev S4x8448x56 : Shape := ⟨3, ![4, 8448, 56]⟩
abbrev S4 : Shape := ⟨1, ![4]⟩
abbrev S8448x7168 : Shape := ⟨2, ![8448, 7168]⟩
abbrev S8448x56 : Shape := ⟨2, ![8448, 56]⟩
abbrev S1 : Shape := ⟨1, ![1]⟩
abbrev S8448 : Shape := ⟨1, ![8448]⟩
abbrev S8448x7040 : Shape := ⟨2, ![8448, 7040]⟩
abbrev S_ : Shape := ⟨0, ![]⟩

class Facts : Prop where
  bcast_S_S4x8448x56 : S_.BroadcastsInDim S4x8448x56 (![] : Fin 0 → Fin S4x8448x56.rank)
  bcast_S_S4 : S_.BroadcastsInDim S4 (![] : Fin 0 → Fin S4.rank)
  bcast_S_S8448x56 : S_.BroadcastsInDim S8448x56 (![] : Fin 0 → Fin S8448x56.rank)

variable [Facts]

def fn {F : FTy → Type} [FloatOps F] (main_arg0 : IVec S4x8448x3584 8) (main_arg1 : FVec F S4x8448x56 .f32) (main_arg2 : FVec F S4 .f32) (main_arg3 : FVec F S8448x7168 .f32) (main_arg4 : FVec F S8448x7168 .bf16) (main_arg5 : IVec S8448x7168 8) (main_arg6 : FVec F S8448x56 .f32) (main_arg7 : FVec F S1 .f32) (main_arg8 : IVec S8448 32) (main_arg9 : FVec F S8448x7040 .f32) (main_arg10 : FVec F S8448x7040 .bf16) (main_arg11 : IVec S8448 32) : IVec S4x8448x56 1 × IVec S4 1 × IVec S8448x56 1 :=
  let main_v0 : FVec F S4x8448x56 .f32 := Host.absf main_arg1
  let main_cst : FVec F S_ .f32 := constant S_ .f32 0x7F800000#32
  let main_v1 : FVec F S4x8448x56 .f32 := broadcastInDim S4x8448x56 ![] bcast_S_S4x8448x56 main_cst
  let main_v2 : IVec S4x8448x56 1 := cmpf .olt main_v0 main_v1
  let main_v3 : FVec F S4 .f32 := Host.absf main_arg2
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  let main_v6 : FVec F S8448x56 .f32 := Host.absf main_arg6
  let main_cst_1 : FVec F S_ .f32 := constant S_ .f32 0x7F800000#32
  let main_v7 : FVec F S8448x56 .f32 := broadcastInDim S8448x56 ![] bcast_S_S8448x56 main_cst_1
  let main_v8 : IVec S8448x56 1 := cmpf .olt main_v6 main_v7
  (main_v2, main_v5, main_v8)
-- ==== Kernel.lean ====
abbrev S4x8448x3584 : Shape := ⟨3, ![4, 8448, 3584]⟩
abbrev S4x8448x56 : Shape := ⟨3, ![4, 8448, 56]⟩
abbrev S4 : Shape := ⟨1, ![4]⟩
abbrev S8448x7168 : Shape := ⟨2, ![8448, 7168]⟩
abbrev S8448x56 : Shape := ⟨2, ![8448, 56]⟩
abbrev S1 : Shape := ⟨1, ![1]⟩
abbrev S8448 : Shape := ⟨1, ![8448]⟩
abbrev S8448x7040 : Shape := ⟨2, ![8448, 7040]⟩
abbrev S66x1x128 : Shape := ⟨3, ![66, 1, 128]⟩
abbrev S66x1x56 : Shape := ⟨3, ![66, 1, 56]⟩
abbrev S8448x3520 : Shape := ⟨2, ![8448, 3520]⟩
abbrev S8448x55 : Shape := ⟨2, ![8448, 55]⟩
abbrev S11 : Shape := ⟨1, ![11]⟩
abbrev S9 : Shape := ⟨1, ![9]⟩
abbrev S4x128x3584 : Shape := ⟨3, ![4, 128, 3584]⟩
abbrev S4x128x56 : Shape := ⟨3, ![4, 128, 56]⟩
abbrev S128x7168 : Shape := ⟨2, ![128, 7168]⟩
abbrev S128x56 : Shape := ⟨2, ![128, 56]⟩
abbrev S1x1x128 : Shape := ⟨3, ![1, 1, 128]⟩
abbrev S128x7040 : Shape := ⟨2, ![128, 7040]⟩
abbrev S1x1x56 : Shape := ⟨3, ![1, 1, 56]⟩
abbrev S128x3520 : Shape := ⟨2, ![128, 3520]⟩
abbrev S128x55 : Shape := ⟨2, ![128, 55]⟩
abbrev S256x256 : Shape := ⟨2, ![256, 256]⟩
abbrev S256x128 : Shape := ⟨2, ![256, 128]⟩
abbrev S28x256x256 : Shape := ⟨3, ![28, 256, 256]⟩
abbrev S640x128 : Shape := ⟨2, ![640, 128]⟩
abbrev S640x256 : Shape := ⟨2, ![640, 256]⟩
abbrev S2x512x256 : Shape := ⟨3, ![2, 512, 256]⟩
abbrev S2x640x256 : Shape := ⟨3, ![2, 640, 256]⟩
abbrev S128x128 : Shape := ⟨2, ![128, 128]⟩
abbrev S4x16x128 : Shape := ⟨3, ![4, 16, 128]⟩
abbrev S1x256x256 : Shape := ⟨3, ![1, 256, 256]⟩
abbrev S1x128x56 : Shape := ⟨3, ![1, 128, 56]⟩
abbrev S32x128 : Shape := ⟨2, ![32, 128]⟩
abbrev S1x128x128 : Shape := ⟨3, ![1, 128, 128]⟩
abbrev S128x256 : Shape := ⟨2, ![128, 256]⟩
abbrev S1x128x256 : Shape := ⟨3, ![1, 128, 256]⟩
abbrev S1x640x256 : Shape := ⟨3, ![1, 640, 256]⟩
abbrev S1x32x128 : Shape := ⟨3, ![1, 32, 128]⟩
abbrev S32 : Shape := ⟨1, ![32]⟩
abbrev S32x1 : Shape := ⟨2, ![32, 1]⟩
abbrev S128 : Shape := ⟨1, ![128]⟩
abbrev S1x128 : Shape := ⟨2, ![1, 128]⟩
abbrev S1x1 : Shape := ⟨2, ![1, 1]⟩
abbrev S2x128 : Shape := ⟨2, ![2, 128]⟩
abbrev S1x1x1 : Shape := ⟨3, ![1, 1, 1]⟩
abbrev S128x64 : Shape := ⟨2, ![128, 64]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩

abbrev nBuf : Space → Nat
  | .hbm => 30
  | .vmem => 57
  | .smem => 6
  | _ => 0

abbrev bufTy : (tb : Table) → Fin (tcTables nBuf tb) → BufTy
  | .hbm, ⟨0, _⟩ => ⟨S4x8448x3584, .i8⟩
  | .hbm, ⟨1, _⟩ => ⟨S4x8448x56, .f32⟩
  | .hbm, ⟨2, _⟩ => ⟨S4, .f32⟩
  | .hbm, ⟨3, _⟩ => ⟨S8448x7168, .f32⟩
  | .hbm, ⟨4, _⟩ => ⟨S8448x7168, .bf16⟩
  | .hbm, ⟨5, _⟩ => ⟨S8448x7168, .i8⟩
  | .hbm, ⟨6, _⟩ => ⟨S8448x56, .f32⟩
  | .hbm, ⟨7, _⟩ => ⟨S1, .f32⟩
  | .hbm, ⟨8, _⟩ => ⟨S8448, .i32⟩
  | .hbm, ⟨9, _⟩ => ⟨S8448x7040, .f32⟩
  | .hbm, ⟨10, _⟩ => ⟨S8448x7040, .bf16⟩
  | .hbm, ⟨11, _⟩ => ⟨S8448, .i32⟩
  | .hbm, ⟨12, _⟩ => ⟨S66x1x128, .i32⟩
  | .hbm, ⟨13, _⟩ => ⟨S66x1x128, .i32⟩
  | .hbm, ⟨14, _⟩ => ⟨S8448x7168, .f32⟩
  | .hbm, ⟨15, _⟩ => ⟨S8448x7168, .f32⟩
  | .hbm, ⟨16, _⟩ => ⟨S8448x7168, .i8⟩
  | .hbm, ⟨17, _⟩ => ⟨S8448x56, .f32⟩
  | .hbm, ⟨18, _⟩ => ⟨S8448x7168, .fp8e4m3⟩
  | .hbm, ⟨19, _⟩ => ⟨S66x1x56, .f32⟩
  | .hbm, ⟨20, _⟩ => ⟨S8448x3520, .i8⟩
  | .hbm, ⟨21, _⟩ => ⟨S8448x55, .f32⟩
  | .hbm, ⟨22, _⟩ => ⟨S66x1x128, .f32⟩
  | .hbm, ⟨23, _⟩ => ⟨S66x1x128, .f32⟩
  | .hbm, ⟨24, _⟩ => ⟨S66x1x128, .f32⟩
  | .hbm, ⟨25, _⟩ => ⟨S66x1x128, .f32⟩
  | .hbm, ⟨26, _⟩ => ⟨S11, .f32⟩
  | .hbm, ⟨27, _⟩ => ⟨S11, .f32⟩
  | .hbm, ⟨28, _⟩ => ⟨S11, .f32⟩
  | .hbm, ⟨29, _⟩ => ⟨S9, .f32⟩
  | .local _ .vmem, ⟨0, _⟩ => ⟨S4x128x3584, .i8⟩
  | .local _ .vmem, ⟨1, _⟩ => ⟨S4x128x3584, .i8⟩
  | .local _ .vmem, ⟨2, _⟩ => ⟨S4x128x56, .f32⟩
  | .local _ .vmem, ⟨3, _⟩ => ⟨S4x128x56, .f32⟩
  | .local _ .vmem, ⟨4, _⟩ => ⟨S128x7168, .f32⟩
  | .local _ .vmem, ⟨5, _⟩ => ⟨S128x7168, .f32⟩
  | .local _ .vmem, ⟨6, _⟩ => ⟨S128x7168, .bf16⟩
  | .local _ .vmem, ⟨7, _⟩ => ⟨S128x7168, .bf16⟩
  | .local _ .vmem, ⟨8, _⟩ => ⟨S128x7168, .i8⟩
  | .local _ .vmem, ⟨9, _⟩ => ⟨S128x7168, .i8⟩
  | .local _ .vmem, ⟨10, _⟩ => ⟨S128x56, .f32⟩
  | .local _ .vmem, ⟨11, _⟩ => ⟨S128x56, .f32⟩
  | .local _ .vmem, ⟨12, _⟩ => ⟨S1x1x128, .i32⟩
  | .local _ .vmem, ⟨13, _⟩ => ⟨S1x1x128, .i32⟩
  | .local _ .vmem, ⟨14, _⟩ => ⟨S128x7040, .f32⟩
  | .local _ .vmem, ⟨15, _⟩ => ⟨S128x7040, .f32⟩
  | .local _ .vmem, ⟨16, _⟩ => ⟨S128x7040, .bf16⟩
  | .local _ .vmem, ⟨17, _⟩ => ⟨S128x7040, .bf16⟩
  | .local _ .vmem, ⟨18, _⟩ => ⟨S1x1x128, .i32⟩
  | .local _ .vmem, ⟨19, _⟩ => ⟨S1x1x128, .i32⟩
  | .local _ .vmem, ⟨20, _⟩ => ⟨S128x7168, .f32⟩
  | .local _ .vmem, ⟨21, _⟩ => ⟨S128x7168, .f32⟩
  | .local _ .vmem, ⟨22, _⟩ => ⟨S128x7168, .f32⟩
  | .local _ .vmem, ⟨23, _⟩ => ⟨S128x7168, .f32⟩
  | .local _ .vmem, ⟨24, _⟩ => ⟨S128x7168, .i8⟩
  | .local _ .vmem, ⟨25, _⟩ => ⟨S128x7168, .i8⟩
  | .local _ .vmem, ⟨26, _⟩ => ⟨S128x56, .f32⟩
  | .local _ .vmem, ⟨27, _⟩ => ⟨S128x56, .f32⟩
  | .local _ .vmem, ⟨28, _⟩ => ⟨S128x7168, .fp8e4m3⟩
  | .local _ .vmem, ⟨29, _⟩ => ⟨S128x7168, .fp8e4m3⟩
  | .local _ .vmem, ⟨30, _⟩ => ⟨S1x1x56, .f32⟩
  | .local _ .vmem, ⟨31, _⟩ => ⟨S1x1x56, .f32⟩
  | .local _ .vmem, ⟨32, _⟩ => ⟨S128x3520, .i8⟩
  | .local _ .vmem, ⟨33, _⟩ => ⟨S128x3520, .i8⟩
  | .local _ .vmem, ⟨34, _⟩ => ⟨S128x55, .f32⟩
  | .local _ .vmem, ⟨35, _⟩ => ⟨S128x55, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S256x256, .fp8e4m3⟩
  | .local _ .vmem, ⟨45, _⟩ => ⟨S256x128, .fp8e4m3⟩
  | .local _ .vmem, ⟨46, _⟩ => ⟨S28x256x256, .bf16⟩
  | .local _ .vmem, ⟨47, _⟩ => ⟨S640x128, .f32⟩
  | .local _ .vmem, ⟨48, _⟩ => ⟨S640x256, .bf16⟩
  | .local _ .vmem, ⟨49, _⟩ => ⟨S2x512x256, .f32⟩
  | .local _ .vmem, ⟨50, _⟩ => ⟨S2x640x256, .f32⟩
  | .local _ .vmem, ⟨51, _⟩ => ⟨S128x7168, .f32⟩
  | .local _ .vmem, ⟨52, _⟩ => ⟨S128x7040, .f32⟩
  | .local _ .vmem, ⟨53, _⟩ => ⟨S128x128, .f32⟩
  | .local _ .vmem, ⟨54, _⟩ => ⟨S128x128, .f32⟩
  | .local _ .vmem, ⟨55, _⟩ => ⟨S4x16x128, .f32⟩
  | .local _ .vmem, ⟨56, _⟩ => ⟨S128x128, .f32⟩
  | .local _ .smem, ⟨0, _⟩ => ⟨S4, .f32⟩
  | .local _ .smem, ⟨1, _⟩ => ⟨S1, .f32⟩
  | .local _ .smem, ⟨2, _⟩ => ⟨S11, .f32⟩
  | .local _ .smem, ⟨3, _⟩ => ⟨S11, .f32⟩
  | .local _ .smem, ⟨4, _⟩ => ⟨S11, .f32⟩
  | .local _ .smem, ⟨5, _⟩ => ⟨S9, .f32⟩
  | _, _ => ⟨S4x8448x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev main_v2_6 : Ref sig .tc := ⟨.hbm, 20, rfl⟩
abbrev main_v2_7 : Ref sig .tc := ⟨.hbm, 21, rfl⟩
abbrev main_v2_8 : Ref sig .tc := ⟨.hbm, 22, rfl⟩
abbrev main_v2_9 : Ref sig .tc := ⟨.hbm, 23, rfl⟩
abbrev main_v2_10 : Ref sig .tc := ⟨.hbm, 24, rfl⟩
abbrev main_v2_11 : Ref sig .tc := ⟨.hbm, 25, rfl⟩
abbrev main_v2_12 : Ref sig .tc := ⟨.hbm, 26, rfl⟩
abbrev main_v2_13 : Ref sig .tc := ⟨.hbm, 27, rfl⟩
abbrev main_v2_14 : Ref sig .tc := ⟨.hbm, 28, rfl⟩
abbrev main_v2_15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_scratch6 : Ref sig .tc := ⟨.vmem, 50, rfl⟩
abbrev cc0_scratch7 : Ref sig .tc := ⟨.vmem, 51, rfl⟩
abbrev cc0_scratch8 : Ref sig .tc := ⟨.vmem, 52, rfl⟩
abbrev cc0_scratch9 : Ref sig .tc := ⟨.vmem, 53, rfl⟩
abbrev cc0_scratch10 : Ref sig .tc := ⟨.vmem, 54, rfl⟩
abbrev cc0_scratch11 : Ref sig .tc := ⟨.vmem, 55, rfl⟩
abbrev cc0_scratch12 : Ref sig .tc := ⟨.vmem, 56, rfl⟩
abbrev cc0_stg2_0 : Ref sig .tc := ⟨.smem, 0, rfl⟩
abbrev cc0_stg7_0 : Ref sig .tc := ⟨.smem, 1, rfl⟩
abbrev cc0_stg24_0 : Ref sig .tc := ⟨.smem, 2, rfl⟩
abbrev cc0_stg25_0 : Ref sig .tc := ⟨.smem, 3, rfl⟩
abbrev cc0_stg26_0 : Ref sig .tc := ⟨.smem, 4, rfl⟩
abbrev cc0_stg27_0 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem25_0 : DmaSem sig := 47
abbrev cc0_sem26_0 : DmaSem sig := 48
abbrev cc0_sem27_0 : DmaSem sig := 49

abbrev nD : Nat := 1
abbrev τ : Topo := Topo.v7x

variable {F : FTy → Type} [BitOps F]

abbrev grid0 : Pipeline.Grid := ⟨1, ![66], ![false]⟩

@[reducible] def k0_t1_loop : Scf.Loop 32 :=
  let c0_i32_76 : BitVec 32 := 0#32
  let c28_i32 : BitVec 32 := 28#32
  let v158 : BitVec 32 := Scalar.addi c0_i32_76 c28_i32
  let c1_i32 : BitVec 32 := 1#32
  ⟨c0_i32_76, v158, c1_i32⟩
def k0_off1 (k0_t1 : Fin k0_t1_loop.trips) : Fin 3 → Nat :=
  let c0_328 : Index := 0#32
  let c0_329 : Index := 0#32
  let c0_i32_76 : BitVec 32 := 0#32
  let c1_i32 : BitVec 32 := 1#32
  let arg42 : BitVec 32 := Scf.iv c0_i32_76 c1_i32 k0_t1
  let c128_i32 : BitVec 32 := 128#32
  let v645 : BitVec 32 := Scalar.muli arg42 c128_i32
  let v646 : Index := Scalar.indexCast v645
  ![0, 0, v646.toNat]
def k0_off2 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v671 : Index := Scalar.indexCast v644
  let c0_335 : Index := 0#32
  let c0_336 : Index := 0#32
  ![v671.toNat, 0, 0]
def k0_off3 (k0_t1 : Fin k0_t1_loop.trips) : Fin 3 → Nat :=
  let c1_338 : Index := 1#32
  let c0_339 : Index := 0#32
  let c0_i32_76 : BitVec 32 := 0#32
  let c1_i32 : BitVec 32 := 1#32
  let arg42 : BitVec 32 := Scf.iv c0_i32_76 c1_i32 k0_t1
  let c128_i32_337 : BitVec 32 := 128#32
  let v675 : BitVec 32 := Scalar.muli arg42 c128_i32_337
  let v676 : Index := Scalar.indexCast v675
  ![1, 0, v676.toNat]
def k0_off4 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v701 : Index := Scalar.indexCast v644
  let c128_350 : Index := 128#32
  let c0_351 : Index := 0#32
  ![v701.toNat, 128, 0]
def k0_off5 (k0_t1 : Fin k0_t1_loop.trips) : Fin 3 → Nat :=
  let c2_353 : Index := 2#32
  let c0_354 : Index := 0#32
  let c0_i32_76 : BitVec 32 := 0#32
  let c1_i32 : BitVec 32 := 1#32
  let arg42 : BitVec 32 := Scf.iv c0_i32_76 c1_i32 k0_t1
  let c128_i32_352 : BitVec 32 := 128#32
  let v705 : BitVec 32 := Scalar.muli arg42 c128_i32_352
  let v706 : Index := Scalar.indexCast v705
  ![2, 0, v706.toNat]
def k0_off6 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v731 : Index := Scalar.indexCast v644
  let c256_365 : Index := 256#32
  let c0_366 : Index := 0#32
  ![v731.toNat, 256, 0]
def k0_off7 (k0_t1 : Fin k0_t1_loop.trips) : Fin 3 → Nat :=
  let c3_368 : Index := 3#32
  let c0_369 : Index := 0#32
  let c0_i32_76 : BitVec 32 := 0#32
  let c1_i32 : BitVec 32 := 1#32
  let arg42 : BitVec 32 := Scf.iv c0_i32_76 c1_i32 k0_t1
  let c128_i32_367 : BitVec 32 := 128#32
  let v735 : BitVec 32 := Scalar.muli arg42 c128_i32_367
  let v736 : Index := Scalar.indexCast v735
  ![3, 0, v736.toNat]
def k0_off8 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v761 : Index := Scalar.indexCast v644
  let c384_380 : Index := 384#32
  let c0_381 : Index := 0#32
  ![v761.toNat, 384, 0]
def k0_off9 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let v766 : Index := Scalar.indexCast arg42
  let c0_384 : Index := 0#32
  let c0_385 : Index := 0#32
  ![v766.toNat, 0, 0]
def k0_off10 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v770 : Index := Scalar.indexCast v644
  let c0_387 : Index := 0#32
  let c0_388 : Index := 0#32
  ![v770.toNat, 0, 0]
def k0_off11 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v778 : Index := Scalar.indexCast v644
  let c0_393 : Index := 0#32
  let c0_394 : Index := 0#32
  ![v778.toNat, 0, 0]
def k0_off12 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v781 : Index := Scalar.indexCast v644
  let c0_395 : Index := 0#32
  let c0_396 : Index := 0#32
  ![v781.toNat, 0, 0]
def k0_off13 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v785 : Index := Scalar.indexCast v644
  let c128_397 : Index := 128#32
  let c0_398 : Index := 0#32
  ![v785.toNat, 128, 0]
def k0_off14 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v788 : Index := Scalar.indexCast v644
  let c128_399 : Index := 128#32
  let c0_400 : Index := 0#32
  ![v788.toNat, 128, 0]
def k0_off15 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v793 : Index := Scalar.indexCast v644
  let c256_401 : Index := 256#32
  let c0_402 : Index := 0#32
  ![v793.toNat, 256, 0]
def k0_off16 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v796 : Index := Scalar.indexCast v644
  let c256_403 : Index := 256#32
  let c0_404 : Index := 0#32
  ![v796.toNat, 256, 0]
def k0_off17 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v801 : Index := Scalar.indexCast v644
  let c384_405 : Index := 384#32
  let c0_406 : Index := 0#32
  ![v801.toNat, 384, 0]
def k0_off18 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v804 : Index := Scalar.indexCast v644
  let c384_407 : Index := 384#32
  let c0_408 : Index := 0#32
  ![v804.toNat, 384, 0]
def k0_off19 (k0_t1 : Fin k0_t1_loop.trips) (c0_i32_390 : BitVec 32) : Fin 2 → Nat :=
  let c0_409 : Index := 0#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let c128_i32_391 : BitVec 32 := 128#32
  let v776 : BitVec 32 := Scalar.muli v775 c128_i32_391
  let v809 : Index := Scalar.indexCast v776
  ![0, v809.toNat]
def k0_off20 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v813 : Index := Scalar.indexCast v644
  let c512_410 : Index := 512#32
  let c0_411 : Index := 0#32
  ![v813.toNat, 512, 0]
def k0_off21 (k0_t1 : Fin k0_t1_loop.trips) (c0_i32_390 : BitVec 32) : Fin 2 → Nat :=
  let c0_422 : Index := 0#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let v856 : Index := Scalar.indexCast v775
  ![0, v856.toNat]
def k0_off22 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v860 : Index := Scalar.indexCast v644
  let c32_423 : Index := 32#32
  let c0_424 : Index := 0#32
  ![v860.toNat, 32, 0]
def k0_off23 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v863 : Index := Scalar.indexCast v644
  let c32_425 : Index := 32#32
  let c0_426 : Index := 0#32
  ![v863.toNat, 32, 0]
def k0_off24 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v867 : Index := Scalar.indexCast v644
  let c160 : Index := 160#32
  let c0_427 : Index := 0#32
  ![v867.toNat, 160, 0]
def k0_off25 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v870 : Index := Scalar.indexCast v644
  let c160_428 : Index := 160#32
  let c0_429 : Index := 0#32
  ![v870.toNat, 160, 0]
def k0_off26 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v875 : Index := Scalar.indexCast v644
  let c288 : Index := 288#32
  let c0_430 : Index := 0#32
  ![v875.toNat, 288, 0]
def k0_off27 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v878 : Index := Scalar.indexCast v644
  let c288_431 : Index := 288#32
  let c0_432 : Index := 0#32
  ![v878.toNat, 288, 0]
def k0_off28 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v883 : Index := Scalar.indexCast v644
  let c416 : Index := 416#32
  let c0_433 : Index := 0#32
  ![v883.toNat, 416, 0]
def k0_off29 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v886 : Index := Scalar.indexCast v644
  let c416_434 : Index := 416#32
  let c0_435 : Index := 0#32
  ![v886.toNat, 416, 0]
def k0_off30 (k0_t1 : Fin k0_t1_loop.trips) (c0_i32_390 : BitVec 32) : Fin 2 → Nat :=
  let c32_436 : Index := 32#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let c128_i32_391 : BitVec 32 := 128#32
  let v776 : BitVec 32 := Scalar.muli v775 c128_i32_391
  let v891 : Index := Scalar.indexCast v776
  ![32, v891.toNat]
def k0_off31 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v895 : Index := Scalar.indexCast v644
  let c544 : Index := 544#32
  let c0_437 : Index := 0#32
  ![v895.toNat, 544, 0]
def k0_off32 (k0_t1 : Fin k0_t1_loop.trips) (c0_i32_390 : BitVec 32) : Fin 2 → Nat :=
  let c32_448 : Index := 32#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let v938 : Index := Scalar.indexCast v775
  ![32, v938.toNat]
def k0_off33 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v942 : Index := Scalar.indexCast v644
  let c64_449 : Index := 64#32
  let c0_450 : Index := 0#32
  ![v942.toNat, 64, 0]
def k0_off34 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v945 : Index := Scalar.indexCast v644
  let c64_451 : Index := 64#32
  let c0_452 : Index := 0#32
  ![v945.toNat, 64, 0]
def k0_off35 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v949 : Index := Scalar.indexCast v644
  let c192 : Index := 192#32
  let c0_453 : Index := 0#32
  ![v949.toNat, 192, 0]
def k0_off36 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v952 : Index := Scalar.indexCast v644
  let c192_454 : Index := 192#32
  let c0_455 : Index := 0#32
  ![v952.toNat, 192, 0]
def k0_off37 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v957 : Index := Scalar.indexCast v644
  let c320 : Index := 320#32
  let c0_456 : Index := 0#32
  ![v957.toNat, 320, 0]
def k0_off38 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v960 : Index := Scalar.indexCast v644
  let c320_457 : Index := 320#32
  let c0_458 : Index := 0#32
  ![v960.toNat, 320, 0]
def k0_off39 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v965 : Index := Scalar.indexCast v644
  let c448 : Index := 448#32
  let c0_459 : Index := 0#32
  ![v965.toNat, 448, 0]
def k0_off40 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v968 : Index := Scalar.indexCast v644
  let c448_460 : Index := 448#32
  let c0_461 : Index := 0#32
  ![v968.toNat, 448, 0]
def k0_off41 (k0_t1 : Fin k0_t1_loop.trips) (c0_i32_390 : BitVec 32) : Fin 2 → Nat :=
  let c64_462 : Index := 64#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let c128_i32_391 : BitVec 32 := 128#32
  let v776 : BitVec 32 := Scalar.muli v775 c128_i32_391
  let v973 : Index := Scalar.indexCast v776
  ![64, v973.toNat]
def k0_off42 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v977 : Index := Scalar.indexCast v644
  let c576 : Index := 576#32
  let c0_463 : Index := 0#32
  ![v977.toNat, 576, 0]
def k0_off43 (k0_t1 : Fin k0_t1_loop.trips) (c0_i32_390 : BitVec 32) : Fin 2 → Nat :=
  let c64_474 : Index := 64#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let v1020 : Index := Scalar.indexCast v775
  ![64, v1020.toNat]
def k0_off44 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1024 : Index := Scalar.indexCast v644
  let c96_475 : Index := 96#32
  let c0_476 : Index := 0#32
  ![v1024.toNat, 96, 0]
def k0_off45 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1027 : Index := Scalar.indexCast v644
  let c96_477 : Index := 96#32
  let c0_478 : Index := 0#32
  ![v1027.toNat, 96, 0]
def k0_off46 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1031 : Index := Scalar.indexCast v644
  let c224 : Index := 224#32
  let c0_479 : Index := 0#32
  ![v1031.toNat, 224, 0]
def k0_off47 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1034 : Index := Scalar.indexCast v644
  let c224_480 : Index := 224#32
  let c0_481 : Index := 0#32
  ![v1034.toNat, 224, 0]
def k0_off48 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1039 : Index := Scalar.indexCast v644
  let c352 : Index := 352#32
  let c0_482 : Index := 0#32
  ![v1039.toNat, 352, 0]
def k0_off49 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1042 : Index := Scalar.indexCast v644
  let c352_483 : Index := 352#32
  let c0_484 : Index := 0#32
  ![v1042.toNat, 352, 0]
def k0_off50 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1047 : Index := Scalar.indexCast v644
  let c480 : Index := 480#32
  let c0_485 : Index := 0#32
  ![v1047.toNat, 480, 0]
def k0_off51 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1050 : Index := Scalar.indexCast v644
  let c480_486 : Index := 480#32
  let c0_487 : Index := 0#32
  ![v1050.toNat, 480, 0]
def k0_off52 (k0_t1 : Fin k0_t1_loop.trips) (c0_i32_390 : BitVec 32) : Fin 2 → Nat :=
  let c96_488 : Index := 96#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let c128_i32_391 : BitVec 32 := 128#32
  let v776 : BitVec 32 := Scalar.muli v775 c128_i32_391
  let v1055 : Index := Scalar.indexCast v776
  ![96, v1055.toNat]
def k0_off53 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1059 : Index := Scalar.indexCast v644
  let c608 : Index := 608#32
  let c0_489 : Index := 0#32
  ![v1059.toNat, 608, 0]
def k0_off54 (k0_t1 : Fin k0_t1_loop.trips) (c0_i32_390 : BitVec 32) : Fin 2 → Nat :=
  let c96_500 : Index := 96#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let v1102 : Index := Scalar.indexCast v775
  ![96, v1102.toNat]
def k0_off55 (k0_t1 : Fin k0_t1_loop.trips) (c0_i32_390 : BitVec 32) : Fin 3 → Nat :=
  let c0_515 : Index := 0#32
  let c0_516 : Index := 0#32
  let c2_i32_389 : BitVec 32 := 2#32
  let c0_i32_76 : BitVec 32 := 0#32
  let c1_i32 : BitVec 32 := 1#32
  let arg42 : BitVec 32 := Scf.iv c0_i32_76 c1_i32 k0_t1
  let v774 : BitVec 32 := Scalar.muli c2_i32_389 arg42
  let v775 : BitVec 32 := Scalar.addi v774 c0_i32_390
  let v1148 : Index := Scalar.indexCast v775
  ![0, 0, v1148.toNat]
def k0_off56 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1202 : Index := Scalar.indexCast v644
  let c0_537 : Index := 0#32
  let c128_538 : Index := 128#32
  ![v1202.toNat, 0, 128]
def k0_off57 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1205 : Index := Scalar.indexCast v644
  let c0_539 : Index := 0#32
  let c128_540 : Index := 128#32
  ![v1205.toNat, 0, 128]
def k0_off58 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1209 : Index := Scalar.indexCast v644
  let c128_541 : Index := 128#32
  let c128_542 : Index := 128#32
  ![v1209.toNat, 128, 128]
def k0_off59 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1212 : Index := Scalar.indexCast v644
  let c128_543 : Index := 128#32
  let c128_544 : Index := 128#32
  ![v1212.toNat, 128, 128]
def k0_off60 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1217 : Index := Scalar.indexCast v644
  let c256_545 : Index := 256#32
  let c128_546 : Index := 128#32
  ![v1217.toNat, 256, 128]
def k0_off61 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1220 : Index := Scalar.indexCast v644
  let c256_547 : Index := 256#32
  let c128_548 : Index := 128#32
  ![v1220.toNat, 256, 128]
def k0_off62 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1225 : Index := Scalar.indexCast v644
  let c384_549 : Index := 384#32
  let c128_550 : Index := 128#32
  ![v1225.toNat, 384, 128]
def k0_off63 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1228 : Index := Scalar.indexCast v644
  let c384_551 : Index := 384#32
  let c128_552 : Index := 128#32
  ![v1228.toNat, 384, 128]
def k0_off64 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1237 : Index := Scalar.indexCast v644
  let c512_554 : Index := 512#32
  let c128_555 : Index := 128#32
  ![v1237.toNat, 512, 128]
def k0_off65 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1284 : Index := Scalar.indexCast v644
  let c32_567 : Index := 32#32
  let c128_568 : Index := 128#32
  ![v1284.toNat, 32, 128]
def k0_off66 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1287 : Index := Scalar.indexCast v644
  let c32_569 : Index := 32#32
  let c128_570 : Index := 128#32
  ![v1287.toNat, 32, 128]
def k0_off67 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1291 : Index := Scalar.indexCast v644
  let c160_571 : Index := 160#32
  let c128_572 : Index := 128#32
  ![v1291.toNat, 160, 128]
def k0_off68 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1294 : Index := Scalar.indexCast v644
  let c160_573 : Index := 160#32
  let c128_574 : Index := 128#32
  ![v1294.toNat, 160, 128]
def k0_off69 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1299 : Index := Scalar.indexCast v644
  let c288_575 : Index := 288#32
  let c128_576 : Index := 128#32
  ![v1299.toNat, 288, 128]
def k0_off70 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1302 : Index := Scalar.indexCast v644
  let c288_577 : Index := 288#32
  let c128_578 : Index := 128#32
  ![v1302.toNat, 288, 128]
def k0_off71 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1307 : Index := Scalar.indexCast v644
  let c416_579 : Index := 416#32
  let c128_580 : Index := 128#32
  ![v1307.toNat, 416, 128]
def k0_off72 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1310 : Index := Scalar.indexCast v644
  let c416_581 : Index := 416#32
  let c128_582 : Index := 128#32
  ![v1310.toNat, 416, 128]
def k0_off73 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1319 : Index := Scalar.indexCast v644
  let c544_584 : Index := 544#32
  let c128_585 : Index := 128#32
  ![v1319.toNat, 544, 128]
def k0_off74 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1366 : Index := Scalar.indexCast v644
  let c64_597 : Index := 64#32
  let c128_598 : Index := 128#32
  ![v1366.toNat, 64, 128]
def k0_off75 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1369 : Index := Scalar.indexCast v644
  let c64_599 : Index := 64#32
  let c128_600 : Index := 128#32
  ![v1369.toNat, 64, 128]
def k0_off76 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1373 : Index := Scalar.indexCast v644
  let c192_601 : Index := 192#32
  let c128_602 : Index := 128#32
  ![v1373.toNat, 192, 128]
def k0_off77 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1376 : Index := Scalar.indexCast v644
  let c192_603 : Index := 192#32
  let c128_604 : Index := 128#32
  ![v1376.toNat, 192, 128]
def k0_off78 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1381 : Index := Scalar.indexCast v644
  let c320_605 : Index := 320#32
  let c128_606 : Index := 128#32
  ![v1381.toNat, 320, 128]
def k0_off79 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1384 : Index := Scalar.indexCast v644
  let c320_607 : Index := 320#32
  let c128_608 : Index := 128#32
  ![v1384.toNat, 320, 128]
def k0_off80 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1389 : Index := Scalar.indexCast v644
  let c448_609 : Index := 448#32
  let c128_610 : Index := 128#32
  ![v1389.toNat, 448, 128]
def k0_off81 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1392 : Index := Scalar.indexCast v644
  let c448_611 : Index := 448#32
  let c128_612 : Index := 128#32
  ![v1392.toNat, 448, 128]
def k0_off82 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1401 : Index := Scalar.indexCast v644
  let c576_614 : Index := 576#32
  let c128_615 : Index := 128#32
  ![v1401.toNat, 576, 128]
def k0_off83 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1448 : Index := Scalar.indexCast v644
  let c96_627 : Index := 96#32
  let c128_628 : Index := 128#32
  ![v1448.toNat, 96, 128]
def k0_off84 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1451 : Index := Scalar.indexCast v644
  let c96_629 : Index := 96#32
  let c128_630 : Index := 128#32
  ![v1451.toNat, 96, 128]
def k0_off85 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1455 : Index := Scalar.indexCast v644
  let c224_631 : Index := 224#32
  let c128_632 : Index := 128#32
  ![v1455.toNat, 224, 128]
def k0_off86 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1458 : Index := Scalar.indexCast v644
  let c224_633 : Index := 224#32
  let c128_634 : Index := 128#32
  ![v1458.toNat, 224, 128]
def k0_off87 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1463 : Index := Scalar.indexCast v644
  let c352_635 : Index := 352#32
  let c128_636 : Index := 128#32
  ![v1463.toNat, 352, 128]
def k0_off88 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1466 : Index := Scalar.indexCast v644
  let c352_637 : Index := 352#32
  let c128_638 : Index := 128#32
  ![v1466.toNat, 352, 128]
def k0_off89 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1471 : Index := Scalar.indexCast v644
  let c480_639 : Index := 480#32
  let c128_640 : Index := 128#32
  ![v1471.toNat, 480, 128]
def k0_off90 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1474 : Index := Scalar.indexCast v644
  let c480_641 : Index := 480#32
  let c128_642 : Index := 128#32
  ![v1474.toNat, 480, 128]
def k0_off91 (k0_t1 : Fin k0_t1_loop.trips) : Fin 3 → Nat :=
  let c0_i32_76 : BitVec 32 := 0#32
  let c1_i32 : BitVec 32 := 1#32
  let arg42 : BitVec 32 := Scf.iv c0_i32_76 c1_i32 k0_t1
  let c2_i32_327 : BitVec 32 := 2#32
  let v644 : BitVec 32 := Scalar.remsi arg42 c2_i32_327
  let v1483 : Index := Scalar.indexCast v644
  let c608_644 : Index := 608#32
  let c128_645 : Index := 128#32
  ![v1483.toNat, 608, 128]
@[reducible] def k0_t2_loop : Scf.Loop 32 :=
  let c0_i32_88 : BitVec 32 := 0#32
  let c56_i32 : BitVec 32 := 56#32
  let v174 : BitVec 32 := Scalar.addi c0_i32_88 c56_i32
  let c1_i32_89 : BitVec 32 := 1#32
  ⟨c0_i32_88, v174, c1_i32_89⟩
def k0_off92 (k0_t2 : Fin k0_t2_loop.trips) : Fin 2 → Nat :=
  let c0_327 : Index := 0#32
  let c0_i32_88 : BitVec 32 := 0#32
  let c1_i32_89 : BitVec 32 := 1#32
  let arg42 : BitVec 32 := Scf.iv c0_i32_88 c1_i32_89 k0_t2
  let c128_i32 : BitVec 32 := 128#32
  let v644 : BitVec 32 := Scalar.muli arg42 c128_i32
  let v645 : Index := Scalar.indexCast v644
  ![0, v645.toNat]
def k0_off93 (k0_t2 : Fin k0_t2_loop.trips) : Fin 2 → Nat :=
  let c0_328 : Index := 0#32
  let c0_i32_88 : BitVec 32 := 0#32
  let c1_i32_89 : BitVec 32 := 1#32
  let arg42 : BitVec 32 := Scf.iv c0_i32_88 c1_i32_89 k0_t2
  let v647 : Index := Scalar.indexCast arg42
  ![0, v647.toNat]
def k0_off94 (k0_t2 : Fin k0_t2_loop.trips) : Fin 2 → Nat :=
  let c32_332 : Index := 32#32
  let c0_i32_88 : BitVec 32 := 0#32
  let c1_i32_89 : BitVec 32 := 1#32
  let arg42 : BitVec 32 := Scf.iv c0_i32_88 c1_i32_89 k0_t2
  let c128_i32 : BitVec 32 := 128#32
  let v644 : BitVec 32 := Scalar.muli arg42 c128_i32
  let v659 : Index := Scalar.indexCast v644
  ![32, v659.toNat]
def k0_off95 (k0_t2 : Fin k0_t2_loop.trips) : Fin 2 → Nat :=
  let c32_333 : Index := 32#32
  let c0_i32_88 : BitVec 32 := 0#32
  let c1_i32_89 : BitVec 32 := 1#32
  let arg42 : BitVec 32 := Scf.iv c0_i32_88 c1_i32_89 k0_t2
  let v661 : Index := Scalar.indexCast arg42
  ![32, v661.toNat]
def k0_off96 (k0_t2 : Fin k0_t2_loop.trips) : Fin 2 → Nat :=
  let c64_337 : Index := 64#32
  let c0_i32_88 : BitVec 32 := 0#32
  let c1_i32_89 : BitVec 32 := 1#32
  let arg42 : BitVec 32 := Scf.iv c0_i32_88 c1_i32_89 k0_t2
  let c128_i32 : BitVec 32 := 128#32
  let v644 : BitVec 32 := Scalar.muli arg42 c128_i32
  let v673 : Index := Scalar.indexCast v644
  ![64, v673.toNat]
def k0_off97 (k0_t2 : Fin k0_t2_loop.trips) : Fin 2 → Nat :=
  let c64_338 : Index := 64#32
  let c0_i32_88 : BitVec 32 := 0#32
  let c1_i32_89 : BitVec 32 := 1#32
  let arg42 : BitVec 32 := Scf.iv c0_i32_88 c1_i32_89 k0_t2
  let v675 : Index := Scalar.indexCast arg42
  ![64, v675.toNat]
def k0_off98 (k0_t2 : Fin k0_t2_loop.trips) : Fin 2 → Nat :=
  let c96_342 : Index := 96#32
  let c0_i32_88 : BitVec 32 := 0#32
  let c1_i32_89 : BitVec 32 := 1#32
  let arg42 : BitVec 32 := Scf.iv c0_i32_88 c1_i32_89 k0_t2
  let c128_i32 : BitVec 32 := 128#32
  let v644 : BitVec 32 := Scalar.muli arg42 c128_i32
  let v687 : Index := Scalar.indexCast v644
  ![96, v687.toNat]
def k0_off99 (k0_t2 : Fin k0_t2_loop.trips) : Fin 2 → Nat :=
  let c96_343 : Index := 96#32
  let c0_i32_88 : BitVec 32 := 0#32
  let c1_i32_89 : BitVec 32 := 1#32
  let arg42 : BitVec 32 := Scf.iv c0_i32_88 c1_i32_89 k0_t2
  let v689 : Index := Scalar.indexCast arg42
  ![96, v689.toNat]
@[reducible] def k0_t3_loop : Scf.Loop 32 :=
  let c0_i32_95 : BitVec 32 := 0#32
  let c55_i32 : BitVec 32 := 55#32
  let v179 : BitVec 32 := Scalar.addi c0_i32_95 c55_i32
  let c1_i32_96 : BitVec 32 := 1#32
  ⟨c0_i32_95, v179, c1_i32_96⟩
def k0_off100 (k0_t3 : Fin k0_t3_loop.trips) : Fin 2 → Nat :=
  let c0_327 : Index := 0#32
  let c0_i32_95 : BitVec 32 := 0#32
  let c1_i32_96 : BitVec 32 := 1#32
  let arg42 : BitVec 32 := Scf.iv c0_i32_95 c1_i32_96 k0_t3
  let c128_i32 : BitVec 32 := 128#32
  let v644 : BitVec 32 := Scalar.muli arg42 c128_i32
  let v645 : Index := Scalar.indexCast v644
  ![0, v645.toNat]
def k0_off101 (k0_t3 : Fin k0_t3_loop.trips) : Fin 2 → Nat :=
  let c0_331 : Index := 0#32
  let c0_i32_95 : BitVec 32 := 0#32
  let c1_i32_96 : BitVec 32 := 1#32
  let arg42 : BitVec 32 := Scf.iv c0_i32_95 c1_i32_96 k0_t3
  let v660 : Index := Scalar.indexCast arg42
  ![0, v660.toNat]
def k0_off102 (k0_t3 : Fin k0_t3_loop.trips) : Fin 2 → Nat :=
  let c32_332 : Index := 32#32
  let c0_i32_95 : BitVec 32 := 0#32
  let c1_i32_96 : BitVec 32 := 1#32
  let arg42 : BitVec 32 := Scf.iv c0_i32_95 c1_i32_96 k0_t3
  let c128_i32 : BitVec 32 := 128#32
  let v644 : BitVec 32 := Scalar.muli arg42 c128_i32
  let v664 : Index := Scalar.indexCast v644
  ![32, v664.toNat]
def k0_off103 (k0_t3 : Fin k0_t3_loop.trips) : Fin 2 → Nat :=
  let c32_336 : Index := 32#32
  let c0_i32_95 : BitVec 32 := 0#32
  let c1_i32_96 : BitVec 32 := 1#32
  let arg42 : BitVec 32 := Scf.iv c0_i32_95 c1_i32_96 k0_t3
  let v679 : Index := Scalar.indexCast arg42
  ![32, v679.toNat]
def k0_off104 (k0_t3 : Fin k0_t3_loop.trips) : Fin 2 → Nat :=
  let c64_337 : Index := 64#32
  let c0_i32_95 : BitVec 32 := 0#32
  let c1_i32_96 : BitVec 32 := 1#32
  let arg42 : BitVec 32 := Scf.iv c0_i32_95 c1_i32_96 k0_t3
  let c128_i32 : BitVec 32 := 128#32
  let v644 : BitVec 32 := Scalar.muli arg42 c128_i32
  let v683 : Index := Scalar.indexCast v644
  ![64, v683.toNat]
def k0_off105 (k0_t3 : Fin k0_t3_loop.trips) : Fin 2 → Nat :=
  let c64_341 : Index := 64#32
  let c0_i32_95 : BitVec 32 := 0#32
  let c1_i32_96 : BitVec 32 := 1#32
  let arg42 : BitVec 32 := Scf.iv c0_i32_95 c1_i32_96 k0_t3
  let v698 : Index := Scalar.indexCast arg42
  ![64, v698.toNat]
def k0_off106 (k0_t3 : Fin k0_t3_loop.trips) : Fin 2 → Nat :=
  let c96_342 : Index := 96#32
  let c0_i32_95 : BitVec 32 := 0#32
  let c1_i32_96 : BitVec 32 := 1#32
  let arg42 : BitVec 32 := Scf.iv c0_i32_95 c1_i32_96 k0_t3
  let c128_i32 : BitVec 32 := 128#32
  let v644 : BitVec 32 := Scalar.muli arg42 c128_i32
  let v702 : Index := Scalar.indexCast v644
  ![96, v702.toNat]
def k0_off107 (k0_t3 : Fin k0_t3_loop.trips) : Fin 2 → Nat :=
  let c96_346 : Index := 96#32
  let c0_i32_95 : BitVec 32 := 0#32
  let c1_i32_96 : BitVec 32 := 1#32
  let arg42 : BitVec 32 := Scf.iv c0_i32_95 c1_i32_96 k0_t3
  let v717 : Index := Scalar.indexCast arg42
  ![96, v717.toNat]
@[reducible] def k0_t4_loop : Scf.Loop 32 :=
  let c0_i32_107 : BitVec 32 := 0#32
  let c27_i32 : BitVec 32 := 27#32
  let v193 : BitVec 32 := Scalar.addi c0_i32_107 c27_i32
  let c1_i32_108 : BitVec 32 := 1#32
  ⟨c0_i32_107, v193, c1_i32_108⟩
def k0_off108 (k0_t4 : Fin k0_t4_loop.trips) (c0_i32_328 : BitVec 32) : Fin 2 → Nat :=
  let c0_329 : Index := 0#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let c128_i32 : BitVec 32 := 128#32
  let v646 : BitVec 32 := Scalar.muli v645 c128_i32
  let v647 : Index := Scalar.indexCast v646
  ![0, v647.toNat]
def k0_off109 (k0_t4 : Fin k0_t4_loop.trips) (c0_i32_328 : BitVec 32) : Fin 2 → Nat :=
  let c0_330 : Index := 0#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let v649 : Index := Scalar.indexCast v645
  ![0, v649.toNat]
def k0_off110 (k0_t4 : Fin k0_t4_loop.trips) (c0_i32_328 : BitVec 32) : Fin 2 → Nat :=
  let c32_357 : Index := 32#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let c128_i32 : BitVec 32 := 128#32
  let v646 : BitVec 32 := Scalar.muli v645 c128_i32
  let v707 : Index := Scalar.indexCast v646
  ![32, v707.toNat]
def k0_off111 (k0_t4 : Fin k0_t4_loop.trips) (c0_i32_328 : BitVec 32) : Fin 2 → Nat :=
  let c32_358 : Index := 32#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let v709 : Index := Scalar.indexCast v645
  ![32, v709.toNat]
def k0_off112 (k0_t4 : Fin k0_t4_loop.trips) (c0_i32_328 : BitVec 32) : Fin 2 → Nat :=
  let c64_385 : Index := 64#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let c128_i32 : BitVec 32 := 128#32
  let v646 : BitVec 32 := Scalar.muli v645 c128_i32
  let v767 : Index := Scalar.indexCast v646
  ![64, v767.toNat]
def k0_off113 (k0_t4 : Fin k0_t4_loop.trips) (c0_i32_328 : BitVec 32) : Fin 2 → Nat :=
  let c64_386 : Index := 64#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let v769 : Index := Scalar.indexCast v645
  ![64, v769.toNat]
def k0_off114 (k0_t4 : Fin k0_t4_loop.trips) (c0_i32_328 : BitVec 32) : Fin 2 → Nat :=
  let c96_413 : Index := 96#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let c128_i32 : BitVec 32 := 128#32
  let v646 : BitVec 32 := Scalar.muli v645 c128_i32
  let v827 : Index := Scalar.indexCast v646
  ![96, v827.toNat]
def k0_off115 (k0_t4 : Fin k0_t4_loop.trips) (c0_i32_328 : BitVec 32) : Fin 2 → Nat :=
  let c96_414 : Index := 96#32
  let c2_i32_327 : BitVec 32 := 2#32
  let c0_i32_107 : BitVec 32 := 0#32
  let c1_i32_108 : BitVec 32 := 1#32
  let arg42 : BitVec 32 := Scf.iv c0_i32_107 c1_i32_108 k0_t4
  let v644 : BitVec 32 := Scalar.muli c2_i32_327 arg42
  let v645 : BitVec 32 := Scalar.addi v644 c0_i32_328
  let v829 : Index := Scalar.indexCast v645
  ![96, v829.toNat]
def k0_off116 (k0_t4 : Fin k0_t4_loop.trips) : Fin 2 → Nat :=
  let c0_561 : Index := 0#32
  let c0_i32_107 : BitVec 32 := 0#32
  let c1_i32_108 : BitVec 32 := 1#32
  let arg42 : BitVec 32 := Scf.iv c0_i32_107 c1_i32_108 k0_t4
  let c128_i32_560 : BitVec 32 := 128#32
  let v1139 : BitVec 32 := Scalar.muli arg42 c128_i32_560
  let v1140 : Index := Scalar.indexCast v1139
  ![0, v1140.toNat]
def k0_cond2 (i : grid0.Coords) : BitVec 1 :=
  let arg0 : BitVec 32 := BitVec.ofNat 32 (i 0).val
  let c65_i32 : BitVec 32 := 65#32
  let v641 : BitVec 1 := Scalar.cmpi .eq arg0 c65_i32
  let v642 : BitVec 32 := Scalar.extui v641
  let c0_i32_326 : BitVec 32 := 0#32
  let v643 : BitVec 1 := Scalar.cmpi .ne v642 c0_i32_326
  v643

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x128x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x7040 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x7040 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x7168 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x7168 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x7168 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x56 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x7168 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x56 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x3520 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x55 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .smem S11 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .smem S11 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .smem S11 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .smem S9 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== KernelIdeal.lean ====
variable {F : FTy → Type} [FloatOps F]
-- ==== ReferenceIdeal.lean ====
abbrev S4x8448x3584 : Shape := ⟨3, ![4, 8448, 3584]⟩
abbrev S4x8448x56 : Shape := ⟨3, ![4, 8448, 56]⟩
abbrev S4 : Shape := ⟨1, ![4]⟩
abbrev S8448x7168 : Shape := ⟨2, ![8448, 7168]⟩
abbrev S8448x56 : Shape := ⟨2, ![8448, 56]⟩
abbrev S1 : Shape := ⟨1, ![1]⟩
abbrev S8448 : Shape := ⟨1, ![8448]⟩
abbrev S8448x7040 : Shape := ⟨2, ![8448, 7040]⟩
abbrev S_ : Shape := ⟨0, ![]⟩
abbrev S1x8448x3584 : Shape := ⟨3, ![1, 8448, 3584]⟩
abbrev S8448x3584 : Shape := ⟨2, ![8448, 3584]⟩
abbrev S8448x3584x1 : Shape := ⟨3, ![8448, 3584, 1]⟩
abbrev S8448x3584x2 : Shape := ⟨3, ![8448, 3584, 2]⟩
abbrev S1x8448x56 : Shape := ⟨3, ![1, 8448, 56]⟩
abbrev S8448x56x128 : Shape := ⟨3, ![8448, 56, 128]⟩
abbrev S8448x56x1 : Shape := ⟨3, ![8448, 56, 1]⟩

abbrev nBuf : Space → Nat
  | .hbm => 230
  | .vmem => 0
  | .smem => 0
  | _ => 0

abbrev hbmTy0_0 (i : Nat) : BufTy := match i % 128 with
  | 0 => ⟨S4x8448x3584, .i8⟩
  | 1 => ⟨S4x8448x56, .f32⟩
  | 2 => ⟨S4, .f32⟩
  | 3 => ⟨S8448x7168, .f32⟩
  | 4 => ⟨S8448x7168, .bf16⟩
  | 5 => ⟨S8448x7168, .i8⟩
  | 6 => ⟨S8448x56, .f32⟩
  | 7 => ⟨S1, .f32⟩
  | 8 => ⟨S8448, .i32⟩
  | 9 => ⟨S8448x7040, .f32⟩
  | 10 => ⟨S8448x7040, .bf16⟩
  | 11 => ⟨S8448, .i32⟩
  | 12 => ⟨S1, .f32⟩
  | 13 => ⟨S_, .f32⟩
  | 14 => ⟨S1x8448x3584, .i8⟩
  | 15 => ⟨S8448x3584, .i8⟩
  | 16 => ⟨S8448x3584, .i32⟩
  | 17 => ⟨S_, .i32⟩
  | 18 => ⟨S8448x3584, .i32⟩
  | 19 => ⟨S8448x3584, .i32⟩
  | 20 => ⟨S_, .i32⟩
  | 21 => ⟨S8448x3584, .i32⟩
  | 22 => ⟨S8448x3584, .i32⟩
  | 23 => ⟨S8448x3584x1, .i32⟩
  | 24 => ⟨S8448x3584x1, .i32⟩
  | 25 => ⟨S8448x3584x2, .i32⟩
  | 26 => ⟨S8448x7168, .i32⟩
  | 27 => ⟨S_, .i32⟩
  | 28 => ⟨S8448x7168, .i32⟩
  | 29 => ⟨S8448x7168, .i32⟩
  | 30 => ⟨S_, .i32⟩
  | 31 => ⟨S8448x7168, .i32⟩
  | 32 => ⟨S8448x7168, .i32⟩
  | 33 => ⟨S_, .i32⟩
  | 34 => ⟨S8448x7168, .i32⟩
  | 35 => ⟨S8448x7168, .i32⟩
  | 36 => ⟨S_, .i32⟩
  | 37 => ⟨S8448x7168, .i32⟩
  | 38 => ⟨S8448x7168, .i32⟩
  | 39 => ⟨S_, .i32⟩
  | 40 => ⟨S8448x7168, .i32⟩
  | 41 => ⟨S8448x7168, .i32⟩
  | 42 => ⟨S8448x7168, .i32⟩
  | 43 => ⟨S_, .i32⟩
  | 44 => ⟨S8448x7168, .i32⟩
  | 45 => ⟨S8448x7168, .i1⟩
  | 46 => ⟨S_, .i32⟩
  | 47 => ⟨S8448x7168, .i32⟩
  | 48 => ⟨S8448x7168, .i32⟩
  | 49 => ⟨S8448x7168, .f32⟩
  | 50 => ⟨S1x8448x56, .f32⟩
  | 51 => ⟨S8448x56, .f32⟩
  | 52 => ⟨S8448x56x128, .f32⟩
  | 53 => ⟨S8448x56x1, .f32⟩
  | 54 => ⟨S8448x56x128, .f32⟩
  | 55 => ⟨S8448x56x128, .f32⟩
  | 56 => ⟨S8448x7168, .f32⟩
  | 57 => ⟨S8448x7168, .f32⟩
  | 58 => ⟨S8448x7168, .f32⟩
  | 59 => ⟨S1, .f32⟩
  | 60 => ⟨S_, .f32⟩
  | 61 => ⟨S1x8448x3584, .i8⟩
  | 62 => ⟨S8448x3584, .i8⟩
  | 63 => ⟨S8448x3584, .i32⟩
  | 64 => ⟨S_, .i32⟩
  | 65 => ⟨S8448x3584, .i32⟩
  | 66 => ⟨S8448x3584, .i32⟩
  | 67 => ⟨S_, .i32⟩
  | 68 => ⟨S8448x3584, .i32⟩
  | 69 => ⟨S8448x3584, .i32⟩
  | 70 => ⟨S8448x3584x1, .i32⟩
  | 71 => ⟨S8448x3584x1, .i32⟩
  | 72 => ⟨S8448x3584x2, .i32⟩
  | 73 => ⟨S8448x7168, .i32⟩
  | 74 => ⟨S_, .i32⟩
  | 75 => ⟨S8448x7168, .i32⟩
  | 76 => ⟨S8448x7168, .i32⟩
  | 77 => ⟨S_, .i32⟩
  | 78 => ⟨S8448x7168, .i32⟩
  | 79 => ⟨S8448x7168, .i32⟩
  | 80 => ⟨S_, .i32⟩
  | 81 => ⟨S8448x7168, .i32⟩
  | 82 => ⟨S8448x7168, .i32⟩
  | 83 => ⟨S_, .i32⟩
  | 84 => ⟨S8448x7168, .i32⟩
  | 85 => ⟨S8448x7168, .i32⟩
  | 86 => ⟨S_, .i32⟩
  | 87 => ⟨S8448x7168, .i32⟩
  | 88 => ⟨S8448x7168, .i32⟩
  | 89 => ⟨S8448x7168, .i32⟩
  | 90 => ⟨S_, .i32⟩
  | 91 => ⟨S8448x7168, .i32⟩
  | 92 => ⟨S8448x7168, .i1⟩
  | 93 => ⟨S_, .i32⟩
  | 94 => ⟨S8448x7168, .i32⟩
  | 95 => ⟨S8448x7168, .i32⟩
  | 96 => ⟨S8448x7168, .f32⟩
  | 97 => ⟨S1x8448x56, .f32⟩
  | 98 => ⟨S8448x56, .f32⟩
  | 99 => ⟨S8448x56x128, .f32⟩
  | 100 => ⟨S8448x56x1, .f32⟩
  | 101 => ⟨S8448x56x128, .f32⟩
  | 102 => ⟨S8448x56x128, .f32⟩
  | 103 => ⟨S8448x7168, .f32⟩
  | 104 => ⟨S8448x7168, .f32⟩
  | 105 => ⟨S8448x7168, .f32⟩
  | 106 => ⟨S8448x7168, .f32⟩
  | 107 => ⟨S1, .f32⟩
  | 108 => ⟨S_, .f32⟩
  | 109 => ⟨S1x8448x3584, .i8⟩
  | 110 => ⟨S8448x3584, .i8⟩
  | 111 => ⟨S8448x3584, .i32⟩
  | 112 => ⟨S_, .i32⟩
  | 113 => ⟨S8448x3584, .i32⟩
  | 114 => ⟨S8448x3584, .i32⟩
  | 115 => ⟨S_, .i32⟩
  | 116 => ⟨S8448x3584, .i32⟩
  | 117 => ⟨S8448x3584, .i32⟩
  | 118 => ⟨S8448x3584x1, .i32⟩
  | 119 => ⟨S8448x3584x1, .i32⟩
  | 120 => ⟨S8448x3584x2, .i32⟩
  | 121 => ⟨S8448x7168, .i32⟩
  | 122 => ⟨S_, .i32⟩
  | 123 => ⟨S8448x7168, .i32⟩
  | 124 => ⟨S8448x7168, .i32⟩
  | 125 => ⟨S_, .i32⟩
  | 126 => ⟨S8448x7168, .i32⟩
  | 127 => ⟨S8448x7168, .i32⟩
  | _ => ⟨S4x8448x3584, .i8⟩

abbrev hbmTy0_1 (i : Nat) : BufTy := match i % 128 with
  | 0 => ⟨S_, .i32⟩
  | 1 => ⟨S8448x7168, .i32⟩
  | 2 => ⟨S8448x7168, .i32⟩
  | 3 => ⟨S_, .i32⟩
  | 4 => ⟨S8448x7168, .i32⟩
  | 5 => ⟨S8448x7168, .i32⟩
  | 6 => ⟨S_, .i32⟩
  | 7 => ⟨S8448x7168, .i32⟩
  | 8 => ⟨S8448x7168, .i32⟩
  | 9 => ⟨S8448x7168, .i32⟩
  | 10 => ⟨S_, .i32⟩
  | 11 => ⟨S8448x7168, .i32⟩
  | 12 => ⟨S8448x7168, .i1⟩
  | 13 => ⟨S_, .i32⟩
  | 14 => ⟨S8448x7168, .i32⟩
  | 15 => ⟨S8448x7168, .i32⟩
  | 16 => ⟨S8448x7168, .f32⟩
  | 17 => ⟨S1x8448x56, .f32⟩
  | 18 => ⟨S8448x56, .f32⟩
  | 19 => ⟨S8448x56x128, .f32⟩
  | 20 => ⟨S8448x56x1, .f32⟩
  | 21 => ⟨S8448x56x128, .f32⟩
  | 22 => ⟨S8448x56x128, .f32⟩
  | 23 => ⟨S8448x7168, .f32⟩
  | 24 => ⟨S8448x7168, .f32⟩
  | 25 => ⟨S8448x7168, .f32⟩
  | 26 => ⟨S8448x7168, .f32⟩
  | 27 => ⟨S1, .f32⟩
  | 28 => ⟨S_, .f32⟩
  | 29 => ⟨S1x8448x3584, .i8⟩
  | 30 => ⟨S8448x3584, .i8⟩
  | 31 => ⟨S8448x3584, .i32⟩
  | 32 => ⟨S_, .i32⟩
  | 33 => ⟨S8448x3584, .i32⟩
  | 34 => ⟨S8448x3584, .i32⟩
  | 35 => ⟨S_, .i32⟩
  | 36 => ⟨S8448x3584, .i32⟩
  | 37 => ⟨S8448x3584, .i32⟩
  | 38 => ⟨S8448x3584x1, .i32⟩
  | 39 => ⟨S8448x3584x1, .i32⟩
  | 40 => ⟨S8448x3584x2, .i32⟩
  | 41 => ⟨S8448x7168, .i32⟩
  | 42 => ⟨S_, .i32⟩
  | 43 => ⟨S8448x7168, .i32⟩
  | 44 => ⟨S8448x7168, .i32⟩
  | 45 => ⟨S_, .i32⟩
  | 46 => ⟨S8448x7168, .i32⟩
  | 47 => ⟨S8448x7168, .i32⟩
  | 48 => ⟨S_, .i32⟩
  | 49 => ⟨S8448x7168, .i32⟩
  | 50 => ⟨S8448x7168, .i32⟩
  | 51 => ⟨S_, .i32⟩
  | 52 => ⟨S8448x7168, .i32⟩
  | 53 => ⟨S8448x7168, .i32⟩
  | 54 => ⟨S_, .i32⟩
  | 55 => ⟨S8448x7168, .i32⟩
  | 56 => ⟨S8448x7168, .i32⟩
  | 57 => ⟨S8448x7168, .i32⟩
  | 58 => ⟨S_, .i32⟩
  | 59 => ⟨S8448x7168, .i32⟩
  | 60 => ⟨S8448x7168, .i1⟩
  | 61 => ⟨S_, .i32⟩
  | 62 => ⟨S8448x7168, .i32⟩
  | 63 => ⟨S8448x7168, .i32⟩
  | 64 => ⟨S8448x7168, .f32⟩
  | 65 => ⟨S1x8448x56, .f32⟩
  | 66 => ⟨S8448x56, .f32⟩
  | 67 => ⟨S8448x56x128, .f32⟩
  | 68 => ⟨S8448x56x1, .f32⟩
  | 69 => ⟨S8448x56x128, .f32⟩
  | 70 => ⟨S8448x56x128, .f32⟩
  | 71 => ⟨S8448x7168, .f32⟩
  | 72 => ⟨S8448x7168, .f32⟩
  | 73 => ⟨S8448x7168, .f32⟩
  | 74 => ⟨S8448x7168, .f32⟩
  | 75 => ⟨S8448x7168, .i32⟩
  | 76 => ⟨S8448x7168, .f32⟩
  | 77 => ⟨S8448x56x128, .f32⟩
  | 78 => ⟨S8448x56x1, .f32⟩
  | 79 => ⟨S8448x56x128, .f32⟩
  | 80 => ⟨S8448x56x128, .f32⟩
  | 81 => ⟨S8448x7168, .f32⟩
  | 82 => ⟨S_, .f32⟩
  | 83 => ⟨S8448x7168, .f32⟩
  | 84 => ⟨S8448x7168, .f32⟩
  | 85 => ⟨S8448x7168, .f32⟩
  | 86 => ⟨S_, .f32⟩
  | 87 => ⟨S_, .f32⟩
  | 88 => ⟨S8448x7168, .f32⟩
  | 89 => ⟨S8448x7168, .f32⟩
  | 90 => ⟨S8448x7168, .f32⟩
  | 91 => ⟨S8448x7168, .f32⟩
  | 92 => ⟨S8448x7168, .f32⟩
  | 93 => ⟨S8448x7168, .f32⟩
  | 94 => ⟨S8448x7168, .f32⟩
  | 95 => ⟨S_, .f32⟩
  | 96 => ⟨S8448x7168, .f32⟩
  | 97 => ⟨S8448x7168, .f32⟩
  | 98 => ⟨S_, .f32⟩
  | 99 => ⟨S8448x7168, .f32⟩
  | 100 => ⟨S8448x7168, .f32⟩
  | 101 => ⟨S8448x7168, .f32⟩
  | _ => ⟨S4x8448x3584, .i8⟩

abbrev hbmTy (i : Nat) : BufTy := match i / 128 with
  | 0 => hbmTy0_0 i
  | 1 => hbmTy0_1 i
  | _ => ⟨S4x8448x3584, .i8⟩

abbrev bufTy : (tb : Table) → Fin (tcTables nBuf tb) → BufTy
  | .hbm, ⟨i, _⟩ => hbmTy i
  | _, _ => ⟨S4x8448x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_call1_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_19 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_c_22 : Ref sig .tc := ⟨.hbm, 131, rfl⟩
abbrev main_v94 : Ref sig .tc := ⟨.hbm, 132, rfl⟩
abbrev main_v95 : Ref sig .tc := ⟨.hbm, 133, rfl⟩
abbrev main_c_23 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_24 : Ref sig .tc := ⟨.hbm, 138, rfl⟩
abbrev main_v99 : Ref sig .tc := ⟨.hbm, 139, rfl⟩
abbrev main_v100 : Ref sig .tc := ⟨.hbm, 140, rfl⟩
abbrev main_c_25 : Ref sig .tc := ⟨.hbm, 141, rfl⟩
abbrev main_call2_v0 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_26 : Ref sig .tc := ⟨.hbm, 160, rfl⟩
abbrev main_v118 : Ref sig .tc := ⟨.hbm, 161, rfl⟩
abbrev main_v119 : Ref sig .tc := ⟨.hbm, 162, rfl⟩
abbrev main_c_27 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_28 : Ref sig .tc := ⟨.hbm, 170, rfl⟩
abbrev main_v126 : Ref sig .tc := ⟨.hbm, 171, rfl⟩
abbrev main_v127 : Ref sig .tc := ⟨.hbm, 172, rfl⟩
abbrev main_c_29 : Ref sig .tc := ⟨.hbm, 173, rfl⟩
abbrev main_v128 : Ref sig .tc := ⟨.hbm, 174, rfl⟩
abbrev main_v129 : Ref sig .tc := ⟨.hbm, 175, rfl⟩
abbrev main_c_30 : Ref sig .tc := ⟨.hbm, 176, rfl⟩
abbrev main_v130 : Ref sig .tc := ⟨.hbm, 177, rfl⟩
abbrev main_v131 : Ref sig .tc := ⟨.hbm, 178, rfl⟩
abbrev main_c_31 : Ref sig .tc := ⟨.hbm, 179, rfl⟩
abbrev main_v132 : Ref sig .tc := ⟨.hbm, 180, rfl⟩
abbrev main_v133 : Ref sig .tc := ⟨.hbm, 181, rfl⟩
abbrev main_c_32 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_33 : Ref sig .tc := ⟨.hbm, 186, rfl⟩
abbrev main_v137 : Ref sig .tc := ⟨.hbm, 187, rfl⟩
abbrev main_v138 : Ref sig .tc := ⟨.hbm, 188, rfl⟩
abbrev main_c_34 : Ref sig .tc := ⟨.hbm, 189, rfl⟩
abbrev main_call3_v0 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_35 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_cst_36 : Ref sig .tc := ⟨.hbm, 223, rfl⟩
abbrev main_v169 : Ref sig .tc := ⟨.hbm, 224, rfl⟩
abbrev main_v170 : Ref sig .tc := ⟨.hbm, 225, rfl⟩
abbrev main_cst_37 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩

abbrev nD : Nat := 1
abbrev τ : Topo := Topo.v7x

variable {F : FTy → Type} [FloatOps F]
-- ==== Proof.KitKernel.lean ====
module

public import proofs.«01_k».proof.Proof.Gen.Kernel.Frame

@[expose] public section

set_option maxRecDepth 16384

/-! What the runs and the frame share: the branch conditions in closed form, the staging and scratch memrefs at a point, and the reduction of the frame claim to a run. -/

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1680000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c)),
      (Pipeline.RDat.FramePost.arr_in h c 10 rfl).trans ((hA c 10).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 66 = 0 :=
  (fun t => by
    have ht : t.val < 66 := Nat.lt_of_lt_of_eq t.isLt N_0
    have e0 : (grid0.coords t 0).val = t.val / 1 % 66 := Pipeline.Grid.coords_val t 0 (by decide) rfl
    simp only [cond0_0, e0]
    word_cmp
   : ∀ t : Fin grid0.N, cond0_0 (grid0.coords t) ↔ t.val % 66 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 66 = 65 :=
  (fun t => by
    have ht : t.val < 66 := Nat.lt_of_lt_of_eq t.isLt N_0
    have e0 : (grid0.coords t 0).val = t.val / 1 % 66 := Pipeline.Grid.coords_val t 0 (by decide) rfl
    simp only [cond0_1, k0_cond2, e0]
    word_cmp
   : ∀ t : Fin grid0.N, cond0_1 (grid0.coords t) ↔ t.val % 66 = 65)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x128x3584 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x7040 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x7040 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x7168 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x7168 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x7168 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x56 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x7168 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x56 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x3520 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x55 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x1x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .smem S11 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .smem S11 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .smem S11 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .smem S9 .f32 := win0_27.stage (cfg0.slots t 27)
abbrev hs0_27 (t : Fin cfg0.N) : (ms0_27 t).IsWhole := hstage0_27 ((cfg0.slots t 27).cast nbuf0_27)
/-- The scratch operands: whole scoped buffers of the kernel's own, passed beside the windows. -/
abbrev scM0_0 : Memref sig .tc .vmem S256x256 .fp8e4m3 := Memref.whole cc0_scratch0
abbrev scM0_1 : Memref sig .tc .vmem S256x128 .fp8e4m3 := Memref.whole cc0_scratch1
abbrev scM0_2 : Memref sig .tc .vmem S28x256x256 .bf16 := Memref.whole cc0_scratch2
abbrev scM0_3 : Memref sig .tc .vmem S640x128 .f32 := Memref.whole cc0_scratch3
abbrev scM0_4 : Memref sig .tc .vmem S640x256 .bf16 := Memref.whole cc0_scratch4
abbrev scM0_5 : Memref sig .tc .vmem S2x512x256 .f32 := Memref.whole cc0_scratch5
abbrev scM0_6 : Memref sig .tc .vmem S2x640x256 .f32 := Memref.whole cc0_scratch6
abbrev scM0_7 : Memref sig .tc .vmem S128x7168 .f32 := Memref.whole cc0_scratch7
abbrev scM0_8 : Memref sig .tc .vmem S128x7040 .f32 := Memref.whole cc0_scratch8
abbrev scM0_9 : Memref sig .tc .vmem S128x128 .f32 := Memref.whole cc0_scratch9
abbrev scM0_10 : Memref sig .tc .vmem S128x128 .f32 := Memref.whole cc0_scratch10
abbrev scM0_11 : Memref sig .tc .vmem S4x16x128 .f32 := Memref.whole cc0_scratch11
abbrev scM0_12 : Memref sig .tc .vmem S128x128 .f32 := Memref.whole cc0_scratch12
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.Kernel.Own

end
-- ==== Proof.LoopKernel.lean ====
module

public import proofs.«01_k».proof.Proof.Gen.Kernel.Loops

@[expose] public section

set_option maxRecDepth 8192
set_option maxHeartbeats 40000000

/-! The loop over the fifty-six blocks of leaf A, two blocks a trip (`k0_t1_loop`): one trip run at a symbolic counter,
    the pieces its stores leave, and the invariant `sl_exec` uses when it meets the loop. -/

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- One trip's resources: what the region reads (arg1, arg4, arg5, arg6, arg29, arg31, arg33) at its
   contents, what it writes (arg13, arg14, arg17, arg18, arg34, arg35, arg36, arg38) at any. -/
abbrev Trip_k0_t1 (c : Dev nD) (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg13 : Memref sig .tc .vmem S128x7168 .f32) (arg14 : Memref sig .tc .vmem S128x7168 .f32) (arg17 : Memref sig .tc .vmem S128x7168 .fp8e4m3) (arg18 : Memref sig .tc .vmem S1x1x56 .f32) (arg34 : Memref sig .tc .vmem S2x512x256 .f32) (arg35 : Memref sig .tc .vmem S2x640x256 .f32) (arg36 : Memref sig .tc .vmem S128x7168 .f32) (arg38 : Memref sig .tc .vmem S128x128 .f32) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg29 : BufTy.Contents (Elt F) arg29.view.ty) (X_arg31 : BufTy.Contents (Elt F) arg31.view.ty) (X_arg33 : BufTy.Contents (Elt F) arg33.view.ty) (f_arg13 : BufTy.Contents (Elt F) arg13.view.ty) (f_arg14 : BufTy.Contents (Elt F) arg14.view.ty) (f_arg17 : BufTy.Contents (Elt F) arg17.view.ty) (f_arg18 : BufTy.Contents (Elt F) arg18.view.ty) (f_arg34 : BufTy.Contents (Elt F) arg34.view.ty) (f_arg35 : BufTy.Contents (Elt F) arg35.view.ty) (f_arg36 : BufTy.Contents (Elt F) arg36.view.ty) (f_arg38 : BufTy.Contents (Elt F) arg38.view.ty) : sProp 𝕄G :=
  iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg29.view.loc (c : Thread nD τ) ↦[arg29.view.set]{fullShare} X_arg29) ∗ (arg31.view.loc (c : Thread nD τ) ↦[arg31.view.set]{fullShare} X_arg31) ∗ (arg33.view.loc (c : Thread nD τ) ↦[arg33.view.set]{fullShare} X_arg33) ∗ (arg13.view.loc (c : Thread nD τ) ↦[arg13.view.set]{fullShare} f_arg13) ∗ (arg14.view.loc (c : Thread nD τ) ↦[arg14.view.set]{fullShare} f_arg14) ∗ (arg17.view.loc (c : Thread nD τ) ↦[arg17.view.set]{fullShare} f_arg17) ∗ (arg18.view.loc (c : Thread nD τ) ↦[arg18.view.set]{fullShare} f_arg18) ∗ (arg34.view.loc (c : Thread nD τ) ↦[arg34.view.set]{fullShare} f_arg34) ∗ (arg35.view.loc (c : Thread nD τ) ↦[arg35.view.set]{fullShare} f_arg35) ∗ (arg36.view.loc (c : Thread nD τ) ↦[arg36.view.set]{fullShare} f_arg36) ∗ (arg38.view.loc (c : Thread nD τ) ↦[arg38.view.set]{fullShare} f_arg38))

/-- The twelve accumulators that the loop carries. -/
abbrev Acc (F : FTy → Type) [FloatOps F] := FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32

/-- The pieces stored into the eight written memrefs. -/
abbrev Pcs (F : FTy → Type) [FloatOps F] := List (View.Piece (Elt F) S128x7168 .f32) × List (View.Piece (Elt F) S128x7168 .f32) × List (View.Piece (Elt F) S128x7168 .fp8e4m3) × List (View.Piece (Elt F) S1x1x56 .f32) × List (View.Piece (Elt F) S2x512x256 .f32) × List (View.Piece (Elt F) S2x640x256 .f32) × List (View.Piece (Elt F) S128x7168 .f32) × List (View.Piece (Elt F) S128x128 .f32)

/-- A trip's result and its pieces in front of those of the state before it. -/
abbrev onTop (r : Acc F) (l : Pcs F) (prev : Acc F × Pcs F) : Acc F × Pcs F :=
  (r, l.1 ++ prev.2.1, l.2.1 ++ prev.2.2.1, l.2.2.1 ++ prev.2.2.2.1, l.2.2.2.1 ++ prev.2.2.2.2.1, l.2.2.2.2.1 ++ prev.2.2.2.2.2.1,
    l.2.2.2.2.2.1 ++ prev.2.2.2.2.2.2.1, l.2.2.2.2.2.2.1 ++ prev.2.2.2.2.2.2.2.1, l.2.2.2.2.2.2.2 ++ prev.2.2.2.2.2.2.2.2)

variable (𝒱 : Variants) (c : Dev nD) (bd : Option 𝒱.V) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole) (v144 : Elt F .f32) (cst : F .f32) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg29 : BufTy.Contents (Elt F) arg29.view.ty) (X_arg31 : BufTy.Contents (Elt F) arg31.view.ty) (X_arg33 : BufTy.Contents (Elt F) arg33.view.ty)

/-- ONE TRIP of `k0_t1_loop` at a symbolic `k` and carried value `acc`, run by `sl_exec` (its
   rectangles' offsets closed forms of `k`, their geometry linear arithmetic): what it yields and
   the pieces it writes into arg13, arg14, arg17, arg18, arg34, arg35, arg36, arg38 are the run's
   own finds — the witnesses `sl_close` assigns handing the buffers to the continuation, as
   functions of the carried value. `@[irreducible]`: cited, never unfolded. -/
@[irreducible] def trip_k0_t1 (k : Fin k0_t1_loop.trips) :
    Σ' (R_k0_t1 : (Acc F → Acc F)) (L_arg13 : (Acc F → List (View.Piece (Elt F) S128x7168 .f32))) (L_arg14 : (Acc F → List (View.Piece (Elt F) S128x7168 .f32))) (L_arg17 : (Acc F → List (View.Piece (Elt F) S128x7168 .fp8e4m3))) (L_arg18 : (Acc F → List (View.Piece (Elt F) S1x1x56 .f32))) (L_arg34 : (Acc F → List (View.Piece (Elt F) S2x512x256 .f32))) (L_arg35 : (Acc F → List (View.Piece (Elt F) S2x640x256 .f32))) (L_arg36 : (Acc F → List (View.Piece (Elt F) S128x7168 .f32))) , { L_arg38 : (Acc F → List (View.Piece (Elt F) S128x128 .f32)) // ∀ (E : Set ℕ) (acc : Acc F) (f_arg13 : BufTy.Contents (Elt F) arg13.view.ty) (f_arg14 : BufTy.Contents (Elt F) arg14.view.ty) (f_arg17 : BufTy.Contents (Elt F) arg17.view.ty) (f_arg18 : BufTy.Contents (Elt F) arg18.view.ty) (f_arg34 : BufTy.Contents (Elt F) arg34.view.ty) (f_arg35 : BufTy.Contents (Elt F) arg35.view.ty) (f_arg36 : BufTy.Contents (Elt F) arg36.view.ty) (f_arg38 : BufTy.Contents (Elt F) arg38.view.ty),
      Trip_k0_t1 (F := F) c arg1 arg4 arg5 arg6 arg29 arg31 arg33 arg13 arg14 arg17 arg18 arg34 arg35 arg36 arg38 X_arg1 X_arg4 X_arg5 X_arg6 X_arg29 X_arg31 X_arg33 f_arg13 f_arg14 f_arg17 f_arg18 f_arg34 f_arg35 f_arg36 f_arg38
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst k acc)
          (fun yld => iprop(⌜yld = R_k0_t1 acc⌝ ∗ Trip_k0_t1 (F := F) c arg1 arg4 arg5 arg6 arg29 arg31 arg33 arg13 arg14 arg17 arg18 arg34 arg35 arg36 arg38 X_arg1 X_arg4 X_arg5 X_arg6 X_arg29 X_arg31 X_arg33 (arg13.view.writes (Elt F) f_arg13 (L_arg13 acc)) (arg14.view.writes (Elt F) f_arg14 (L_arg14 acc)) (arg17.view.writes (Elt F) f_arg17 (L_arg17 acc)) (arg18.view.writes (Elt F) f_arg18 (L_arg18 acc)) (arg34.view.writes (Elt F) f_arg34 (L_arg34 acc)) (arg35.view.writes (Elt F) f_arg35 (L_arg35 acc)) (arg36.view.writes (Elt F) f_arg36 (L_arg36 acc)) (arg38.view.writes (Elt F) f_arg38 (L_arg38 acc)))) } := by
  have hk : k.val < 28 := Nat.lt_of_lt_of_le k.isLt k0_t1_abs.2.1
  refine ⟨?_, ?_, ?_, ?_, ?_, ?_, ?_, ?_, ?_, fun E acc f_arg13 f_arg14 f_arg17 f_arg18 f_arg34 f_arg35 f_arg36 f_arg38 => ?run⟩
  case run =>
    unfold k0_t1_body
    iintro ⟨HR_arg1, HR_arg4, HR_arg5, HR_arg6, HR_arg29, HR_arg31, HR_arg33, HW_arg13, HW_arg14, HW_arg17, HW_arg18, HW_arg34, HW_arg35, HW_arg36, HW_arg38⟩
    sl_exec
    sl_step
    sl_close

/-- The trip's result (a plain projection of `trip_…`, for the recursion below to cite without its
   proof). -/
abbrev tripR_k0_t1 (k : Fin k0_t1_loop.trips) (acc : Acc F) : Acc F :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 k).1 acc

/-- The trip's piece lists (plain projections of `trip_…`, for the recursion below to cite without
   its proof), at the carried value. -/
abbrev tripL_k0_t1 (k : Fin k0_t1_loop.trips) (acc : Acc F) : Pcs F :=
  let q := trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 k
  (q.2.1 acc, q.2.2.1 acc, q.2.2.2.1 acc, q.2.2.2.2.1 acc, q.2.2.2.2.2.1 acc, q.2.2.2.2.2.2.1 acc, q.2.2.2.2.2.2.2.1 acc, q.2.2.2.2.2.2.2.2.1 acc)

/-- Trip `k`'s contribution to the state the recursion `st_k0_t1` below carries (`prev`): its result
   as the new carried value and its pieces in front, per written memref; past the last trip, `prev`
   itself. -/
@[irreducible] def st_k0_t1Step (init : Acc F) (k : ℕ) (prev : Acc F × Pcs F) : Acc F × Pcs F :=
  if h : k < k0_t1_loop.trips then
    onTop (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 ⟨k, h⟩ prev.1) (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 ⟨k, h⟩ prev.1) prev
  else prev

/-- The STATE before trip `k`: the carried value and, per written memref, the pieces of the trips
   before (last first), from the loop's initial value `init`. -/
def st_k0_t1 (init : Acc F) : ℕ → Acc F × Pcs F
  | 0 => (init, [], [], [], [], [], [], [], [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k (st_k0_t1 init k)

theorem st_k0_t1_succ (init : Acc F) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init (k.val + 1)
      = onTop (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k.val).1) (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k.val).1) (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k.val) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (init : Acc F) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init 0).1 = init := rfl

/-- THE INVARIANT before trip `k`: arg1, arg4, arg5, arg6, arg29, arg31, arg33 read at `X_·`; arg13,
   arg14, arg17, arg18, arg34, arg35, arg36, arg38 holding the pieces of the trips before `k`
   written over the contents at loop entry `G_·` (stated `∃ f, … ∗ ⌜f = …⌝`, so that a hypothesis of
   any contents matches and the equation is what is proved); and `acc` equal to the state's carried
   value (an equation the run substitutes after the loop). -/
abbrev inv_k0_t1 (G_arg13 : BufTy.Contents (Elt F) arg13.view.ty) (G_arg14 : BufTy.Contents (Elt F) arg14.view.ty) (G_arg17 : BufTy.Contents (Elt F) arg17.view.ty) (G_arg18 : BufTy.Contents (Elt F) arg18.view.ty) (G_arg34 : BufTy.Contents (Elt F) arg34.view.ty) (G_arg35 : BufTy.Contents (Elt F) arg35.view.ty) (G_arg36 : BufTy.Contents (Elt F) arg36.view.ty) (G_arg38 : BufTy.Contents (Elt F) arg38.view.ty) (init : Acc F) (k : ℕ) (acc : Acc F) : sProp 𝕄G :=
  iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg29.view.loc (c : Thread nD τ) ↦[arg29.view.set]{fullShare} X_arg29) ∗ (arg31.view.loc (c : Thread nD τ) ↦[arg31.view.set]{fullShare} X_arg31) ∗ (arg33.view.loc (c : Thread nD τ) ↦[arg33.view.set]{fullShare} X_arg33) ∗ (∃ f, (arg13.view.loc (c : Thread nD τ) ↦[arg13.view.set]{fullShare} f) ∗ ⌜f = arg13.view.writes (Elt F) G_arg13 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.1⌝) ∗ (∃ f, (arg14.view.loc (c : Thread nD τ) ↦[arg14.view.set]{fullShare} f) ∗ ⌜f = arg14.view.writes (Elt F) G_arg14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.1⌝) ∗ (∃ f, (arg17.view.loc (c : Thread nD τ) ↦[arg17.view.set]{fullShare} f) ∗ ⌜f = arg17.view.writes (Elt F) G_arg17 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.2.1⌝) ∗ (∃ f, (arg18.view.loc (c : Thread nD τ) ↦[arg18.view.set]{fullShare} f) ∗ ⌜f = arg18.view.writes (Elt F) G_arg18 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.2.2.1⌝) ∗ (∃ f, (arg34.view.loc (c : Thread nD τ) ↦[arg34.view.set]{fullShare} f) ∗ ⌜f = arg34.view.writes (Elt F) G_arg34 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.2.2.2.1⌝) ∗ (∃ f, (arg35.view.loc (c : Thread nD τ) ↦[arg35.view.set]{fullShare} f) ∗ ⌜f = arg35.view.writes (Elt F) G_arg35 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.2.2.2.2.1⌝) ∗ (∃ f, (arg36.view.loc (c : Thread nD τ) ↦[arg36.view.set]{fullShare} f) ∗ ⌜f = arg36.view.writes (Elt F) G_arg36 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.2.2.2.2.2.1⌝) ∗ (∃ f, (arg38.view.loc (c : Thread nD τ) ↦[arg38.view.set]{fullShare} f) ∗ ⌜f = arg38.view.writes (Elt F) G_arg38 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).2.2.2.2.2.2.2.2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).1⌝)

set_option warn.classDefReducibility false in
/-- THE LOOP BY ITS INVARIANT — generated (`@[sl_loop]`: `sl_exec` finds it meeting `k0_t1_loop`,
   fixing `X_· G_·` and `init` against the context; after the loop each written memref holds `writes
   G (st … trips).2` and what it yields is `(st … trips).1`). -/
@[sl_loop] def loopInv_k0_t1 (E : Set ℕ) (G_arg13 : BufTy.Contents (Elt F) arg13.view.ty) (G_arg14 : BufTy.Contents (Elt F) arg14.view.ty) (G_arg17 : BufTy.Contents (Elt F) arg17.view.ty) (G_arg18 : BufTy.Contents (Elt F) arg18.view.ty) (G_arg34 : BufTy.Contents (Elt F) arg34.view.ty) (G_arg35 : BufTy.Contents (Elt F) arg35.view.ty) (G_arg36 : BufTy.Contents (Elt F) arg36.view.ty) (G_arg38 : BufTy.Contents (Elt F) arg38.view.ty) (init : Acc F) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 G_arg13 G_arg14 G_arg17 G_arg18 G_arg34 G_arg35 G_arg36 G_arg38 init
  step k acc := by
    iintro ⟨HR_arg1, HR_arg4, HR_arg5, HR_arg6, HR_arg29, HR_arg31, HR_arg33, ⟨%f_arg13, HW_arg13, %h_arg13⟩, ⟨%f_arg14, HW_arg14, %h_arg14⟩, ⟨%f_arg17, HW_arg17, %h_arg17⟩, ⟨%f_arg18, HW_arg18, %h_arg18⟩, ⟨%f_arg34, HW_arg34, %h_arg34⟩, ⟨%f_arg35, HW_arg35, %h_arg35⟩, ⟨%f_arg36, HW_arg36, %h_arg36⟩, ⟨%f_arg38, HW_arg38, %h_arg38⟩, %h_acc⟩
    subst h_acc
    iapply (wp_wand_r Idealize.ShloMosaic.frame (wpE (defs₀ (F := F)) 𝒱 (c : Thread nD τ) bd) E)
    isplitl [HR_arg1 HR_arg4 HR_arg5 HR_arg6 HR_arg29 HR_arg31 HR_arg33 HW_arg13 HW_arg14 HW_arg17 HW_arg18 HW_arg34 HW_arg35 HW_arg36 HW_arg38]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 k).2.2.2.2.2.2.2.2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 cst X_arg1 X_arg4 X_arg5 X_arg6 X_arg29 X_arg31 X_arg33 init k).1 f_arg13 f_arg14 f_arg17 f_arg18 f_arg34 f_arg35 f_arg36 f_arg38)
      isplitl [HR_arg1]; · iexact HR_arg1
      isplitl [HR_arg4]; · iexact HR_arg4
      isplitl [HR_arg5]; · iexact HR_arg5
      isplitl [HR_arg6]; · iexact HR_arg6
      isplitl [HR_arg29]; · iexact HR_arg29
      isplitl [HR_arg31]; · iexact HR_arg31
      isplitl [HR_arg33]; · iexact HR_arg33
      isplitl [HW_arg13]; · iexact HW_arg13
      isplitl [HW_arg14]; · iexact HW_arg14
      isplitl [HW_arg17]; · iexact HW_arg17
      isplitl [HW_arg18]; · iexact HW_arg18
      isplitl [HW_arg34]; · iexact HW_arg34
      isplitl [HW_arg35]; · iexact HW_arg35
      isplitl [HW_arg36]; · iexact HW_arg36
      iexact HW_arg38
    · iintro %yld ⟨%h_res, HR_arg1, HR_arg4, HR_arg5, HR_arg6, HR_arg29, HR_arg31, HR_arg33, HW_arg13, HW_arg14, HW_arg17, HW_arg18, HW_arg34, HW_arg35, HW_arg36, HW_arg38⟩
      isplitl [HR_arg1]; · iexact HR_arg1
      isplitl [HR_arg4]; · iexact HR_arg4
      isplitl [HR_arg5]; · iexact HR_arg5
      isplitl [HR_arg6]; · iexact HR_arg6
      isplitl [HR_arg29]; · iexact HR_arg29
      isplitl [HR_arg31]; · iexact HR_arg31
      isplitl [HR_arg33]; · iexact HR_arg33
      simp only [st_k0_t1_succ, onTop]
      isplitl [HW_arg13]
      · iexists _; isplitl [HW_arg13]; · iexact HW_arg13
        ipureintro; rw [h_arg13, ← View.writes_append]
      isplitl [HW_arg14]
      · iexists _; isplitl [HW_arg14]; · iexact HW_arg14
        ipureintro; rw [h_arg14, ← View.writes_append]
      isplitl [HW_arg17]
      · iexists _; isplitl [HW_arg17]; · iexact HW_arg17
        ipureintro; rw [h_arg17, ← View.writes_append]
      isplitl [HW_arg18]
      · iexists _; isplitl [HW_arg18]; · iexact HW_arg18
        ipureintro; rw [h_arg18, ← View.writes_append]
      isplitl [HW_arg34]
      · iexists _; isplitl [HW_arg34]; · iexact HW_arg34
        ipureintro; rw [h_arg34, ← View.writes_append]
      isplitl [HW_arg35]
      · iexists _; isplitl [HW_arg35]; · iexact HW_arg35
        ipureintro; rw [h_arg35, ← View.writes_append]
      isplitl [HW_arg36]
      · iexists _; isplitl [HW_arg36]; · iexact HW_arg36
        ipureintro; rw [h_arg36, ← View.writes_append]
      isplitl [HW_arg38]
      · iexists _; isplitl [HW_arg38]; · iexact HW_arg38
        ipureintro; rw [h_arg38, ← View.writes_append]
      ipureintro; rw [h_res]

end Cert.Kernel.Own

end
-- ==== Proof.RunKernelA.lean ====
module

public import proofs.«01_k».proof.Proof.KitKernel
public import proofs.«01_k».proof.Proof.LoopKernel

@[expose] public section

set_option maxRecDepth 16384

/-! The run of the kernel body at the first grid point. -/

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)

set_option maxHeartbeats 20000000 in
/-- The body at the first grid point runs: the inputs come back as they were, the other buffers at some contents. -/
theorem runA (hc0 : cond0_0 i) (hc1 : ¬cond0_1 i)
    (x0 : Vec F S4x128x3584 .i8) (x1 : Vec F S4x128x56 .f32) (x2 : Vec F S4 .f32) (x3 : Vec F S128x7168 .f32) (x4 : Vec F S128x7168 .bf16) (x5 : Vec F S128x7168 .i8) (x6 : Vec F S128x56 .f32) (x7 : Vec F S1 .f32) (x8 : Vec F S1x1x128 .i32) (x9 : Vec F S128x7040 .f32) (x10 : Vec F S128x7040 .bf16) (x11 : Vec F S1x1x128 .i32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)) -∗ K ⟨⟩))
      ⊢ wp frame (wpE (defs₀ (F := F)) Variants.none c none) E (cc0_diloco_outer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
  intro E K
  simp only [cc0_diloco_outer_eq_skeleton]; unfold cc0_diloco_outer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%dS0, %g0, -, HS0⟩, ⟨%dS1, %g1, -, HS1⟩, ⟨%dS2, %g2, -, HS2⟩, ⟨%dS3, %g3, -, HS3⟩, ⟨%dS4, %g4, -, HS4⟩, ⟨%dS5, %g5, -, HS5⟩, ⟨%dS6, %g6, -, HS6⟩, ⟨%dS7, %g7, -, HS7⟩, ⟨%dS8, %g8, -, HS8⟩, ⟨%dS9, %g9, -, HS9⟩, ⟨%dS10, %g10, -, HS10⟩, ⟨%dS11, %g11, -, HS11⟩, ⟨%dS12, %g12, -, HS12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  iexists _, _; isplitr; swap; · iexact HS12
  ipureintro; rfl

end Cert.Kernel.Own

end
-- ==== Proof.RunKernelB.lean ====
module

public import proofs.«01_k».proof.Proof.KitKernel
public import proofs.«01_k».proof.Proof.LoopKernel

@[expose] public section

set_option maxRecDepth 16384

/-! The run of the kernel body at a grid point between the first and the last. -/

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)

set_option maxHeartbeats 20000000 in
/-- The body at a grid point between the first and the last runs: the inputs come back as they were, the other buffers at some contents. -/
theorem runB (hc0 : ¬cond0_0 i) (hc1 : ¬cond0_1 i)
    (x0 : Vec F S4x128x3584 .i8) (x1 : Vec F S4x128x56 .f32) (x2 : Vec F S4 .f32) (x3 : Vec F S128x7168 .f32) (x4 : Vec F S128x7168 .bf16) (x5 : Vec F S128x7168 .i8) (x6 : Vec F S128x56 .f32) (x7 : Vec F S1 .f32) (x8 : Vec F S1x1x128 .i32) (x9 : Vec F S128x7040 .f32) (x10 : Vec F S128x7040 .bf16) (x11 : Vec F S1x1x128 .i32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)) -∗ K ⟨⟩))
      ⊢ wp frame (wpE (defs₀ (F := F)) Variants.none c none) E (cc0_diloco_outer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
  intro E K
  simp only [cc0_diloco_outer_eq_skeleton]; unfold cc0_diloco_outer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%dS0, %g0, -, HS0⟩, ⟨%dS1, %g1, -, HS1⟩, ⟨%dS2, %g2, -, HS2⟩, ⟨%dS3, %g3, -, HS3⟩, ⟨%dS4, %g4, -, HS4⟩, ⟨%dS5, %g5, -, HS5⟩, ⟨%dS6, %g6, -, HS6⟩, ⟨%dS7, %g7, -, HS7⟩, ⟨%dS8, %g8, -, HS8⟩, ⟨%dS9, %g9, -, HS9⟩, ⟨%dS10, %g10, -, HS10⟩, ⟨%dS11, %g11, -, HS11⟩, ⟨%dS12, %g12, -, HS12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  iexists _, _; isplitr; swap; · iexact HS12
  ipureintro; rfl

end Cert.Kernel.Own

end
-- ==== Proof.RunKernelC.lean ====
module

public import proofs.«01_k».proof.Proof.KitKernel
public import proofs.«01_k».proof.Proof.LoopKernel

@[expose] public section

set_option maxRecDepth 16384

/-! The run of the kernel body at the last grid point. -/

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)

set_option maxHeartbeats 20000000 in
/-- The body at the last grid point runs: the inputs come back as they were, the other buffers at some contents. -/
theorem runC (hc0 : ¬cond0_0 i) (hc1 : cond0_1 i)
    (x0 : Vec F S4x128x3584 .i8) (x1 : Vec F S4x128x56 .f32) (x2 : Vec F S4 .f32) (x3 : Vec F S128x7168 .f32) (x4 : Vec F S128x7168 .bf16) (x5 : Vec F S128x7168 .i8) (x6 : Vec F S128x56 .f32) (x7 : Vec F S1 .f32) (x8 : Vec F S1x1x128 .i32) (x9 : Vec F S128x7040 .f32) (x10 : Vec F S128x7040 .bf16) (x11 : Vec F S1x1x128 .i32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)) -∗ K ⟨⟩))
      ⊢ wp frame (wpE (defs₀ (F := F)) Variants.none c none) E (cc0_diloco_outer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
  intro E K
  simp only [cc0_diloco_outer_eq_skeleton]; unfold cc0_diloco_outer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%dS0, %g0, -, HS0⟩, ⟨%dS1, %g1, -, HS1⟩, ⟨%dS2, %g2, -, HS2⟩, ⟨%dS3, %g3, -, HS3⟩, ⟨%dS4, %g4, -, HS4⟩, ⟨%dS5, %g5, -, HS5⟩, ⟨%dS6, %g6, -, HS6⟩, ⟨%dS7, %g7, -, HS7⟩, ⟨%dS8, %g8, -, HS8⟩, ⟨%dS9, %g9, -, HS9⟩, ⟨%dS10, %g10, -, HS10⟩, ⟨%dS11, %g11, -, HS11⟩, ⟨%dS12, %g12, -, HS12⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  iexists _, _; isplitr; swap; · iexact HS12
  ipureintro; rfl

end Cert.Kernel.Own

end
-- ==== Proof.FrameKernel.lean ====
module

public import proofs.«01_k».proof.Proof.RunKernelA
public import proofs.«01_k».proof.Proof.RunKernelB
public import proofs.«01_k».proof.Proof.RunKernelC
public import Idealize.ShloMosaic.Lib.Claim

@[expose] public section

set_option maxRecDepth 16384

/-! The frame: the body at every grid point from its runs, and the launch of the pipeline. -/

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output windows of which nothing is kept (every one). -/
def outs0 : Fin 28 → Bool := fun w => w.val == 12 || w.val == 13 || w.val == 14 || w.val == 15 || w.val == 16 || w.val == 17 || w.val == 18 || w.val == 19 || w.val == 20 || w.val == 21 || w.val == 22 || w.val == 23 || w.val == 24 || w.val == 25 || w.val == 26 || w.val == 27

/-- The proof data of the pipeline on core `c`: the arrays as the region finds them; after the body each input's buffer at
    its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨_ + 28, h⟩ => absurd h (Nat.not_lt.2 (Nat.le_add_left _ _))
  Φ t := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

set_option maxHeartbeats 48000000 in
/-- The body at any point: the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11,
    after0_0, after0_1, after0_2, after0_3, after0_4, after0_5, after0_6, after0_7, after0_8, after0_9, after0_10, after0_11]
  rw [show (dats m 0 c).owesAt () t.succ = (dats m 0 c).owesAt () t.castSucc from rfl]
  rw [show (dats m 0 c).Φ t.succ = Pipeline.ΦA spec0 c from rfl,
    show (dats m 0 c).Φ t.castSucc = Pipeline.ΦA spec0 c from rfl, PhiA0_eq]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  have hN : t.val < 66 := lt_of_lt_of_eq t.isLt (show cfg0.N = 66 from N_0)
  by_cases h0 : t.val % 66 = 0
  · have h1 : ¬t.val % 66 = 65 := by omega
    iapply (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iintro ⟨H0, H1, H2, H3, H4, H5, H6, H7, H8, H9, H10, H11, H12, H13, H14, H15, H16, H17, H18, H19, H20, H21, H22, H23, H24, H25, H26, H27, HS0, HS1, HS2, HS3, HS4, HS5, HS6, HS7, HS8, HS9, HS10, HS11, HS12⟩
    isplitl [HS0 HS1 HS2 HS3 HS4 HS5 HS6 HS7 HS8 HS9 HS10 HS11 HS12 Hg]
    · isplitl [HS0 HS1 HS2 HS3 HS4 HS5 HS6 HS7 HS8 HS9 HS10 HS11 HS12]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iexact HS12
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · by_cases h1 : t.val % 66 = 65
    · iapply (runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iintro ⟨H0, H1, H2, H3, H4, H5, H6, H7, H8, H9, H10, H11, H12, H13, H14, H15, H16, H17, H18, H19, H20, H21, H22, H23, H24, H25, H26, H27, HS0, HS1, HS2, HS3, HS4, HS5, HS6, HS7, HS8, HS9, HS10, HS11, HS12⟩
      isplitl [HS0 HS1 HS2 HS3 HS4 HS5 HS6 HS7 HS8 HS9 HS10 HS11 HS12 Hg]
      · isplitl [HS0 HS1 HS2 HS3 HS4 HS5 HS6 HS7 HS8 HS9 HS10 HS11 HS12]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          iexact HS12
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
    · iapply (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iintro ⟨H0, H1, H2, H3, H4, H5, H6, H7, H8, H9, H10, H11, H12, H13, H14, H15, H16, H17, H18, H19, H20, H21, H22, H23, H24, H25, H26, H27, HS0, HS1, HS2, HS3, HS4, HS5, HS6, HS7, HS8, HS9, HS10, HS11, HS12⟩
      isplitl [HS0 HS1 HS2 HS3 HS4 HS5 HS6 HS7 HS8 HS9 HS10 HS11 HS12 Hg]
      · isplitl [HS0 HS1 HS2 HS3 HS4 HS5 HS6 HS7 HS8 HS9 HS10 HS11 HS12]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          iexact HS12
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ outs0 := fun t => by
  rw [bigSep_W0, bigSep_W0, defs₀_row]
  exact triple_restated (sound_body m c t) rfl .rfl fun _ => .rfl

set_option backward.isDefEq.respectTransparency.types false in
/-- The launch: every fair execution ends, the arrays as the proof data say, every semaphore counter at zero. -/
theorem run_main_quiescent : θ_run defs (onTc (τ := τ) (main (F := F))) (s₀ m ρ) (fun r => (Pipeline.RDat.FramePost (cfgs 0) (fun c => (dats m 0 c).toRForget outs0) (V m)) r ∧ r.2.sem = fun _ => 0) :=
  Pipeline.θ_run_frame_track_forget (Q' := _) cfgs (dats m) (0 : Fin 1) launch0 defs₀ Variants.none outs0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The same without the counters. -/
theorem run_main : θ_run defs (onTc (τ := τ) (main (F := F))) (s₀ m ρ) (Pipeline.RDat.FramePost (cfgs 0) (fun c => (dats m 0 c).toRForget outs0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget outs0) (A_eq m) (run_main m ρ)

/-- The frame claim's statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Own

end
-- ==== Proof.KitKernelIdeal.lean ====
module

public import proofs.«01_k».proof.Proof.Gen.KernelIdeal.Frame

@[expose] public section

set_option maxRecDepth 16384

/-! What the runs and the frame share: the branch conditions in closed form, the staging and scratch memrefs at a point, and the reduction of the frame claim to a run. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1680000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c)),
      (Pipeline.RDat.FramePost.arr_in h c 10 rfl).trans ((hA c 10).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 66 = 0 :=
  (fun t => by
    have ht : t.val < 66 := Nat.lt_of_lt_of_eq t.isLt N_0
    have e0 : (grid0.coords t 0).val = t.val / 1 % 66 := Pipeline.Grid.coords_val t 0 (by decide) rfl
    simp only [cond0_0, e0]
    word_cmp
   : ∀ t : Fin grid0.N, cond0_0 (grid0.coords t) ↔ t.val % 66 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 66 = 65 :=
  (fun t => by
    have ht : t.val < 66 := Nat.lt_of_lt_of_eq t.isLt N_0
    have e0 : (grid0.coords t 0).val = t.val / 1 % 66 := Pipeline.Grid.coords_val t 0 (by decide) rfl
    simp only [cond0_1, k0_cond2, e0]
    word_cmp
   : ∀ t : Fin grid0.N, cond0_1 (grid0.coords t) ↔ t.val % 66 = 65)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x128x3584 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x7040 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x7040 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x7168 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x7168 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x7168 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x56 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x7168 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x56 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x3520 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x55 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x1x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .smem S11 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .smem S11 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .smem S11 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .smem S9 .f32 := win0_27.stage (cfg0.slots t 27)
abbrev hs0_27 (t : Fin cfg0.N) : (ms0_27 t).IsWhole := hstage0_27 ((cfg0.slots t 27).cast nbuf0_27)
/-- The scratch operands: whole scoped buffers of the kernel's own, passed beside the windows. -/
abbrev scM0_0 : Memref sig .tc .vmem S256x256 .fp8e4m3 := Memref.whole cc0_scratch0
abbrev scM0_1 : Memref sig .tc .vmem S256x128 .fp8e4m3 := Memref.whole cc0_scratch1
abbrev scM0_2 : Memref sig .tc .vmem S28x256x256 .bf16 := Memref.whole cc0_scratch2
abbrev scM0_3 : Memref sig .tc .vmem S640x128 .f32 := Memref.whole cc0_scratch3
abbrev scM0_4 : Memref sig .tc .vmem S640x256 .bf16 := Memref.whole cc0_scratch4
abbrev scM0_5 : Memref sig .tc .vmem S2x512x256 .f32 := Memref.whole cc0_scratch5
abbrev scM0_6 : Memref sig .tc .vmem S2x640x256 .f32 := Memref.whole cc0_scratch6
abbrev scM0_7 : Memref sig .tc .vmem S128x7168 .f32 := Memref.whole cc0_scratch7
abbrev scM0_8 : Memref sig .tc .vmem S128x7040 .f32 := Memref.whole cc0_scratch8
abbrev scM0_9 : Memref sig .tc .vmem S128x128 .f32 := Memref.whole cc0_scratch9
abbrev scM0_10 : Memref sig .tc .vmem S128x128 .f32 := Memref.whole cc0_scratch10
abbrev scM0_11 : Memref sig .tc .vmem S4x16x128 .f32 := Memref.whole cc0_scratch11
abbrev scM0_12 : Memref sig .tc .vmem S128x128 .f32 := Memref.whole cc0_scratch12
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.KernelIdeal.Own

end
-- ==== Proof.LoopKernelIdeal.lean ====
module

public import proofs.«01_k».proof.Proof.Gen.KernelIdeal.Loops

@[expose] public section

set_option maxRecDepth 8192
set_option maxHeartbeats 40000000

/-! The loop over the fifty-six blocks of leaf A, two blocks a trip (`k0_t1_loop`): one trip run at a symbolic counter,
    the pieces its stores leave, and the invariant `sl_exec` uses when it meets the loop. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: what the region reads (arg1, arg4, arg5, arg6, arg29, arg31, arg33) at its
   contents, what it writes (arg13, arg14, arg17, arg18, arg34, arg35, arg36, arg38) at any. -/
abbrev Trip_k0_t1 (c : Dev nD) (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg13 : Memref sig .tc .vmem S128x7168 .f32) (arg14 : Memref sig .tc .vmem S128x7168 .f32) (arg17 : Memref sig .tc .vmem S128x7168 .fp8e4m3) (arg18 : Memref sig .tc .vmem S1x1x56 .f32) (arg34 : Memref sig .tc .vmem S2x512x256 .f32) (arg35 : Memref sig .tc .vmem S2x640x256 .f32) (arg36 : Memref sig .tc .vmem S128x7168 .f32) (arg38 : Memref sig .tc .vmem S128x128 .f32) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg29 : BufTy.Contents (Elt F) arg29.view.ty) (X_arg31 : BufTy.Contents (Elt F) arg31.view.ty) (X_arg33 : BufTy.Contents (Elt F) arg33.view.ty) (f_arg13 : BufTy.Contents (Elt F) arg13.view.ty) (f_arg14 : BufTy.Contents (Elt F) arg14.view.ty) (f_arg17 : BufTy.Contents (Elt F) arg17.view.ty) (f_arg18 : BufTy.Contents (Elt F) arg18.view.ty) (f_arg34 : BufTy.Contents (Elt F) arg34.view.ty) (f_arg35 : BufTy.Contents (Elt F) arg35.view.ty) (f_arg36 : BufTy.Contents (Elt F) arg36.view.ty) (f_arg38 : BufTy.Contents (Elt F) arg38.view.ty) : sProp 𝕄G :=
  iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg29.view.loc (c : Thread nD τ) ↦[arg29.view.set]{fullShare} X_arg29) ∗ (arg31.view.loc (c : Thread nD τ) ↦[arg31.view.set]{fullShare} X_arg31) ∗ (arg33.view.loc (c : Thread nD τ) ↦[arg33.view.set]{fullShare} X_arg33) ∗ (arg13.view.loc (c : Thread nD τ) ↦[arg13.view.set]{fullShare} f_arg13) ∗ (arg14.view.loc (c : Thread nD τ) ↦[arg14.view.set]{fullShare} f_arg14) ∗ (arg17.view.loc (c : Thread nD τ) ↦[arg17.view.set]{fullShare} f_arg17) ∗ (arg18.view.loc (c : Thread nD τ) ↦[arg18.view.set]{fullShare} f_arg18) ∗ (arg34.view.loc (c : Thread nD τ) ↦[arg34.view.set]{fullShare} f_arg34) ∗ (arg35.view.loc (c : Thread nD τ) ↦[arg35.view.set]{fullShare} f_arg35) ∗ (arg36.view.loc (c : Thread nD τ) ↦[arg36.view.set]{fullShare} f_arg36) ∗ (arg38.view.loc (c : Thread nD τ) ↦[arg38.view.set]{fullShare} f_arg38))

/-- The twelve accumulators that the loop carries. -/
abbrev Acc (F : FTy → Type) [FloatOps F] := FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32 × FVec F S32x128 .f32

/-- The pieces stored into the eight written memrefs. -/
abbrev Pcs (F : FTy → Type) [FloatOps F] := List (View.Piece (Elt F) S128x7168 .f32) × List (View.Piece (Elt F) S128x7168 .f32) × List (View.Piece (Elt F) S128x7168 .fp8e4m3) × List (View.Piece (Elt F) S1x1x56 .f32) × List (View.Piece (Elt F) S2x512x256 .f32) × List (View.Piece (Elt F) S2x640x256 .f32) × List (View.Piece (Elt F) S128x7168 .f32) × List (View.Piece (Elt F) S128x128 .f32)

/-- A trip's result and its pieces in front of those of the state before it. -/
abbrev onTop (r : Acc F) (l : Pcs F) (prev : Acc F × Pcs F) : Acc F × Pcs F :=
  (r, l.1 ++ prev.2.1, l.2.1 ++ prev.2.2.1, l.2.2.1 ++ prev.2.2.2.1, l.2.2.2.1 ++ prev.2.2.2.2.1, l.2.2.2.2.1 ++ prev.2.2.2.2.2.1,
    l.2.2.2.2.2.1 ++ prev.2.2.2.2.2.2.1, l.2.2.2.2.2.2.1 ++ prev.2.2.2.2.2.2.2.1, l.2.2.2.2.2.2.2 ++ prev.2.2.2.2.2.2.2.2)

variable (𝒱 : Variants) (c : Dev nD) (bd : Option 𝒱.V) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole) (v144 : Elt F .f32) (v146 : FVec F S32x128 .f32) (v147 : FVec F S32x128 .f32) (v148 : FVec F S32x128 .f32) (v149 : FVec F S32x128 .f32) (v150 : FVec F S32x128 .f32) (v151 : FVec F S32x128 .f32) (v152 : FVec F S32x128 .f32) (v153 : FVec F S32x128 .f32) (v154 : FVec F S32x128 .f32) (v155 : FVec F S32x128 .f32) (cst_74 : F .f32) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg29 : BufTy.Contents (Elt F) arg29.view.ty) (X_arg31 : BufTy.Contents (Elt F) arg31.view.ty) (X_arg33 : BufTy.Contents (Elt F) arg33.view.ty)

/-- ONE TRIP of `k0_t1_loop` at a symbolic `k` and carried value `acc`, run by `sl_exec` (its
   rectangles' offsets closed forms of `k`, their geometry linear arithmetic): what it yields and
   the pieces it writes into arg13, arg14, arg17, arg18, arg34, arg35, arg36, arg38 are the run's
   own finds — the witnesses `sl_close` assigns handing the buffers to the continuation, as
   functions of the carried value. `@[irreducible]`: cited, never unfolded. -/
@[irreducible] def trip_k0_t1 (k : Fin k0_t1_loop.trips) :
    Σ' (R_k0_t1 : (Acc F → Acc F)) (L_arg13 : (Acc F → List (View.Piece (Elt F) S128x7168 .f32))) (L_arg14 : (Acc F → List (View.Piece (Elt F) S128x7168 .f32))) (L_arg17 : (Acc F → List (View.Piece (Elt F) S128x7168 .fp8e4m3))) (L_arg18 : (Acc F → List (View.Piece (Elt F) S1x1x56 .f32))) (L_arg34 : (Acc F → List (View.Piece (Elt F) S2x512x256 .f32))) (L_arg35 : (Acc F → List (View.Piece (Elt F) S2x640x256 .f32))) (L_arg36 : (Acc F → List (View.Piece (Elt F) S128x7168 .f32))) , { L_arg38 : (Acc F → List (View.Piece (Elt F) S128x128 .f32)) // ∀ (E : Set ℕ) (acc : Acc F) (f_arg13 : BufTy.Contents (Elt F) arg13.view.ty) (f_arg14 : BufTy.Contents (Elt F) arg14.view.ty) (f_arg17 : BufTy.Contents (Elt F) arg17.view.ty) (f_arg18 : BufTy.Contents (Elt F) arg18.view.ty) (f_arg34 : BufTy.Contents (Elt F) arg34.view.ty) (f_arg35 : BufTy.Contents (Elt F) arg35.view.ty) (f_arg36 : BufTy.Contents (Elt F) arg36.view.ty) (f_arg38 : BufTy.Contents (Elt F) arg38.view.ty),
      Trip_k0_t1 (F := F) c arg1 arg4 arg5 arg6 arg29 arg31 arg33 arg13 arg14 arg17 arg18 arg34 arg35 arg36 arg38 X_arg1 X_arg4 X_arg5 X_arg6 X_arg29 X_arg31 X_arg33 f_arg13 f_arg14 f_arg17 f_arg18 f_arg34 f_arg35 f_arg36 f_arg38
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 k acc)
          (fun yld => iprop(⌜yld = R_k0_t1 acc⌝ ∗ Trip_k0_t1 (F := F) c arg1 arg4 arg5 arg6 arg29 arg31 arg33 arg13 arg14 arg17 arg18 arg34 arg35 arg36 arg38 X_arg1 X_arg4 X_arg5 X_arg6 X_arg29 X_arg31 X_arg33 (arg13.view.writes (Elt F) f_arg13 (L_arg13 acc)) (arg14.view.writes (Elt F) f_arg14 (L_arg14 acc)) (arg17.view.writes (Elt F) f_arg17 (L_arg17 acc)) (arg18.view.writes (Elt F) f_arg18 (L_arg18 acc)) (arg34.view.writes (Elt F) f_arg34 (L_arg34 acc)) (arg35.view.writes (Elt F) f_arg35 (L_arg35 acc)) (arg36.view.writes (Elt F) f_arg36 (L_arg36 acc)) (arg38.view.writes (Elt F) f_arg38 (L_arg38 acc)))) } := by
  have hk : k.val < 28 := Nat.lt_of_lt_of_le k.isLt k0_t1_abs.2.1
  refine ⟨?_, ?_, ?_, ?_, ?_, ?_, ?_, ?_, ?_, fun E acc f_arg13 f_arg14 f_arg17 f_arg18 f_arg34 f_arg35 f_arg36 f_arg38 => ?run⟩
  case run =>
    unfold k0_t1_body
    iintro ⟨HR_arg1, HR_arg4, HR_arg5, HR_arg6, HR_arg29, HR_arg31, HR_arg33, HW_arg13, HW_arg14, HW_arg17, HW_arg18, HW_arg34, HW_arg35, HW_arg36, HW_arg38⟩
    sl_exec
    sl_step
    sl_close

/-- The trip's result (a plain projection of `trip_…`, for the recursion below to cite without its
   proof). -/
abbrev tripR_k0_t1 (k : Fin k0_t1_loop.trips) (acc : Acc F) : Acc F :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k).1 acc

/-- The trip's piece lists (plain projections of `trip_…`, for the recursion below to cite without
   its proof), at the carried value. -/
abbrev tripL_k0_t1 (k : Fin k0_t1_loop.trips) (acc : Acc F) : Pcs F :=
  let q := trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k
  (q.2.1 acc, q.2.2.1 acc, q.2.2.2.1 acc, q.2.2.2.2.1 acc, q.2.2.2.2.2.1 acc, q.2.2.2.2.2.2.1 acc, q.2.2.2.2.2.2.2.1 acc, q.2.2.2.2.2.2.2.2.1 acc)

/-- Trip `k`'s contribution to the state the recursion `st_k0_t1` below carries (`prev`): its result
   as the new carried value and its pieces in front, per written memref; past the last trip, `prev`
   itself. -/
@[irreducible] def st_k0_t1Step (init : Acc F) (k : ℕ) (prev : Acc F × Pcs F) : Acc F × Pcs F :=
  if h : k < k0_t1_loop.trips then
    onTop (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨k, h⟩ prev.1) (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨k, h⟩ prev.1) prev
  else prev

/-- The STATE before trip `k`: the carried value and, per written memref, the pieces of the trips
   before (last first), from the loop's initial value `init`. -/
def st_k0_t1 (init : Acc F) : ℕ → Acc F × Pcs F
  | 0 => (init, [], [], [], [], [], [], [], [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k (st_k0_t1 init k)

theorem st_k0_t1_succ (init : Acc F) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init (k.val + 1)
      = onTop (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k.val).1) (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k.val).1) (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k.val) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (init : Acc F) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init 0).1 = init := rfl

/-- THE INVARIANT before trip `k`: arg1, arg4, arg5, arg6, arg29, arg31, arg33 read at `X_·`; arg13,
   arg14, arg17, arg18, arg34, arg35, arg36, arg38 holding the pieces of the trips before `k`
   written over the contents at loop entry `G_·` (stated `∃ f, … ∗ ⌜f = …⌝`, so that a hypothesis of
   any contents matches and the equation is what is proved); and `acc` equal to the state's carried
   value (an equation the run substitutes after the loop). -/
abbrev inv_k0_t1 (G_arg13 : BufTy.Contents (Elt F) arg13.view.ty) (G_arg14 : BufTy.Contents (Elt F) arg14.view.ty) (G_arg17 : BufTy.Contents (Elt F) arg17.view.ty) (G_arg18 : BufTy.Contents (Elt F) arg18.view.ty) (G_arg34 : BufTy.Contents (Elt F) arg34.view.ty) (G_arg35 : BufTy.Contents (Elt F) arg35.view.ty) (G_arg36 : BufTy.Contents (Elt F) arg36.view.ty) (G_arg38 : BufTy.Contents (Elt F) arg38.view.ty) (init : Acc F) (k : ℕ) (acc : Acc F) : sProp 𝕄G :=
  iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg29.view.loc (c : Thread nD τ) ↦[arg29.view.set]{fullShare} X_arg29) ∗ (arg31.view.loc (c : Thread nD τ) ↦[arg31.view.set]{fullShare} X_arg31) ∗ (arg33.view.loc (c : Thread nD τ) ↦[arg33.view.set]{fullShare} X_arg33) ∗ (∃ f, (arg13.view.loc (c : Thread nD τ) ↦[arg13.view.set]{fullShare} f) ∗ ⌜f = arg13.view.writes (Elt F) G_arg13 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.1⌝) ∗ (∃ f, (arg14.view.loc (c : Thread nD τ) ↦[arg14.view.set]{fullShare} f) ∗ ⌜f = arg14.view.writes (Elt F) G_arg14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.1⌝) ∗ (∃ f, (arg17.view.loc (c : Thread nD τ) ↦[arg17.view.set]{fullShare} f) ∗ ⌜f = arg17.view.writes (Elt F) G_arg17 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.2.1⌝) ∗ (∃ f, (arg18.view.loc (c : Thread nD τ) ↦[arg18.view.set]{fullShare} f) ∗ ⌜f = arg18.view.writes (Elt F) G_arg18 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.2.2.1⌝) ∗ (∃ f, (arg34.view.loc (c : Thread nD τ) ↦[arg34.view.set]{fullShare} f) ∗ ⌜f = arg34.view.writes (Elt F) G_arg34 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.2.2.2.1⌝) ∗ (∃ f, (arg35.view.loc (c : Thread nD τ) ↦[arg35.view.set]{fullShare} f) ∗ ⌜f = arg35.view.writes (Elt F) G_arg35 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.2.2.2.2.1⌝) ∗ (∃ f, (arg36.view.loc (c : Thread nD τ) ↦[arg36.view.set]{fullShare} f) ∗ ⌜f = arg36.view.writes (Elt F) G_arg36 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.2.2.2.2.2.1⌝) ∗ (∃ f, (arg38.view.loc (c : Thread nD τ) ↦[arg38.view.set]{fullShare} f) ∗ ⌜f = arg38.view.writes (Elt F) G_arg38 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).2.2.2.2.2.2.2.2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).1⌝)

set_option warn.classDefReducibility false in
/-- THE LOOP BY ITS INVARIANT — generated (`@[sl_loop]`: `sl_exec` finds it meeting `k0_t1_loop`,
   fixing `X_· G_·` and `init` against the context; after the loop each written memref holds `writes
   G (st … trips).2` and what it yields is `(st … trips).1`). -/
@[sl_loop] def loopInv_k0_t1 (E : Set ℕ) (G_arg13 : BufTy.Contents (Elt F) arg13.view.ty) (G_arg14 : BufTy.Contents (Elt F) arg14.view.ty) (G_arg17 : BufTy.Contents (Elt F) arg17.view.ty) (G_arg18 : BufTy.Contents (Elt F) arg18.view.ty) (G_arg34 : BufTy.Contents (Elt F) arg34.view.ty) (G_arg35 : BufTy.Contents (Elt F) arg35.view.ty) (G_arg36 : BufTy.Contents (Elt F) arg36.view.ty) (G_arg38 : BufTy.Contents (Elt F) arg38.view.ty) (init : Acc F) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 G_arg13 G_arg14 G_arg17 G_arg18 G_arg34 G_arg35 G_arg36 G_arg38 init
  step k acc := by
    iintro ⟨HR_arg1, HR_arg4, HR_arg5, HR_arg6, HR_arg29, HR_arg31, HR_arg33, ⟨%f_arg13, HW_arg13, %h_arg13⟩, ⟨%f_arg14, HW_arg14, %h_arg14⟩, ⟨%f_arg17, HW_arg17, %h_arg17⟩, ⟨%f_arg18, HW_arg18, %h_arg18⟩, ⟨%f_arg34, HW_arg34, %h_arg34⟩, ⟨%f_arg35, HW_arg35, %h_arg35⟩, ⟨%f_arg36, HW_arg36, %h_arg36⟩, ⟨%f_arg38, HW_arg38, %h_arg38⟩, %h_acc⟩
    subst h_acc
    iapply (wp_wand_r Idealize.ShloMosaic.frame (wpE (defs₀ (F := F)) 𝒱 (c : Thread nD τ) bd) E)
    isplitl [HR_arg1 HR_arg4 HR_arg5 HR_arg6 HR_arg29 HR_arg31 HR_arg33 HW_arg13 HW_arg14 HW_arg17 HW_arg18 HW_arg34 HW_arg35 HW_arg36 HW_arg38]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k).2.2.2.2.2.2.2.2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init k).1 f_arg13 f_arg14 f_arg17 f_arg18 f_arg34 f_arg35 f_arg36 f_arg38)
      isplitl [HR_arg1]; · iexact HR_arg1
      isplitl [HR_arg4]; · iexact HR_arg4
      isplitl [HR_arg5]; · iexact HR_arg5
      isplitl [HR_arg6]; · iexact HR_arg6
      isplitl [HR_arg29]; · iexact HR_arg29
      isplitl [HR_arg31]; · iexact HR_arg31
      isplitl [HR_arg33]; · iexact HR_arg33
      isplitl [HW_arg13]; · iexact HW_arg13
      isplitl [HW_arg14]; · iexact HW_arg14
      isplitl [HW_arg17]; · iexact HW_arg17
      isplitl [HW_arg18]; · iexact HW_arg18
      isplitl [HW_arg34]; · iexact HW_arg34
      isplitl [HW_arg35]; · iexact HW_arg35
      isplitl [HW_arg36]; · iexact HW_arg36
      iexact HW_arg38
    · iintro %yld ⟨%h_res, HR_arg1, HR_arg4, HR_arg5, HR_arg6, HR_arg29, HR_arg31, HR_arg33, HW_arg13, HW_arg14, HW_arg17, HW_arg18, HW_arg34, HW_arg35, HW_arg36, HW_arg38⟩
      isplitl [HR_arg1]; · iexact HR_arg1
      isplitl [HR_arg4]; · iexact HR_arg4
      isplitl [HR_arg5]; · iexact HR_arg5
      isplitl [HR_arg6]; · iexact HR_arg6
      isplitl [HR_arg29]; · iexact HR_arg29
      isplitl [HR_arg31]; · iexact HR_arg31
      isplitl [HR_arg33]; · iexact HR_arg33
      simp only [st_k0_t1_succ, onTop]
      isplitl [HW_arg13]
      · iexists _; isplitl [HW_arg13]; · iexact HW_arg13
        ipureintro; rw [h_arg13, ← View.writes_append]
      isplitl [HW_arg14]
      · iexists _; isplitl [HW_arg14]; · iexact HW_arg14
        ipureintro; rw [h_arg14, ← View.writes_append]
      isplitl [HW_arg17]
      · iexists _; isplitl [HW_arg17]; · iexact HW_arg17
        ipureintro; rw [h_arg17, ← View.writes_append]
      isplitl [HW_arg18]
      · iexists _; isplitl [HW_arg18]; · iexact HW_arg18
        ipureintro; rw [h_arg18, ← View.writes_append]
      isplitl [HW_arg34]
      · iexists _; isplitl [HW_arg34]; · iexact HW_arg34
        ipureintro; rw [h_arg34, ← View.writes_append]
      isplitl [HW_arg35]
      · iexists _; isplitl [HW_arg35]; · iexact HW_arg35
        ipureintro; rw [h_arg35, ← View.writes_append]
      isplitl [HW_arg36]
      · iexists _; isplitl [HW_arg36]; · iexact HW_arg36
        ipureintro; rw [h_arg36, ← View.writes_append]
      isplitl [HW_arg38]
      · iexists _; isplitl [HW_arg38]; · iexact HW_arg38
        ipureintro; rw [h_arg38, ← View.writes_append]
      ipureintro; rw [h_res]

end Cert.KernelIdeal.Own

end
-- ==== Proof.RunKernelIdealA.lean ====
module

public import proofs.«01_k».proof.Proof.KitKernelIdeal
public import proofs.«01_k».proof.Proof.LoopKernelIdeal

@[expose] public section

set_option maxRecDepth 16384

/-! The run of the kernel body at the first grid point. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)

set_option maxHeartbeats 20000000 in
/-- What the body leaves in each tracked buffer at the first grid point, as the witnesses of its run: the inputs come back as they
    were, the tracked outputs and scratch at the witnesses, the other buffers at some contents. -/
@[irreducible] def runA (hc0 : cond0_0 i) (hc1 : ¬cond0_1 i)
    (x0 : Vec F S4x128x3584 .i8) (x1 : Vec F S4x128x56 .f32) (x2 : Vec F S4 .f32) (x3 : Vec F S128x7168 .f32) (x4 : Vec F S128x7168 .bf16) (x5 : Vec F S128x7168 .i8) (x6 : Vec F S128x56 .f32) (x7 : Vec F S1 .f32) (x8 : Vec F S1x1x128 .i32) (x9 : Vec F S128x7040 .f32) (x10 : Vec F S128x7040 .bf16) (x11 : Vec F S1x1x128 .i32) (y12 : Vec F S128x7168 .f32) (y13 : Vec F S128x7168 .f32) (y14 : Vec F S128x7168 .i8) (y15 : Vec F S128x56 .f32) (y16 : Vec F S128x7168 .fp8e4m3) (y17 : Vec F S1x1x56 .f32) (y18 : Vec F S128x3520 .i8) (y19 : Vec F S128x55 .f32) (y20 : Vec F S1x1x128 .f32) (y21 : Vec F S1x1x128 .f32) (y22 : Vec F S1x1x128 .f32) (y23 : Vec F S1x1x128 .f32) (y24 : Vec F S11 .f32) (y25 : Vec F S11 .f32) (y26 : Vec F S11 .f32) (y27 : Vec F S9 .f32) (s0 : Vec F S256x256 .fp8e4m3) (s1 : Vec F S256x128 .fp8e4m3) (s2 : Vec F S28x256x256 .bf16) (s3 : Vec F S640x128 .f32) (s4 : Vec F S640x256 .bf16) (s5 : Vec F S2x512x256 .f32) (s6 : Vec F S2x640x256 .f32) (s7 : Vec F S128x7168 .f32) (s8 : Vec F S128x7040 .f32) (s9 : Vec F S128x128 .f32) (s10 : Vec F S128x128 .f32) (s11 : Vec F S4x16x128 .f32) (s12 : Vec F S128x128 .f32) :
    Σ' (V12 : Vec F S128x7168 .f32), Σ' (V13 : Vec F S128x7168 .f32), Σ' (V14 : Vec F S128x7168 .i8), Σ' (V15 : Vec F S128x56 .f32), Σ' (V16 : Vec F S128x7168 .fp8e4m3), Σ' (V17 : Vec F S1x1x56 .f32), Σ' (V18 : Vec F S128x3520 .i8), Σ' (V19 : Vec F S128x55 .f32), Σ' (V20 : Vec F S1x1x128 .f32), Σ' (V21 : Vec F S1x1x128 .f32), Σ' (V22 : Vec F S1x1x128 .f32), Σ' (V23 : Vec F S1x1x128 .f32), Σ' (S0 : Vec F S256x256 .fp8e4m3), Σ' (S1 : Vec F S256x128 .fp8e4m3), Σ' (S2 : Vec F S28x256x256 .bf16), Σ' (S3 : Vec F S640x128 .f32), { S11 : Vec F S4x16x128 .f32 //
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ owns (c : Thread nD τ) arg16 fullShare y15 ∗ owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare y24 ∗ owns (c : Thread nD τ) arg26 fullShare y25 ∗ owns (c : Thread nD τ) arg27 fullShare y26 ∗ owns (c : Thread nD τ) arg28 fullShare y27 ∗ owns (c : Thread nD τ) arg29 fullShare s0 ∗ owns (c : Thread nD τ) arg30 fullShare s1 ∗ owns (c : Thread nD τ) arg31 fullShare s2 ∗ owns (c : Thread nD τ) arg32 fullShare s3 ∗ owns (c : Thread nD τ) arg33 fullShare s4 ∗ owns (c : Thread nD τ) arg34 fullShare s5 ∗ owns (c : Thread nD τ) arg35 fullShare s6 ∗ owns (c : Thread nD τ) arg36 fullShare s7 ∗ owns (c : Thread nD τ) arg37 fullShare s8 ∗ owns (c : Thread nD τ) arg38 fullShare s9 ∗ owns (c : Thread nD τ) arg39 fullShare s10 ∗ owns (c : Thread nD τ) arg40 fullShare s11 ∗ owns (c : Thread nD τ) arg41 fullShare s12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare V12 ∗ owns (c : Thread nD τ) arg14 fullShare V13 ∗ owns (c : Thread nD τ) arg15 fullShare V14 ∗ owns (c : Thread nD τ) arg16 fullShare V15 ∗ owns (c : Thread nD τ) arg17 fullShare V16 ∗ owns (c : Thread nD τ) arg18 fullShare V17 ∗ owns (c : Thread nD τ) arg19 fullShare V18 ∗ owns (c : Thread nD τ) arg20 fullShare V19 ∗ owns (c : Thread nD τ) arg21 fullShare V20 ∗ owns (c : Thread nD τ) arg22 fullShare V21 ∗ owns (c : Thread nD τ) arg23 fullShare V22 ∗ owns (c : Thread nD τ) arg24 fullShare V23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare S0 ∗ owns (c : Thread nD τ) arg30 fullShare S1 ∗ owns (c : Thread nD τ) arg31 fullShare S2 ∗ owns (c : Thread nD τ) arg32 fullShare S3 ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ owns (c : Thread nD τ) arg40 fullShare S11 ∗ (∃ d, owns (c : Thread nD τ) arg41 fullShare d)) -∗ K ⟨⟩))
      ⊢ wp frame (wpE (defs₀ (F := F)) Variants.none c none) E (cc0_diloco_outer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K } := by
  refine ⟨?_, ?_, ?_, ?_, ?_, ?_, ?_, ?_, ?_, ?_, ?_, ?_, ?_, ?_, ?_, ?_, ?_, fun E K => ?run⟩
  case run =>
    simp only [cc0_diloco_outer_eq_skeleton]; unfold cc0_diloco_outer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, ⟨%g8, %hg8, HS8⟩, ⟨%g9, %hg9, HS9⟩, ⟨%g10, %hg10, HS10⟩, ⟨%g11, %hg11, HS11⟩, ⟨%g12, %hg12, HS12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg18.eq_unread hf17
    obtain rfl := harg19.eq_unread hf18
    obtain rfl := harg20.eq_unread hf19
    obtain rfl := harg21.eq_unread hf20
    obtain rfl := harg22.eq_unread hf21
    obtain rfl := harg23.eq_unread hf22
    obtain rfl := harg24.eq_unread hf23
    obtain rfl := harg25.eq_unread hf24
    obtain rfl := harg26.eq_unread hf25
    obtain rfl := harg27.eq_unread hf26
    obtain rfl := harg28.eq_unread hf27
    obtain rfl := harg29.eq_unread hg0
    obtain rfl := harg30.eq_unread hg1
    obtain rfl := harg31.eq_unread hg2
    obtain rfl := harg32.eq_unread hg3
    obtain rfl := harg33.eq_unread hg4
    obtain rfl := harg34.eq_unread hg5
    obtain rfl := harg35.eq_unread hg6
    obtain rfl := harg36.eq_unread hg7
    obtain rfl := harg37.eq_unread hg8
    obtain rfl := harg38.eq_unread hg9
    obtain rfl := harg39.eq_unread hg10
    obtain rfl := harg40.eq_unread hg11
    obtain rfl := harg41.eq_unread hg12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [HS0]
    · iexists _; isplitr; swap; · iexact HS0
      ipureintro; rfl
    isplitl [HS1]
    · iexists _; isplitr; swap; · iexact HS1
      ipureintro; rfl
    isplitl [HS2]
    · iexists _; isplitr; swap; · iexact HS2
      ipureintro; rfl
    isplitl [HS3]
    · iexists _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _; isplitr; swap; · iexact HS11
      ipureintro; rfl
    iexists _, _; isplitr; swap; · iexact HS12
    ipureintro; rfl

end Cert.KernelIdeal.Own

end
-- ==== Proof.RunKernelIdealB.lean ====
module

public import proofs.«01_k».proof.Proof.KitKernelIdeal
public import proofs.«01_k».proof.Proof.LoopKernelIdeal

@[expose] public section

set_option maxRecDepth 16384

/-! The run of the kernel body at a grid point between the first and the last. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)

set_option maxHeartbeats 20000000 in
/-- What the body leaves in each tracked buffer at a grid point between the first and the last, as the witnesses of its run: the inputs come back as they
    were, the tracked outputs and scratch at the witnesses, the other buffers at some contents. -/
@[irreducible] def runB (hc0 : ¬cond0_0 i) (hc1 : ¬cond0_1 i)
    (x0 : Vec F S4x128x3584 .i8) (x1 : Vec F S4x128x56 .f32) (x2 : Vec F S4 .f32) (x3 : Vec F S128x7168 .f32) (x4 : Vec F S128x7168 .bf16) (x5 : Vec F S128x7168 .i8) (x6 : Vec F S128x56 .f32) (x7 : Vec F S1 .f32) (x8 : Vec F S1x1x128 .i32) (x9 : Vec F S128x7040 .f32) (x10 : Vec F S128x7040 .bf16) (x11 : Vec F S1x1x128 .i32) (y12 : Vec F S128x7168 .f32) (y13 : Vec F S128x7168 .f32) (y14 : Vec F S128x7168 .i8) (y15 : Vec F S128x56 .f32) (y16 : Vec F S128x7168 .fp8e4m3) (y17 : Vec F S1x1x56 .f32) (y18 : Vec F S128x3520 .i8) (y19 : Vec F S128x55 .f32) (y20 : Vec F S1x1x128 .f32) (y21 : Vec F S1x1x128 .f32) (y22 : Vec F S1x1x128 .f32) (y23 : Vec F S1x1x128 .f32) (y24 : Vec F S11 .f32) (y25 : Vec F S11 .f32) (y26 : Vec F S11 .f32) (y27 : Vec F S9 .f32) (s0 : Vec F S256x256 .fp8e4m3) (s1 : Vec F S256x128 .fp8e4m3) (s2 : Vec F S28x256x256 .bf16) (s3 : Vec F S640x128 .f32) (s4 : Vec F S640x256 .bf16) (s5 : Vec F S2x512x256 .f32) (s6 : Vec F S2x640x256 .f32) (s7 : Vec F S128x7168 .f32) (s8 : Vec F S128x7040 .f32) (s9 : Vec F S128x128 .f32) (s10 : Vec F S128x128 .f32) (s11 : Vec F S4x16x128 .f32) (s12 : Vec F S128x128 .f32) :
    Σ' (V12 : Vec F S128x7168 .f32), Σ' (V13 : Vec F S128x7168 .f32), Σ' (V14 : Vec F S128x7168 .i8), Σ' (V15 : Vec F S128x56 .f32), Σ' (V16 : Vec F S128x7168 .fp8e4m3), Σ' (V17 : Vec F S1x1x56 .f32), Σ' (V18 : Vec F S128x3520 .i8), Σ' (V19 : Vec F S128x55 .f32), Σ' (V20 : Vec F S1x1x128 .f32), Σ' (V21 : Vec F S1x1x128 .f32), Σ' (V22 : Vec F S1x1x128 .f32), Σ' (V23 : Vec F S1x1x128 .f32), Σ' (S0 : Vec F S256x256 .fp8e4m3), Σ' (S1 : Vec F S256x128 .fp8e4m3), Σ' (S2 : Vec F S28x256x256 .bf16), Σ' (S3 : Vec F S640x128 .f32), { S11 : Vec F S4x16x128 .f32 //
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ owns (c : Thread nD τ) arg16 fullShare y15 ∗ owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare y24 ∗ owns (c : Thread nD τ) arg26 fullShare y25 ∗ owns (c : Thread nD τ) arg27 fullShare y26 ∗ owns (c : Thread nD τ) arg28 fullShare y27 ∗ owns (c : Thread nD τ) arg29 fullShare s0 ∗ owns (c : Thread nD τ) arg30 fullShare s1 ∗ owns (c : Thread nD τ) arg31 fullShare s2 ∗ owns (c : Thread nD τ) arg32 fullShare s3 ∗ owns (c : Thread nD τ) arg33 fullShare s4 ∗ owns (c : Thread nD τ) arg34 fullShare s5 ∗ owns (c : Thread nD τ) arg35 fullShare s6 ∗ owns (c : Thread nD τ) arg36 fullShare s7 ∗ owns (c : Thread nD τ) arg37 fullShare s8 ∗ owns (c : Thread nD τ) arg38 fullShare s9 ∗ owns (c : Thread nD τ) arg39 fullShare s10 ∗ owns (c : Thread nD τ) arg40 fullShare s11 ∗ owns (c : Thread nD τ) arg41 fullShare s12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare V12 ∗ owns (c : Thread nD τ) arg14 fullShare V13 ∗ owns (c : Thread nD τ) arg15 fullShare V14 ∗ owns (c : Thread nD τ) arg16 fullShare V15 ∗ owns (c : Thread nD τ) arg17 fullShare V16 ∗ owns (c : Thread nD τ) arg18 fullShare V17 ∗ owns (c : Thread nD τ) arg19 fullShare V18 ∗ owns (c : Thread nD τ) arg20 fullShare V19 ∗ owns (c : Thread nD τ) arg21 fullShare V20 ∗ owns (c : Thread nD τ) arg22 fullShare V21 ∗ owns (c : Thread nD τ) arg23 fullShare V22 ∗ owns (c : Thread nD τ) arg24 fullShare V23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare S0 ∗ owns (c : Thread nD τ) arg30 fullShare S1 ∗ owns (c : Thread nD τ) arg31 fullShare S2 ∗ owns (c : Thread nD τ) arg32 fullShare S3 ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ owns (c : Thread nD τ) arg40 fullShare S11 ∗ (∃ d, owns (c : Thread nD τ) arg41 fullShare d)) -∗ K ⟨⟩))
      ⊢ wp frame (wpE (defs₀ (F := F)) Variants.none c none) E (cc0_diloco_outer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K } := by
  refine ⟨?_, ?_, ?_, ?_, ?_, ?_, ?_, ?_, ?_, ?_, ?_, ?_, ?_, ?_, ?_, ?_, ?_, fun E K => ?run⟩
  case run =>
    simp only [cc0_diloco_outer_eq_skeleton]; unfold cc0_diloco_outer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, ⟨%g8, %hg8, HS8⟩, ⟨%g9, %hg9, HS9⟩, ⟨%g10, %hg10, HS10⟩, ⟨%g11, %hg11, HS11⟩, ⟨%g12, %hg12, HS12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg18.eq_unread hf17
    obtain rfl := harg19.eq_unread hf18
    obtain rfl := harg20.eq_unread hf19
    obtain rfl := harg21.eq_unread hf20
    obtain rfl := harg22.eq_unread hf21
    obtain rfl := harg23.eq_unread hf22
    obtain rfl := harg24.eq_unread hf23
    obtain rfl := harg25.eq_unread hf24
    obtain rfl := harg26.eq_unread hf25
    obtain rfl := harg27.eq_unread hf26
    obtain rfl := harg28.eq_unread hf27
    obtain rfl := harg29.eq_unread hg0
    obtain rfl := harg30.eq_unread hg1
    obtain rfl := harg31.eq_unread hg2
    obtain rfl := harg32.eq_unread hg3
    obtain rfl := harg33.eq_unread hg4
    obtain rfl := harg34.eq_unread hg5
    obtain rfl := harg35.eq_unread hg6
    obtain rfl := harg36.eq_unread hg7
    obtain rfl := harg37.eq_unread hg8
    obtain rfl := harg38.eq_unread hg9
    obtain rfl := harg39.eq_unread hg10
    obtain rfl := harg40.eq_unread hg11
    obtain rfl := harg41.eq_unread hg12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [HS0]
    · iexists _; isplitr; swap; · iexact HS0
      ipureintro; rfl
    isplitl [HS1]
    · iexists _; isplitr; swap; · iexact HS1
      ipureintro; rfl
    isplitl [HS2]
    · iexists _; isplitr; swap; · iexact HS2
      ipureintro; rfl
    isplitl [HS3]
    · iexists _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _; isplitr; swap; · iexact HS11
      ipureintro; rfl
    iexists _, _; isplitr; swap; · iexact HS12
    ipureintro; rfl

end Cert.KernelIdeal.Own

end
-- ==== Proof.RunKernelIdealC.lean ====
module

public import proofs.«01_k».proof.Proof.KitKernelIdeal
public import proofs.«01_k».proof.Proof.LoopKernelIdeal

@[expose] public section

set_option maxRecDepth 16384

/-! The run of the kernel body at the last grid point. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)

set_option maxHeartbeats 20000000 in
/-- What the body leaves in each tracked buffer at the last grid point, as the witnesses of its run: the inputs come back as they
    were, the tracked outputs and scratch at the witnesses, the other buffers at some contents. -/
@[irreducible] def runC (hc0 : ¬cond0_0 i) (hc1 : cond0_1 i)
    (x0 : Vec F S4x128x3584 .i8) (x1 : Vec F S4x128x56 .f32) (x2 : Vec F S4 .f32) (x3 : Vec F S128x7168 .f32) (x4 : Vec F S128x7168 .bf16) (x5 : Vec F S128x7168 .i8) (x6 : Vec F S128x56 .f32) (x7 : Vec F S1 .f32) (x8 : Vec F S1x1x128 .i32) (x9 : Vec F S128x7040 .f32) (x10 : Vec F S128x7040 .bf16) (x11 : Vec F S1x1x128 .i32) (y12 : Vec F S128x7168 .f32) (y13 : Vec F S128x7168 .f32) (y14 : Vec F S128x7168 .i8) (y15 : Vec F S128x56 .f32) (y16 : Vec F S128x7168 .fp8e4m3) (y17 : Vec F S1x1x56 .f32) (y18 : Vec F S128x3520 .i8) (y19 : Vec F S128x55 .f32) (y20 : Vec F S1x1x128 .f32) (y21 : Vec F S1x1x128 .f32) (y22 : Vec F S1x1x128 .f32) (y23 : Vec F S1x1x128 .f32) (y24 : Vec F S11 .f32) (y25 : Vec F S11 .f32) (y26 : Vec F S11 .f32) (y27 : Vec F S9 .f32) (s0 : Vec F S256x256 .fp8e4m3) (s1 : Vec F S256x128 .fp8e4m3) (s2 : Vec F S28x256x256 .bf16) (s3 : Vec F S640x128 .f32) (s4 : Vec F S640x256 .bf16) (s5 : Vec F S2x512x256 .f32) (s6 : Vec F S2x640x256 .f32) (s7 : Vec F S128x7168 .f32) (s8 : Vec F S128x7040 .f32) (s9 : Vec F S128x128 .f32) (s10 : Vec F S128x128 .f32) (s11 : Vec F S4x16x128 .f32) (s12 : Vec F S128x128 .f32) :
    Σ' (V12 : Vec F S128x7168 .f32), Σ' (V13 : Vec F S128x7168 .f32), Σ' (V14 : Vec F S128x7168 .i8), Σ' (V15 : Vec F S128x56 .f32), Σ' (V16 : Vec F S128x7168 .fp8e4m3), Σ' (V17 : Vec F S1x1x56 .f32), Σ' (V18 : Vec F S128x3520 .i8), Σ' (V19 : Vec F S128x55 .f32), Σ' (V20 : Vec F S1x1x128 .f32), Σ' (V21 : Vec F S1x1x128 .f32), Σ' (V22 : Vec F S1x1x128 .f32), Σ' (V23 : Vec F S1x1x128 .f32), Σ' (S0 : Vec F S256x256 .fp8e4m3), Σ' (S1 : Vec F S256x128 .fp8e4m3), Σ' (S2 : Vec F S28x256x256 .bf16), Σ' (S3 : Vec F S640x128 .f32), { S11 : Vec F S4x16x128 .f32 //
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ owns (c : Thread nD τ) arg16 fullShare y15 ∗ owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare y24 ∗ owns (c : Thread nD τ) arg26 fullShare y25 ∗ owns (c : Thread nD τ) arg27 fullShare y26 ∗ owns (c : Thread nD τ) arg28 fullShare y27 ∗ owns (c : Thread nD τ) arg29 fullShare s0 ∗ owns (c : Thread nD τ) arg30 fullShare s1 ∗ owns (c : Thread nD τ) arg31 fullShare s2 ∗ owns (c : Thread nD τ) arg32 fullShare s3 ∗ owns (c : Thread nD τ) arg33 fullShare s4 ∗ owns (c : Thread nD τ) arg34 fullShare s5 ∗ owns (c : Thread nD τ) arg35 fullShare s6 ∗ owns (c : Thread nD τ) arg36 fullShare s7 ∗ owns (c : Thread nD τ) arg37 fullShare s8 ∗ owns (c : Thread nD τ) arg38 fullShare s9 ∗ owns (c : Thread nD τ) arg39 fullShare s10 ∗ owns (c : Thread nD τ) arg40 fullShare s11 ∗ owns (c : Thread nD τ) arg41 fullShare s12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare V12 ∗ owns (c : Thread nD τ) arg14 fullShare V13 ∗ owns (c : Thread nD τ) arg15 fullShare V14 ∗ owns (c : Thread nD τ) arg16 fullShare V15 ∗ owns (c : Thread nD τ) arg17 fullShare V16 ∗ owns (c : Thread nD τ) arg18 fullShare V17 ∗ owns (c : Thread nD τ) arg19 fullShare V18 ∗ owns (c : Thread nD τ) arg20 fullShare V19 ∗ owns (c : Thread nD τ) arg21 fullShare V20 ∗ owns (c : Thread nD τ) arg22 fullShare V21 ∗ owns (c : Thread nD τ) arg23 fullShare V22 ∗ owns (c : Thread nD τ) arg24 fullShare V23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare S0 ∗ owns (c : Thread nD τ) arg30 fullShare S1 ∗ owns (c : Thread nD τ) arg31 fullShare S2 ∗ owns (c : Thread nD τ) arg32 fullShare S3 ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ owns (c : Thread nD τ) arg40 fullShare S11 ∗ (∃ d, owns (c : Thread nD τ) arg41 fullShare d)) -∗ K ⟨⟩))
      ⊢ wp frame (wpE (defs₀ (F := F)) Variants.none c none) E (cc0_diloco_outer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K } := by
  refine ⟨?_, ?_, ?_, ?_, ?_, ?_, ?_, ?_, ?_, ?_, ?_, ?_, ?_, ?_, ?_, ?_, ?_, fun E K => ?run⟩
  case run =>
    simp only [cc0_diloco_outer_eq_skeleton]; unfold cc0_diloco_outer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%g7, %hg7, HS7⟩, ⟨%g8, %hg8, HS8⟩, ⟨%g9, %hg9, HS9⟩, ⟨%g10, %hg10, HS10⟩, ⟨%g11, %hg11, HS11⟩, ⟨%g12, %hg12, HS12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg18.eq_unread hf17
    obtain rfl := harg19.eq_unread hf18
    obtain rfl := harg20.eq_unread hf19
    obtain rfl := harg21.eq_unread hf20
    obtain rfl := harg22.eq_unread hf21
    obtain rfl := harg23.eq_unread hf22
    obtain rfl := harg24.eq_unread hf23
    obtain rfl := harg25.eq_unread hf24
    obtain rfl := harg26.eq_unread hf25
    obtain rfl := harg27.eq_unread hf26
    obtain rfl := harg28.eq_unread hf27
    obtain rfl := harg29.eq_unread hg0
    obtain rfl := harg30.eq_unread hg1
    obtain rfl := harg31.eq_unread hg2
    obtain rfl := harg32.eq_unread hg3
    obtain rfl := harg33.eq_unread hg4
    obtain rfl := harg34.eq_unread hg5
    obtain rfl := harg35.eq_unread hg6
    obtain rfl := harg36.eq_unread hg7
    obtain rfl := harg37.eq_unread hg8
    obtain rfl := harg38.eq_unread hg9
    obtain rfl := harg39.eq_unread hg10
    obtain rfl := harg40.eq_unread hg11
    obtain rfl := harg41.eq_unread hg12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [HS0]
    · iexists _; isplitr; swap; · iexact HS0
      ipureintro; rfl
    isplitl [HS1]
    · iexists _; isplitr; swap; · iexact HS1
      ipureintro; rfl
    isplitl [HS2]
    · iexists _; isplitr; swap; · iexact HS2
      ipureintro; rfl
    isplitl [HS3]
    · iexists _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _; isplitr; swap; · iexact HS11
      ipureintro; rfl
    iexists _, _; isplitr; swap; · iexact HS12
    ipureintro; rfl

end Cert.KernelIdeal.Own

end
-- ==== Proof.StepKernelIdeal.lean ====
module

public import proofs.«01_k».proof.Proof.RunKernelIdealA
public import proofs.«01_k».proof.Proof.RunKernelIdealB
public import proofs.«01_k».proof.Proof.RunKernelIdealC
public import Idealize.ShloMosaic.Lib.Pipeline.DatRel
public import Idealize.ShloMosaic.Lib.Claim

@[expose] public section

set_option maxRecDepth 16384

/-! The frame: the body at every grid point from its runs, and the launch of the pipeline. What the tracked outputs hold after each point is kept as a relation: some contents the runs can leave, from scratch contents that the points before can leave. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of the output windows before a point. -/
structure Outs (F : FTy → Type) [FloatOps F] where
  y12 : Vec F S128x7168 .f32
  y13 : Vec F S128x7168 .f32
  y14 : Vec F S128x7168 .i8
  y15 : Vec F S128x56 .f32
  y16 : Vec F S128x7168 .fp8e4m3
  y17 : Vec F S1x1x56 .f32
  y18 : Vec F S128x3520 .i8
  y19 : Vec F S128x55 .f32
  y20 : Vec F S1x1x128 .f32
  y21 : Vec F S1x1x128 .f32
  y22 : Vec F S1x1x128 .f32
  y23 : Vec F S1x1x128 .f32
  y24 : Vec F S11 .f32
  y25 : Vec F S11 .f32
  y26 : Vec F S11 .f32
  y27 : Vec F S9 .f32

/-- Contents of the scratch operands before a point. -/
structure Scr (F : FTy → Type) [FloatOps F] where
  s0 : Vec F S256x256 .fp8e4m3
  s1 : Vec F S256x128 .fp8e4m3
  s2 : Vec F S28x256x256 .bf16
  s3 : Vec F S640x128 .f32
  s4 : Vec F S640x256 .bf16
  s5 : Vec F S2x512x256 .f32
  s6 : Vec F S2x640x256 .f32
  s7 : Vec F S128x7168 .f32
  s8 : Vec F S128x7040 .f32
  s9 : Vec F S128x128 .f32
  s10 : Vec F S128x128 .f32
  s11 : Vec F S4x16x128 .f32
  s12 : Vec F S128x128 .f32

/-- What a point leaves in the tracked outputs and in the carried scratch. -/
structure Res (F : FTy → Type) [FloatOps F] where
  v12 : Vec F S128x7168 .f32
  v13 : Vec F S128x7168 .f32
  v14 : Vec F S128x7168 .i8
  v15 : Vec F S128x56 .f32
  v16 : Vec F S128x7168 .fp8e4m3
  v17 : Vec F S1x1x56 .f32
  v18 : Vec F S128x3520 .i8
  v19 : Vec F S128x55 .f32
  v20 : Vec F S1x1x128 .f32
  v21 : Vec F S1x1x128 .f32
  v22 : Vec F S1x1x128 .f32
  v23 : Vec F S1x1x128 .f32
  r0 : Vec F S256x256 .fp8e4m3
  r1 : Vec F S256x128 .fp8e4m3
  r2 : Vec F S28x256x256 .bf16
  r3 : Vec F S640x128 .f32
  r11 : Vec F S4x16x128 .f32

/-- What a run names of the contents it leaves. -/
def resOf {P : Vec F S128x7168 .f32 → Vec F S128x7168 .f32 → Vec F S128x7168 .i8 → Vec F S128x56 .f32 → Vec F S128x7168 .fp8e4m3 → Vec F S1x1x56 .f32 → Vec F S128x3520 .i8 → Vec F S128x55 .f32 → Vec F S1x1x128 .f32 → Vec F S1x1x128 .f32 → Vec F S1x1x128 .f32 → Vec F S1x1x128 .f32 → Vec F S256x256 .fp8e4m3 → Vec F S256x128 .fp8e4m3 → Vec F S28x256x256 .bf16 → Vec F S640x128 .f32 → Vec F S4x16x128 .f32 → Prop}
    (x : Σ' (v12 : Vec F S128x7168 .f32), Σ' (v13 : Vec F S128x7168 .f32), Σ' (v14 : Vec F S128x7168 .i8), Σ' (v15 : Vec F S128x56 .f32), Σ' (v16 : Vec F S128x7168 .fp8e4m3), Σ' (v17 : Vec F S1x1x56 .f32), Σ' (v18 : Vec F S128x3520 .i8), Σ' (v19 : Vec F S128x55 .f32), Σ' (v20 : Vec F S1x1x128 .f32), Σ' (v21 : Vec F S1x1x128 .f32), Σ' (v22 : Vec F S1x1x128 .f32), Σ' (v23 : Vec F S1x1x128 .f32), Σ' (r0 : Vec F S256x256 .fp8e4m3), Σ' (r1 : Vec F S256x128 .fp8e4m3), Σ' (r2 : Vec F S28x256x256 .bf16), Σ' (r3 : Vec F S640x128 .f32), { r11 : Vec F S4x16x128 .f32 // P v12 v13 v14 v15 v16 v17 v18 v19 v20 v21 v22 v23 r0 r1 r2 r3 r11 }) : Res F :=
  ⟨x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2.1, x.2.2.2.2.2.2.2.2.2.2.2.2.2.2.2.2.1⟩

/-- Case A's run at point `t`. -/
abbrev atA (c : Dev nD) (t : Fin cfg0.N) (h0 : t.val % 66 = 0) (h1 : ¬t.val % 66 = 65) (y : Outs F) (s : Scr F) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y.y12 y.y13 y.y14 y.y15 y.y16 y.y17 y.y18 y.y19 y.y20 y.y21 y.y22 y.y23 y.y24 y.y25 y.y26 y.y27 s.s0 s.s1 s.s2 s.s3 s.s4 s.s5 s.s6 s.s7 s.s8 s.s9 s.s10 s.s11 s.s12

/-- What case A leaves. -/
def resA (c : Dev nD) (t : Fin cfg0.N) (h0 : t.val % 66 = 0) (h1 : ¬t.val % 66 = 65) (y : Outs F) (s : Scr F) : Res F :=
  resOf (atA m c t h0 h1 y s)

/-- Case B's run at point `t`. -/
abbrev atB (c : Dev nD) (t : Fin cfg0.N) (h0 : ¬t.val % 66 = 0) (h1 : ¬t.val % 66 = 65) (y : Outs F) (s : Scr F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y.y12 y.y13 y.y14 y.y15 y.y16 y.y17 y.y18 y.y19 y.y20 y.y21 y.y22 y.y23 y.y24 y.y25 y.y26 y.y27 s.s0 s.s1 s.s2 s.s3 s.s4 s.s5 s.s6 s.s7 s.s8 s.s9 s.s10 s.s11 s.s12

/-- What case B leaves. -/
def resB (c : Dev nD) (t : Fin cfg0.N) (h0 : ¬t.val % 66 = 0) (h1 : ¬t.val % 66 = 65) (y : Outs F) (s : Scr F) : Res F :=
  resOf (atB m c t h0 h1 y s)

/-- Case C's run at point `t`. -/
abbrev atC (c : Dev nD) (t : Fin cfg0.N) (h0 : ¬t.val % 66 = 0) (h1 : t.val % 66 = 65) (y : Outs F) (s : Scr F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y.y12 y.y13 y.y14 y.y15 y.y16 y.y17 y.y18 y.y19 y.y20 y.y21 y.y22 y.y23 y.y24 y.y25 y.y26 y.y27 s.s0 s.s1 s.s2 s.s3 s.s4 s.s5 s.s6 s.s7 s.s8 s.s9 s.s10 s.s11 s.s12

/-- What case C leaves. -/
def resC (c : Dev nD) (t : Fin cfg0.N) (h0 : ¬t.val % 66 = 0) (h1 : t.val % 66 = 65) (y : Outs F) (s : Scr F) : Res F :=
  resOf (atC m c t h0 h1 y s)

/-- What point `t` leaves, from the contents it finds. -/
def step (c : Dev nD) (t : Fin cfg0.N) (y : Outs F) (s : Scr F) : Res F :=
  if h0 : t.val % 66 = 0 then
    if h1 : t.val % 66 = 65 then absurd (h0.symm.trans h1) (by decide) else resA m c t h0 h1 y s
  else if h1 : t.val % 66 = 65 then resC m c t h0 h1 y s else resB m c t h0 h1 y s

theorem step_A (c : Dev nD) (t : Fin cfg0.N) (h0 : t.val % 66 = 0) (h1 : ¬t.val % 66 = 65) (y : Outs F) (s : Scr F) :
    step m c t y s = resA m c t h0 h1 y s := by
  unfold step; rw [dif_pos h0, dif_neg h1]

theorem step_B (c : Dev nD) (t : Fin cfg0.N) (h0 : ¬t.val % 66 = 0) (h1 : ¬t.val % 66 = 65) (y : Outs F) (s : Scr F) :
    step m c t y s = resB m c t h0 h1 y s := by
  unfold step; rw [dif_neg h0, dif_neg h1]

theorem step_C (c : Dev nD) (t : Fin cfg0.N) (h0 : ¬t.val % 66 = 0) (h1 : t.val % 66 = 65) (y : Outs F) (s : Scr F) :
    step m c t y s = resC m c t h0 h1 y s := by
  unfold step; rw [dif_neg h0, dif_pos h1]

/-- The scratch contents that may be found before point `n`: anything before the first, afterwards what the point before
    leaves in the carried scratch, from contents it may find. -/
def Reach (c : Dev nD) : (n : ℕ) → n ≤ cfg0.N → Scr F → Prop
  | 0, _, _ => True
  | n + 1, h, s => ∃ (y : Outs F) (s' : Scr F), Reach c n (Nat.le_of_succ_le h) s' ∧ s.s0 = (step m c ⟨n, h⟩ y s').r0 ∧ s.s1 = (step m c ⟨n, h⟩ y s').r1 ∧ s.s2 = (step m c ⟨n, h⟩ y s').r2 ∧ s.s3 = (step m c ⟨n, h⟩ y s').r3 ∧ s.s11 = (step m c ⟨n, h⟩ y s').r11

/-- The invariant before point `n`: the scratch at contents that may be found there. -/
def PhiR (c : Dev nD) (n : ℕ) (h : n ≤ cfg0.N) : sProp 𝕄 :=
  iprop(∃ s : Scr F, ⌜Reach m c n h s⌝ ∗ iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4 ∗ owns (c : Thread nD τ) scM0_5 fullShare s.s5 ∗ owns (c : Thread nD τ) scM0_6 fullShare s.s6 ∗ owns (c : Thread nD τ) scM0_7 fullShare s.s7 ∗ owns (c : Thread nD τ) scM0_8 fullShare s.s8 ∗ owns (c : Thread nD τ) scM0_9 fullShare s.s9 ∗ owns (c : Thread nD τ) scM0_10 fullShare s.s10 ∗ owns (c : Thread nD τ) scM0_11 fullShare s.s11 ∗ owns (c : Thread nD τ) scM0_12 fullShare s.s12) ∗ (∃ r, prngReg c r))

/-- What point `t` may leave in window 12. -/
def Leaves12 (c : Dev nD) (t : Fin cfg0.N) (X : Vec F S128x7168 .f32) : Prop :=
  ∃ (y : Outs F) (s : Scr F), Reach m c t.val (Nat.le_of_lt t.isLt) s ∧ X = (step m c t y s).v12

/-- What point `t` may leave in window 13. -/
def Leaves13 (c : Dev nD) (t : Fin cfg0.N) (X : Vec F S128x7168 .f32) : Prop :=
  ∃ (y : Outs F) (s : Scr F), Reach m c t.val (Nat.le_of_lt t.isLt) s ∧ X = (step m c t y s).v13

/-- What point `t` may leave in window 14. -/
def Leaves14 (c : Dev nD) (t : Fin cfg0.N) (X : Vec F S128x7168 .i8) : Prop :=
  ∃ (y : Outs F) (s : Scr F), Reach m c t.val (Nat.le_of_lt t.isLt) s ∧ X = (step m c t y s).v14

/-- What point `t` may leave in window 15. -/
def Leaves15 (c : Dev nD) (t : Fin cfg0.N) (X : Vec F S128x56 .f32) : Prop :=
  ∃ (y : Outs F) (s : Scr F), Reach m c t.val (Nat.le_of_lt t.isLt) s ∧ X = (step m c t y s).v15

/-- What point `t` may leave in window 16. -/
def Leaves16 (c : Dev nD) (t : Fin cfg0.N) (X : Vec F S128x7168 .fp8e4m3) : Prop :=
  ∃ (y : Outs F) (s : Scr F), Reach m c t.val (Nat.le_of_lt t.isLt) s ∧ X = (step m c t y s).v16

/-- What point `t` may leave in window 17. -/
def Leaves17 (c : Dev nD) (t : Fin cfg0.N) (X : Vec F S1x1x56 .f32) : Prop :=
  ∃ (y : Outs F) (s : Scr F), Reach m c t.val (Nat.le_of_lt t.isLt) s ∧ X = (step m c t y s).v17

/-- What point `t` may leave in window 18. -/
def Leaves18 (c : Dev nD) (t : Fin cfg0.N) (X : Vec F S128x3520 .i8) : Prop :=
  ∃ (y : Outs F) (s : Scr F), Reach m c t.val (Nat.le_of_lt t.isLt) s ∧ X = (step m c t y s).v18

/-- What point `t` may leave in window 19. -/
def Leaves19 (c : Dev nD) (t : Fin cfg0.N) (X : Vec F S128x55 .f32) : Prop :=
  ∃ (y : Outs F) (s : Scr F), Reach m c t.val (Nat.le_of_lt t.isLt) s ∧ X = (step m c t y s).v19

/-- What point `t` may leave in window 20. -/
def Leaves20 (c : Dev nD) (t : Fin cfg0.N) (X : Vec F S1x1x128 .f32) : Prop :=
  ∃ (y : Outs F) (s : Scr F), Reach m c t.val (Nat.le_of_lt t.isLt) s ∧ X = (step m c t y s).v20

/-- What point `t` may leave in window 21. -/
def Leaves21 (c : Dev nD) (t : Fin cfg0.N) (X : Vec F S1x1x128 .f32) : Prop :=
  ∃ (y : Outs F) (s : Scr F), Reach m c t.val (Nat.le_of_lt t.isLt) s ∧ X = (step m c t y s).v21

/-- What point `t` may leave in window 22. -/
def Leaves22 (c : Dev nD) (t : Fin cfg0.N) (X : Vec F S1x1x128 .f32) : Prop :=
  ∃ (y : Outs F) (s : Scr F), Reach m c t.val (Nat.le_of_lt t.isLt) s ∧ X = (step m c t y s).v22

/-- What point `t` may leave in window 23. -/
def Leaves23 (c : Dev nD) (t : Fin cfg0.N) (X : Vec F S1x1x128 .f32) : Prop :=
  ∃ (y : Outs F) (s : Scr F), Reach m c t.val (Nat.le_of_lt t.isLt) s ∧ X = (step m c t y s).v23

/-- The output windows held to a relation (here every one). -/
def outs0 : Fin 28 → Bool := fun w => w.val == 12 || w.val == 13 || w.val == 14 || w.val == 15 || w.val == 16 || w.val == 17 || w.val == 18 || w.val == 19 || w.val == 20 || w.val == 21 || w.val == 22 || w.val == 23 || w.val == 24 || w.val == 25 || w.val == 26 || w.val == 27

/-- The proof data of the pipeline on core `c`: the arrays as the region finds them; after the body each input's buffer at
    its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨_ + 28, h⟩ => absurd h (Nat.not_lt.2 (Nat.le_add_left _ _))
  Φ t := PhiR m c t.val (Nat.le_of_lt_succ t.isLt)
  q _ := fullShare
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What each output window is held to. -/
def Rl (c : Dev nD) : (w : Fin cfg0.W) → Fin cfg0.N → ((cfg0.win w).block.Idx → Elt F (cfg0.win w).elt) → Prop := fun w t => match w with
  | ⟨12, _⟩ => fun X => Leaves12 m c t X
  | ⟨13, _⟩ => fun X => Leaves13 m c t X
  | ⟨14, _⟩ => fun X => Leaves14 m c t X
  | ⟨15, _⟩ => fun X => Leaves15 m c t X
  | ⟨16, _⟩ => fun X => Leaves16 m c t X
  | ⟨17, _⟩ => fun X => Leaves17 m c t X
  | ⟨18, _⟩ => fun X => Leaves18 m c t X
  | ⟨19, _⟩ => fun X => Leaves19 m c t X
  | ⟨20, _⟩ => fun X => Leaves20 m c t X
  | ⟨21, _⟩ => fun X => Leaves21 m c t X
  | ⟨22, _⟩ => fun X => Leaves22 m c t X
  | ⟨23, _⟩ => fun X => Leaves23 m c t X
  | _ => fun _ => True

/-- The relational data of the run. -/
abbrev rdat (c : Dev nD) := (dats m 0 c).toRRel outs0 (Rl m c)

end Cert.KernelIdeal.Own

end
-- ==== Proof.FrameKernelIdeal.lean ====
module

public import proofs.«01_k».proof.Proof.StepKernelIdeal

@[expose] public section

set_option maxRecDepth 16384

/-! The body at every grid point from its runs, and the launch of the pipeline. -/

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y)
    ∗ (∃ Y, ⌜(rdat m c).Finds 15 t Y⌝ ∗ owns (c : Thread nD τ) (ms0_15 t) fullShare Y)
    ∗ (∃ Y, ⌜(rdat m c).Finds 16 t Y⌝ ∗ owns (c : Thread nD τ) (ms0_16 t) fullShare Y)
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y)
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y)
    ∗ (∃ Y, ⌜(rdat m c).Finds 21 t Y⌝ ∗ owns (c : Thread nD τ) (ms0_21 t) fullShare Y)
    ∗ (∃ Y, ⌜(rdat m c).Finds 22 t Y⌝ ∗ owns (c : Thread nD τ) (ms0_22 t) fullShare Y)
    ∗ (∃ Y, ⌜(rdat m c).Finds 23 t Y⌝ ∗ owns (c : Thread nD τ) (ms0_23 t) fullShare Y)
    ∗ (∃ Y, ⌜(rdat m c).Finds 24 t Y⌝ ∗ owns (c : Thread nD τ) (ms0_24 t) fullShare Y)
    ∗ (∃ Y, ⌜(rdat m c).Finds 25 t Y⌝ ∗ owns (c : Thread nD τ) (ms0_25 t) fullShare Y)
    ∗ (∃ Y, ⌜(rdat m c).Finds 26 t Y⌝ ∗ owns (c : Thread nD τ) (ms0_26 t) fullShare Y)
    ∗ (∃ Y, ⌜(rdat m c).Finds 27 t Y⌝ ∗ owns (c : Thread nD τ) (ms0_27 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ X, ⌜Leaves12 m c t X⌝ ∗ owns (c : Thread nD τ) (ms0_12 t) fullShare X)
    ∗ (∃ X, ⌜Leaves13 m c t X⌝ ∗ owns (c : Thread nD τ) (ms0_13 t) fullShare X)
    ∗ (∃ X, ⌜Leaves14 m c t X⌝ ∗ owns (c : Thread nD τ) (ms0_14 t) fullShare X)
    ∗ (∃ X, ⌜Leaves15 m c t X⌝ ∗ owns (c : Thread nD τ) (ms0_15 t) fullShare X)
    ∗ (∃ X, ⌜Leaves16 m c t X⌝ ∗ owns (c : Thread nD τ) (ms0_16 t) fullShare X)
    ∗ (∃ X, ⌜Leaves17 m c t X⌝ ∗ owns (c : Thread nD τ) (ms0_17 t) fullShare X)
    ∗ (∃ X, ⌜Leaves18 m c t X⌝ ∗ owns (c : Thread nD τ) (ms0_18 t) fullShare X)
    ∗ (∃ X, ⌜Leaves19 m c t X⌝ ∗ owns (c : Thread nD τ) (ms0_19 t) fullShare X)
    ∗ (∃ X, ⌜Leaves20 m c t X⌝ ∗ owns (c : Thread nD τ) (ms0_20 t) fullShare X)
    ∗ (∃ X, ⌜Leaves21 m c t X⌝ ∗ owns (c : Thread nD τ) (ms0_21 t) fullShare X)
    ∗ (∃ X, ⌜Leaves22 m c t X⌝ ∗ owns (c : Thread nD τ) (ms0_22 t) fullShare X)
    ∗ (∃ X, ⌜Leaves23 m c t X⌝ ∗ owns (c : Thread nD τ) (ms0_23 t) fullShare X)
    ∗ (∃ X, ⌜True⌝ ∗ owns (c : Thread nD τ) (ms0_24 t) fullShare X)
    ∗ (∃ X, ⌜True⌝ ∗ owns (c : Thread nD τ) (ms0_25 t) fullShare X)
    ∗ (∃ X, ⌜True⌝ ∗ owns (c : Thread nD τ) (ms0_26 t) fullShare X)
    ∗ (∃ X, ⌜True⌝ ∗ owns (c : Thread nD τ) (ms0_27 t) fullShare X))

set_option maxHeartbeats 48000000 in
/-- The body at any point: the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11,
    after0_0, after0_1, after0_2, after0_3, after0_4, after0_5, after0_6, after0_7, after0_8, after0_9, after0_10, after0_11]
  rw [show (dats m 0 c).owesAt () t.succ = (dats m 0 c).owesAt () t.castSucc from rfl]
  rw [show (dats m 0 c).Φ t.succ = PhiR m c (t.val + 1) t.isLt from rfl,
    show (dats m 0 c).Φ t.castSucc = PhiR m c t.val (Nat.le_of_lt t.isLt) from rfl]
  unfold PhiR
  iintro ⟨⟨%s, %hs, ⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, -, H12⟩, ⟨%d13, -, H13⟩, ⟨%d14, -, H14⟩, ⟨%d15, -, H15⟩, ⟨%d16, -, H16⟩, ⟨%d17, -, H17⟩, ⟨%d18, -, H18⟩, ⟨%d19, -, H19⟩, ⟨%d20, -, H20⟩, ⟨%d21, -, H21⟩, ⟨%d22, -, H22⟩, ⟨%d23, -, H23⟩, ⟨%d24, -, H24⟩, ⟨%d25, -, H25⟩, ⟨%d26, -, H26⟩, ⟨%d27, -, H27⟩⟩
  have hN : t.val < 66 := lt_of_lt_of_eq t.isLt (show cfg0.N = 66 from N_0)
  by_cases h0 : t.val % 66 = 0
  · have h1 : ¬t.val % 66 = 65 := by omega
    have hstep := step_A m c t h0 h1 ⟨d12, d13, d14, d15, d16, d17, d18, d19, d20, d21, d22, d23, d24, d25, d26, d27⟩ s
    unfold resA at hstep; revert hstep
    generalize atA m c t h0 h1 ⟨d12, d13, d14, d15, d16, d17, d18, d19, d20, d21, d22, d23, d24, d25, d26, d27⟩ s = R
    intro hstep; obtain ⟨v12, v13, v14, v15, v16, v17, v18, v19, v20, v21, v22, v23, r0, r1, r2, r3, r11, hR⟩ := R; dsimp only [resOf] at hstep
    iapply (hR Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, HS0, HS1, HS2, HS3, ⟨%eS4, HS4⟩, ⟨%eS5, HS5⟩, ⟨%eS6, HS6⟩, ⟨%eS7, HS7⟩, ⟨%eS8, HS8⟩, ⟨%eS9, HS9⟩, ⟨%eS10, HS10⟩, HS11, ⟨%eS12, HS12⟩⟩
    isplitl [HS0 HS1 HS2 HS3 HS4 HS5 HS6 HS7 HS8 HS9 HS10 HS11 HS12 Hg]
    · iexists (⟨r0, r1, r2, r3, eS4, eS5, eS6, eS7, eS8, eS9, eS10, r11, eS12⟩ : Scr F)
      isplitr
      · ipureintro; exact ⟨⟨d12, d13, d14, d15, d16, d17, d18, d19, d20, d21, d22, d23, d24, d25, d26, d27⟩, s, hs, (congrArg Res.r0 hstep).symm, (congrArg Res.r1 hstep).symm, (congrArg Res.r2 hstep).symm, (congrArg Res.r3 hstep).symm, (congrArg Res.r11 hstep).symm⟩
      dsimp only
      isplitl [HS0 HS1 HS2 HS3 HS4 HS5 HS6 HS7 HS8 HS9 HS10 HS11 HS12]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        iexact HS12
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro; exact ⟨_, s, hs, (congrArg Res.v12 hstep).symm⟩
    isplitl [H13]
    · iexists _; isplitr; swap; · iexact H13
      ipureintro; exact ⟨_, s, hs, (congrArg Res.v13 hstep).symm⟩
    isplitl [H14]
    · iexists _; isplitr; swap; · iexact H14
      ipureintro; exact ⟨_, s, hs, (congrArg Res.v14 hstep).symm⟩
    isplitl [H15]
    · iexists _; isplitr; swap; · iexact H15
      ipureintro; exact ⟨_, s, hs, (congrArg Res.v15 hstep).symm⟩
    isplitl [H16]
    · iexists _; isplitr; swap; · iexact H16
      ipureintro; exact ⟨_, s, hs, (congrArg Res.v16 hstep).symm⟩
    isplitl [H17]
    · iexists _; isplitr; swap; · iexact H17
      ipureintro; exact ⟨_, s, hs, (congrArg Res.v17 hstep).symm⟩
    isplitl [H18]
    · iexists _; isplitr; swap; · iexact H18
      ipureintro; exact ⟨_, s, hs, (congrArg Res.v18 hstep).symm⟩
    isplitl [H19]
    · iexists _; isplitr; swap; · iexact H19
      ipureintro; exact ⟨_, s, hs, (congrArg Res.v19 hstep).symm⟩
    isplitl [H20]
    · iexists _; isplitr; swap; · iexact H20
      ipureintro; exact ⟨_, s, hs, (congrArg Res.v20 hstep).symm⟩
    isplitl [H21]
    · iexists _; isplitr; swap; · iexact H21
      ipureintro; exact ⟨_, s, hs, (congrArg Res.v21 hstep).symm⟩
    isplitl [H22]
    · iexists _; isplitr; swap; · iexact H22
      ipureintro; exact ⟨_, s, hs, (congrArg Res.v22 hstep).symm⟩
    isplitl [H23]
    · iexists _; isplitr; swap; · iexact H23
      ipureintro; exact ⟨_, s, hs, (congrArg Res.v23 hstep).symm⟩
    isplitl [H24]
    · iexists _; isplitr; swap; · iexact H24
      ipureintro; trivial
    isplitl [H25]
    · iexists _; isplitr; swap; · iexact H25
      ipureintro; trivial
    isplitl [H26]
    · iexists _; isplitr; swap; · iexact H26
      ipureintro; trivial
    iexists _; isplitr; swap; · iexact H27
    ipureintro; trivial
  · by_cases h1 : t.val % 66 = 65
    · have hstep := step_C m c t h0 h1 ⟨d12, d13, d14, d15, d16, d17, d18, d19, d20, d21, d22, d23, d24, d25, d26, d27⟩ s
      unfold resC at hstep; revert hstep
      generalize atC m c t h0 h1 ⟨d12, d13, d14, d15, d16, d17, d18, d19, d20, d21, d22, d23, d24, d25, d26, d27⟩ s = R
      intro hstep; obtain ⟨v12, v13, v14, v15, v16, v17, v18, v19, v20, v21, v22, v23, r0, r1, r2, r3, r11, hR⟩ := R; dsimp only [resOf] at hstep
      iapply (hR Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, HS0, HS1, HS2, HS3, ⟨%eS4, HS4⟩, ⟨%eS5, HS5⟩, ⟨%eS6, HS6⟩, ⟨%eS7, HS7⟩, ⟨%eS8, HS8⟩, ⟨%eS9, HS9⟩, ⟨%eS10, HS10⟩, HS11, ⟨%eS12, HS12⟩⟩
      isplitl [HS0 HS1 HS2 HS3 HS4 HS5 HS6 HS7 HS8 HS9 HS10 HS11 HS12 Hg]
      · iexists (⟨r0, r1, r2, r3, eS4, eS5, eS6, eS7, eS8, eS9, eS10, r11, eS12⟩ : Scr F)
        isplitr
        · ipureintro; exact ⟨⟨d12, d13, d14, d15, d16, d17, d18, d19, d20, d21, d22, d23, d24, d25, d26, d27⟩, s, hs, (congrArg Res.r0 hstep).symm, (congrArg Res.r1 hstep).symm, (congrArg Res.r2 hstep).symm, (congrArg Res.r3 hstep).symm, (congrArg Res.r11 hstep).symm⟩
        dsimp only
        isplitl [HS0 HS1 HS2 HS3 HS4 HS5 HS6 HS7 HS8 HS9 HS10 HS11 HS12]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          iexact HS12
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · iexists _; isplitr; swap; · iexact H12
        ipureintro; exact ⟨_, s, hs, (congrArg Res.v12 hstep).symm⟩
      isplitl [H13]
      · iexists _; isplitr; swap; · iexact H13
        ipureintro; exact ⟨_, s, hs, (congrArg Res.v13 hstep).symm⟩
      isplitl [H14]
      · iexists _; isplitr; swap; · iexact H14
        ipureintro; exact ⟨_, s, hs, (congrArg Res.v14 hstep).symm⟩
      isplitl [H15]
      · iexists _; isplitr; swap; · iexact H15
        ipureintro; exact ⟨_, s, hs, (congrArg Res.v15 hstep).symm⟩
      isplitl [H16]
      · iexists _; isplitr; swap; · iexact H16
        ipureintro; exact ⟨_, s, hs, (congrArg Res.v16 hstep).symm⟩
      isplitl [H17]
      · iexists _; isplitr; swap; · iexact H17
        ipureintro; exact ⟨_, s, hs, (congrArg Res.v17 hstep).symm⟩
      isplitl [H18]
      · iexists _; isplitr; swap; · iexact H18
        ipureintro; exact ⟨_, s, hs, (congrArg Res.v18 hstep).symm⟩
      isplitl [H19]
      · iexists _; isplitr; swap; · iexact H19
        ipureintro; exact ⟨_, s, hs, (congrArg Res.v19 hstep).symm⟩
      isplitl [H20]
      · iexists _; isplitr; swap; · iexact H20
        ipureintro; exact ⟨_, s, hs, (congrArg Res.v20 hstep).symm⟩
      isplitl [H21]
      · iexists _; isplitr; swap; · iexact H21
        ipureintro; exact ⟨_, s, hs, (congrArg Res.v21 hstep).symm⟩
      isplitl [H22]
      · iexists _; isplitr; swap; · iexact H22
        ipureintro; exact ⟨_, s, hs, (congrArg Res.v22 hstep).symm⟩
      isplitl [H23]
      · iexists _; isplitr; swap; · iexact H23
        ipureintro; exact ⟨_, s, hs, (congrArg Res.v23 hstep).symm⟩
      isplitl [H24]
      · iexists _; isplitr; swap; · iexact H24
        ipureintro; trivial
      isplitl [H25]
      · iexists _; isplitr; swap; · iexact H25
        ipureintro; trivial
      isplitl [H26]
      · iexists _; isplitr; swap; · iexact H26
        ipureintro; trivial
      iexists _; isplitr; swap; · iexact H27
      ipureintro; trivial
    · have hstep := step_B m c t h0 h1 ⟨d12, d13, d14, d15, d16, d17, d18, d19, d20, d21, d22, d23, d24, d25, d26, d27⟩ s
      unfold resB at hstep; revert hstep
      generalize atB m c t h0 h1 ⟨d12, d13, d14, d15, d16, d17, d18, d19, d20, d21, d22, d23, d24, d25, d26, d27⟩ s = R
      intro hstep; obtain ⟨v12, v13, v14, v15, v16, v17, v18, v19, v20, v21, v22, v23, r0, r1, r2, r3, r11, hR⟩ := R; dsimp only [resOf] at hstep
      iapply (hR Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, HS0, HS1, HS2, HS3, ⟨%eS4, HS4⟩, ⟨%eS5, HS5⟩, ⟨%eS6, HS6⟩, ⟨%eS7, HS7⟩, ⟨%eS8, HS8⟩, ⟨%eS9, HS9⟩, ⟨%eS10, HS10⟩, HS11, ⟨%eS12, HS12⟩⟩
      isplitl [HS0 HS1 HS2 HS3 HS4 HS5 HS6 HS7 HS8 HS9 HS10 HS11 HS12 Hg]
      · iexists (⟨r0, r1, r2, r3, eS4, eS5, eS6, eS7, eS8, eS9, eS10, r11, eS12⟩ : Scr F)
        isplitr
        · ipureintro; exact ⟨⟨d12, d13, d14, d15, d16, d17, d18, d19, d20, d21, d22, d23, d24, d25, d26, d27⟩, s, hs, (congrArg Res.r0 hstep).symm, (congrArg Res.r1 hstep).symm, (congrArg Res.r2 hstep).symm, (congrArg Res.r3 hstep).symm, (congrArg Res.r11 hstep).symm⟩
        dsimp only
        isplitl [HS0 HS1 HS2 HS3 HS4 HS5 HS6 HS7 HS8 HS9 HS10 HS11 HS12]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          iexact HS12
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · iexists _; isplitr; swap; · iexact H12
        ipureintro; exact ⟨_, s, hs, (congrArg Res.v12 hstep).symm⟩
      isplitl [H13]
      · iexists _; isplitr; swap; · iexact H13
        ipureintro; exact ⟨_, s, hs, (congrArg Res.v13 hstep).symm⟩
      isplitl [H14]
      · iexists _; isplitr; swap; · iexact H14
        ipureintro; exact ⟨_, s, hs, (congrArg Res.v14 hstep).symm⟩
      isplitl [H15]
      · iexists _; isplitr; swap; · iexact H15
        ipureintro; exact ⟨_, s, hs, (congrArg Res.v15 hstep).symm⟩
      isplitl [H16]
      · iexists _; isplitr; swap; · iexact H16
        ipureintro; exact ⟨_, s, hs, (congrArg Res.v16 hstep).symm⟩
      isplitl [H17]
      · iexists _; isplitr; swap; · iexact H17
        ipureintro; exact ⟨_, s, hs, (congrArg Res.v17 hstep).symm⟩
      isplitl [H18]
      · iexists _; isplitr; swap; · iexact H18
        ipureintro; exact ⟨_, s, hs, (congrArg Res.v18 hstep).symm⟩
      isplitl [H19]
      · iexists _; isplitr; swap; · iexact H19
        ipureintro; exact ⟨_, s, hs, (congrArg Res.v19 hstep).symm⟩
      isplitl [H20]
      · iexists _; isplitr; swap; · iexact H20
        ipureintro; exact ⟨_, s, hs, (congrArg Res.v20 hstep).symm⟩
      isplitl [H21]
      · iexists _; isplitr; swap; · iexact H21
        ipureintro; exact ⟨_, s, hs, (congrArg Res.v21 hstep).symm⟩
      isplitl [H22]
      · iexists _; isplitr; swap; · iexact H22
        ipureintro; exact ⟨_, s, hs, (congrArg Res.v22 hstep).symm⟩
      isplitl [H23]
      · iexists _; isplitr; swap; · iexact H23
        ipureintro; exact ⟨_, s, hs, (congrArg Res.v23 hstep).symm⟩
      isplitl [H24]
      · iexists _; isplitr; swap; · iexact H24
        ipureintro; trivial
      isplitl [H25]
      · iexists _; isplitr; swap; · iexact H25
        ipureintro; trivial
      isplitl [H26]
      · iexists _; isplitr; swap; · iexact H26
        ipureintro; trivial
      iexists _; isplitr; swap; · iexact H27
      ipureintro; trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : Pipeline.BodyObligationRel (dats (F := F) m 0 c) (defs₀ (F := F)) Variants.none () Set.univ outs0 (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiR m c 0 (Nat.zero_le _) from rfl, PhiA0_eq]
  unfold PhiR
  iintro ⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩⟩, Hg⟩
  iexists (⟨s0, s1, s2, s3, s4, s5, s6, s7, s8, s9, s10, s11, s12⟩ : Scr F)
  isplitr
  · ipureintro; trivial
  isplitl [HS0 HS1 HS2 HS3 HS4 HS5 HS6 HS7 HS8 HS9 HS10 HS11 HS12]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iexact HS12
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiR m c (Fin.last cfg0.N).val (Nat.le_of_lt_succ (Fin.last cfg0.N).isLt) from rfl, PhiA0_eq]
  unfold PhiR
  iintro ⟨%s, %hs, ⟨HS0, HS1, HS2, HS3, HS4, HS5, HS6, HS7, HS8, HS9, HS10, HS11, HS12⟩, Hg⟩
  isplitl [HS0 HS1 HS2 HS3 HS4 HS5 HS6 HS7 HS8 HS9 HS10 HS11 HS12]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    iexists _; iexact HS12
  iexact Hg

set_option backward.isDefEq.respectTransparency.types false in
/-- The launch: every fair execution ends, the arrays as the proof data say, every semaphore counter at zero. -/
theorem run_main_quiescent : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (fun c => rdat m c) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => rdat m c) (A_eq m) (run_main m ρ)

/-- The frame claim's statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Own

end
-- ==== Proof.Spec.lean ====
module

public import Idealize.ShloMosaic.Lib.ValueIdxCore
public import Idealize.ShloMosaic.PureOps.Ideal

@[expose] public section

/-! What one element of the two results is worth, as a formula of the arguments. -/

noncomputable section

namespace Cert.Spec

open Idealize.ShloMosaic Idealize.ShloMosaic.ValueIdx

/-- The four-bit code of column `n`: the low half of its byte at an even column, the high half at an odd one. -/
def nib (b : BitVec 8) (n : ℕ) : BitVec 32 :=
  if n % 2 = 0 then IntOp.andi (b.setWidth 32) 15#32 else IntOp.shrui .host (b.setWidth 32) 4#32

/-- The float a code stands for: sign in bit 3, exponent in bits 0 to 2, zero when the exponent is zero. -/
def dec (v : BitVec 32) : Ideal .f32 :=
  FloatOps.ofBits (F := Ideal) .f32 (Scalar.select (IntOp.cmpi .eq (IntOp.andi v 7#32) 0#32) 0#32
    (IntOp.ori (IntOp.shli .host (IntOp.shrui .host v 3#32) 31#32)
      (IntOp.shli .host (IntOp.addi (IntOp.andi v 7#32) 120#32) 23#32)))

/-- One worker's contribution: its weight times its decoded code times its block's scale. -/
def term (v : BitVec 32) (s w : Ideal .f32) : Ideal .f32 := FloatOps.mulf w (FloatOps.mulf (dec v) s)

/-- The four workers' contributions added. -/
def dsum (v : Fin 4 → BitVec 32) (s w : Fin 4 → Ideal .f32) : Ideal .f32 :=
  FloatOps.addf (FloatOps.addf (FloatOps.addf (term (v 0) (s 0) (w 0)) (term (v 1) (s 1) (w 1))) (term (v 2) (s 2) (w 2)))
    (term (v 3) (s 3) (w 3))

/-- The momentum coefficient. -/
def mu : Ideal .f32 := FloatOps.ofBits .f32 0x3F666666#32

/-- One half. -/
def half : Ideal .f32 := FloatOps.ofBits .f32 0x3F000000#32

/-- The new momentum. -/
def bnew (d : Ideal .f32) (mc : BitVec 8) (ms : Ideal .f32) : Ideal .f32 :=
  FloatOps.addf (FloatOps.mulf mu (FloatOps.mulf (FloatOps.sitofp .f32 (mc.signExtend 32)) ms)) d

/-- The outer step's value. -/
def outerE (d : Ideal .f32) (mc : BitVec 8) (ms ga lr : Ideal .f32) : Ideal .f32 :=
  FloatOps.subf ga (FloatOps.mulf lr (FloatOps.addf d (FloatOps.mulf mu (bnew d mc ms))))

/-- The merged value. -/
def mergedE (la : Ideal .bf16) (o : Ideal .f32) : Ideal .f32 :=
  FloatOps.addf (FloatOps.mulf half (FloatOps.extf .f32 (by decide : FTy.bits .bf16 < FTy.bits .f32) la)) (FloatOps.mulf half o)

end Cert.Spec

end
-- ==== Proof.Reference.lean ====
module

public import proofs.«01_k».proof.Proof.Gen.ReferenceIdeal.Run
public import proofs.«01_k».proof.Proof.Gen.ReferenceIdeal.Read
public import proofs.«01_k».proof.Proof.Spec
public import Idealize.ShloMosaic.Lib.ValueIdxCore
public import Idealize.ShloMosaic.Lib.Pipeline.Value
public import Idealize.ShloMosaic.Lib.Claim

@[expose] public section

set_option maxRecDepth 16384

/-! The reference's two results, read element by element as the formulas of `Cert.Spec`. -/

noncomputable section

namespace Cert.ReferenceIdeal.Own

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- Device row and column of an element as bounded naturals. -/
theorem lt0 (i : S8448x7168.Idx) : (i 0).val < 8448 := (i 0).isLt
theorem lt1 (i : S8448x7168.Idx) : (i 1).val < 7168 := (i 1).isLt

/-- The byte that holds element `i`'s code. -/
abbrev byteIx (k : Fin 4) (i : S8448x7168.Idx) : S4x8448x3584.Idx :=
  ix3 (n0 := 4) (n1 := 8448) (n2 := 3584) k ⟨(i 0).val, lt0 i⟩ ⟨(i 1).val / 2, by have := lt1 i; omega⟩
/-- The scale of element `i`'s block, per worker. -/
abbrev scaleIx (k : Fin 4) (i : S8448x7168.Idx) : S4x8448x56.Idx :=
  ix3 (n0 := 4) (n1 := 8448) (n2 := 56) k ⟨(i 0).val, lt0 i⟩ ⟨(i 1).val / 128, by have := lt1 i; omega⟩
/-- The scale of element `i`'s block of momentum. -/
abbrev momIx (i : S8448x7168.Idx) : S8448x56.Idx :=
  ix2 (n0 := 8448) (n1 := 56) ⟨(i 0).val, lt0 i⟩ ⟨(i 1).val / 128, by have := lt1 i; omega⟩

/-- Worker 0's code of element `i`. -/
theorem word_0 (x0 : (⟨S4x8448x3584, .i8⟩ : BufTy).Contents (Elt Ideal)) (i : S8448x7168.Idx) :
    val_main_v12 (F := Ideal) x0 i = Spec.nib (x0 (byteIx 0 i)) (i 1).val := by
  have h0 := lt0 i
  have h1 := lt1 i
  rw [val_main_v12_apply]; unfold val_main_v11
  by_cases hp : (i 1).val % 2 = 0
  · rw [concatenate_pair_apply_left (t := S8448x3584x2) (s₁ := S8448x3584x1) (s₂ := S8448x3584x1) 2 _ _ _ _ rfl
      (ix3 (n0 := 8448) (n1 := 3584) (n2 := 1) ⟨(i 0).val, h0⟩ ⟨(i 1).val / 2, by omega⟩ 0) (fun b => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => by show 0 = ((i 0).val * 7168 + (i 1).val) % 2; omega)]
    rw [val_main_v9_apply, val_main_v6_apply, val_main_v4_apply, val_main_v3_apply, val_main_v2_apply, val_main_v5_apply, val_main_c_apply]
    unfold Spec.nib; rw [if_pos hp]
    refine congrArg (fun b : BitVec 8 => IntOp.andi (b.setWidth 32) 15#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)
  · rw [concatenate_pair_apply_right (t := S8448x3584x2) (s₁ := S8448x3584x1) (s₂ := S8448x3584x1) 2 _ _ _ _ rfl rfl
      (ix3 (n0 := 8448) (n1 := 3584) (n2 := 1) ⟨(i 0).val, h0⟩ ⟨(i 1).val / 2, by omega⟩ 0) (fun b hb => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => absurd rfl hb) (by show 0 + 1 = ((i 0).val * 7168 + (i 1).val) % 2; omega)]
    rw [val_main_v10_apply, val_main_v8_apply, val_main_v4_apply, val_main_v3_apply, val_main_v2_apply, val_main_v7_apply, val_main_c_0_apply]
    unfold Spec.nib; rw [if_neg hp]
    refine congrArg (fun b : BitVec 8 => IntOp.shrui .host (b.setWidth 32) 4#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)

/-- Worker 0's decoded code of element `i`. -/
theorem dec_0 (x0 : (⟨S4x8448x3584, .i8⟩ : BufTy).Contents (Elt Ideal)) (i : S8448x7168.Idx) :
    val_main_v27 (F := Ideal) x0 i = Spec.dec (Spec.nib (x0 (byteIx 0 i)) (i 1).val) := by
  rw [val_main_v27_apply, val_main_v26_apply, val_main_v25_apply, val_main_call0_v0_apply, val_main_v23_apply, val_main_v18_apply, val_main_v22_apply, val_main_v16_apply, val_main_v20_apply, val_main_v14_apply, val_main_v24_apply, val_main_v13_apply, val_main_v15_apply, val_main_v17_apply, val_main_v19_apply, val_main_v21_apply, word_0]
  rfl

/-- Worker 0's weight. -/
theorem weight_0 (x2 : (⟨S4, .f32⟩ : BufTy).Contents (Elt Ideal)) (j : S_.Idx) :
    val_main_v1 (F := Ideal) x2 j = x2 (ix1 (n := 4) 0) := by
  unfold val_main_v1 shapeCast
  rw [val_main_v0_apply]
  refine congrArg x2 (funext fun a => match a with
    | ⟨0, _⟩ => Fin.ext ?_)
  generalize Shape.reshapeEquiv shapeCasts_S1_S_ j = q
  have hq : (q 0).val < 1 := (q 0).isLt
  show (q 0).val = 0
  omega

/-- Worker 0's contribution to element `i`. -/
theorem term_0 (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (i : S8448x7168.Idx) :
    val_main_v36 (F := Ideal) x0 x1 x2 i
      = Spec.term (Spec.nib (x0 (byteIx 0 i)) (i 1).val) (x1 (scaleIx 0 i)) (x2 (ix1 (n := 4) 0)) := by
  have h0 := lt0 i
  have h1 := lt1 i
  have e : idx_main_v30 (idx_main_v34 i) = i := funext fun a => match a with
    | ⟨0, _⟩ => Fin.ext (by simp only [idx_main_v30, idx_main_v34]; show _ = (i 0).val; omega)
    | ⟨1, _⟩ => Fin.ext (by simp only [idx_main_v30, idx_main_v34]; show _ = (i 1).val; omega)
  have es : idx_main_v28 (idx_main_v29 (idx_main_v31 (idx_main_v32 (idx_main_v34 i)))) = scaleIx 0 i :=
    funext fun a => match a with
    | ⟨0, _⟩ => rfl
    | ⟨1, _⟩ => Fin.ext (by simp only [idx_main_v28, idx_main_v29, idx_main_v31, idx_main_v32, idx_main_v34, scaleIx, ix3]; omega)
    | ⟨2, _⟩ => Fin.ext (by simp only [idx_main_v28, idx_main_v29, idx_main_v31, idx_main_v32, idx_main_v34, scaleIx, ix3]; omega)
  rw [val_main_v36_apply, val_main_v35_apply, val_main_v34_apply, val_main_v33_apply, val_main_v30_apply, val_main_v32_apply, val_main_v31_apply, val_main_v29_apply, val_main_v28_apply, e, es, dec_0, weight_0]
  rfl

/-- Worker 1's code of element `i`. -/
theorem word_1 (x0 : (⟨S4x8448x3584, .i8⟩ : BufTy).Contents (Elt Ideal)) (i : S8448x7168.Idx) :
    val_main_v49 (F := Ideal) x0 i = Spec.nib (x0 (byteIx 1 i)) (i 1).val := by
  have h0 := lt0 i
  have h1 := lt1 i
  rw [val_main_v49_apply]; unfold val_main_v48
  by_cases hp : (i 1).val % 2 = 0
  · rw [concatenate_pair_apply_left (t := S8448x3584x2) (s₁ := S8448x3584x1) (s₂ := S8448x3584x1) 2 _ _ _ _ rfl
      (ix3 (n0 := 8448) (n1 := 3584) (n2 := 1) ⟨(i 0).val, h0⟩ ⟨(i 1).val / 2, by omega⟩ 0) (fun b => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => by show 0 = ((i 0).val * 7168 + (i 1).val) % 2; omega)]
    rw [val_main_v46_apply, val_main_v43_apply, val_main_v41_apply, val_main_v40_apply, val_main_v39_apply, val_main_v42_apply, val_main_c_8_apply]
    unfold Spec.nib; rw [if_pos hp]
    refine congrArg (fun b : BitVec 8 => IntOp.andi (b.setWidth 32) 15#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)
  · rw [concatenate_pair_apply_right (t := S8448x3584x2) (s₁ := S8448x3584x1) (s₂ := S8448x3584x1) 2 _ _ _ _ rfl rfl
      (ix3 (n0 := 8448) (n1 := 3584) (n2 := 1) ⟨(i 0).val, h0⟩ ⟨(i 1).val / 2, by omega⟩ 0) (fun b hb => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => absurd rfl hb) (by show 0 + 1 = ((i 0).val * 7168 + (i 1).val) % 2; omega)]
    rw [val_main_v47_apply, val_main_v45_apply, val_main_v41_apply, val_main_v40_apply, val_main_v39_apply, val_main_v44_apply, val_main_c_9_apply]
    unfold Spec.nib; rw [if_neg hp]
    refine congrArg (fun b : BitVec 8 => IntOp.shrui .host (b.setWidth 32) 4#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)

/-- Worker 1's decoded code of element `i`. -/
theorem dec_1 (x0 : (⟨S4x8448x3584, .i8⟩ : BufTy).Contents (Elt Ideal)) (i : S8448x7168.Idx) :
    val_main_v64 (F := Ideal) x0 i = Spec.dec (Spec.nib (x0 (byteIx 1 i)) (i 1).val) := by
  rw [val_main_v64_apply, val_main_v63_apply, val_main_v62_apply, val_main_call1_v0_apply, val_main_v60_apply, val_main_v55_apply, val_main_v59_apply, val_main_v53_apply, val_main_v57_apply, val_main_v51_apply, val_main_v61_apply, val_main_v50_apply, val_main_v52_apply, val_main_v54_apply, val_main_v56_apply, val_main_v58_apply, word_1]
  rfl

/-- Worker 1's weight. -/
theorem weight_1 (x2 : (⟨S4, .f32⟩ : BufTy).Contents (Elt Ideal)) (j : S_.Idx) :
    val_main_v38 (F := Ideal) x2 j = x2 (ix1 (n := 4) 1) := by
  unfold val_main_v38 shapeCast
  rw [val_main_v37_apply]
  refine congrArg x2 (funext fun a => match a with
    | ⟨0, _⟩ => Fin.ext ?_)
  generalize Shape.reshapeEquiv shapeCasts_S1_S_ j = q
  have hq : (q 0).val < 1 := (q 0).isLt
  show 1 + (q 0).val = 1
  omega

/-- Worker 1's contribution to element `i`. -/
theorem term_1 (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (i : S8448x7168.Idx) :
    val_main_v73 (F := Ideal) x0 x1 x2 i
      = Spec.term (Spec.nib (x0 (byteIx 1 i)) (i 1).val) (x1 (scaleIx 1 i)) (x2 (ix1 (n := 4) 1)) := by
  have h0 := lt0 i
  have h1 := lt1 i
  have e : idx_main_v67 (idx_main_v71 i) = i := funext fun a => match a with
    | ⟨0, _⟩ => Fin.ext (by simp only [idx_main_v67, idx_main_v71]; show _ = (i 0).val; omega)
    | ⟨1, _⟩ => Fin.ext (by simp only [idx_main_v67, idx_main_v71]; show _ = (i 1).val; omega)
  have es : idx_main_v65 (idx_main_v66 (idx_main_v68 (idx_main_v69 (idx_main_v71 i)))) = scaleIx 1 i :=
    funext fun a => match a with
    | ⟨0, _⟩ => rfl
    | ⟨1, _⟩ => Fin.ext (by simp only [idx_main_v65, idx_main_v66, idx_main_v68, idx_main_v69, idx_main_v71, scaleIx, ix3]; omega)
    | ⟨2, _⟩ => Fin.ext (by simp only [idx_main_v65, idx_main_v66, idx_main_v68, idx_main_v69, idx_main_v71, scaleIx, ix3]; omega)
  rw [val_main_v73_apply, val_main_v72_apply, val_main_v71_apply, val_main_v70_apply, val_main_v67_apply, val_main_v69_apply, val_main_v68_apply, val_main_v66_apply, val_main_v65_apply, e, es, dec_1, weight_1]
  rfl

/-- Worker 2's code of element `i`. -/
theorem word_2 (x0 : (⟨S4x8448x3584, .i8⟩ : BufTy).Contents (Elt Ideal)) (i : S8448x7168.Idx) :
    val_main_v87 (F := Ideal) x0 i = Spec.nib (x0 (byteIx 2 i)) (i 1).val := by
  have h0 := lt0 i
  have h1 := lt1 i
  rw [val_main_v87_apply]; unfold val_main_v86
  by_cases hp : (i 1).val % 2 = 0
  · rw [concatenate_pair_apply_left (t := S8448x3584x2) (s₁ := S8448x3584x1) (s₂ := S8448x3584x1) 2 _ _ _ _ rfl
      (ix3 (n0 := 8448) (n1 := 3584) (n2 := 1) ⟨(i 0).val, h0⟩ ⟨(i 1).val / 2, by omega⟩ 0) (fun b => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => by show 0 = ((i 0).val * 7168 + (i 1).val) % 2; omega)]
    rw [val_main_v84_apply, val_main_v81_apply, val_main_v79_apply, val_main_v78_apply, val_main_v77_apply, val_main_v80_apply, val_main_c_17_apply]
    unfold Spec.nib; rw [if_pos hp]
    refine congrArg (fun b : BitVec 8 => IntOp.andi (b.setWidth 32) 15#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)
  · rw [concatenate_pair_apply_right (t := S8448x3584x2) (s₁ := S8448x3584x1) (s₂ := S8448x3584x1) 2 _ _ _ _ rfl rfl
      (ix3 (n0 := 8448) (n1 := 3584) (n2 := 1) ⟨(i 0).val, h0⟩ ⟨(i 1).val / 2, by omega⟩ 0) (fun b hb => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => absurd rfl hb) (by show 0 + 1 = ((i 0).val * 7168 + (i 1).val) % 2; omega)]
    rw [val_main_v85_apply, val_main_v83_apply, val_main_v79_apply, val_main_v78_apply, val_main_v77_apply, val_main_v82_apply, val_main_c_18_apply]
    unfold Spec.nib; rw [if_neg hp]
    refine congrArg (fun b : BitVec 8 => IntOp.shrui .host (b.setWidth 32) 4#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)

/-- Worker 2's decoded code of element `i`. -/
theorem dec_2 (x0 : (⟨S4x8448x3584, .i8⟩ : BufTy).Contents (Elt Ideal)) (i : S8448x7168.Idx) :
    val_main_v102 (F := Ideal) x0 i = Spec.dec (Spec.nib (x0 (byteIx 2 i)) (i 1).val) := by
  rw [val_main_v102_apply, val_main_v101_apply, val_main_v100_apply, val_main_call2_v0_apply, val_main_v98_apply, val_main_v93_apply, val_main_v97_apply, val_main_v91_apply, val_main_v95_apply, val_main_v89_apply, val_main_v99_apply, val_main_v88_apply, val_main_v90_apply, val_main_v92_apply, val_main_v94_apply, val_main_v96_apply, word_2]
  rfl

/-- Worker 2's weight. -/
theorem weight_2 (x2 : (⟨S4, .f32⟩ : BufTy).Contents (Elt Ideal)) (j : S_.Idx) :
    val_main_v76 (F := Ideal) x2 j = x2 (ix1 (n := 4) 2) := by
  unfold val_main_v76 shapeCast
  rw [val_main_v75_apply]
  refine congrArg x2 (funext fun a => match a with
    | ⟨0, _⟩ => Fin.ext ?_)
  generalize Shape.reshapeEquiv shapeCasts_S1_S_ j = q
  have hq : (q 0).val < 1 := (q 0).isLt
  show 2 + (q 0).val = 2
  omega

/-- Worker 2's contribution to element `i`. -/
theorem term_2 (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (i : S8448x7168.Idx) :
    val_main_v111 (F := Ideal) x0 x1 x2 i
      = Spec.term (Spec.nib (x0 (byteIx 2 i)) (i 1).val) (x1 (scaleIx 2 i)) (x2 (ix1 (n := 4) 2)) := by
  have h0 := lt0 i
  have h1 := lt1 i
  have e : idx_main_v105 (idx_main_v109 i) = i := funext fun a => match a with
    | ⟨0, _⟩ => Fin.ext (by simp only [idx_main_v105, idx_main_v109]; show _ = (i 0).val; omega)
    | ⟨1, _⟩ => Fin.ext (by simp only [idx_main_v105, idx_main_v109]; show _ = (i 1).val; omega)
  have es : idx_main_v103 (idx_main_v104 (idx_main_v106 (idx_main_v107 (idx_main_v109 i)))) = scaleIx 2 i :=
    funext fun a => match a with
    | ⟨0, _⟩ => rfl
    | ⟨1, _⟩ => Fin.ext (by simp only [idx_main_v103, idx_main_v104, idx_main_v106, idx_main_v107, idx_main_v109, scaleIx, ix3]; omega)
    | ⟨2, _⟩ => Fin.ext (by simp only [idx_main_v103, idx_main_v104, idx_main_v106, idx_main_v107, idx_main_v109, scaleIx, ix3]; omega)
  rw [val_main_v111_apply, val_main_v110_apply, val_main_v109_apply, val_main_v108_apply, val_main_v105_apply, val_main_v107_apply, val_main_v106_apply, val_main_v104_apply, val_main_v103_apply, e, es, dec_2, weight_2]
  rfl

/-- Worker 3's code of element `i`. -/
theorem word_3 (x0 : (⟨S4x8448x3584, .i8⟩ : BufTy).Contents (Elt Ideal)) (i : S8448x7168.Idx) :
    val_main_v125 (F := Ideal) x0 i = Spec.nib (x0 (byteIx 3 i)) (i 1).val := by
  have h0 := lt0 i
  have h1 := lt1 i
  rw [val_main_v125_apply]; unfold val_main_v124
  by_cases hp : (i 1).val % 2 = 0
  · rw [concatenate_pair_apply_left (t := S8448x3584x2) (s₁ := S8448x3584x1) (s₂ := S8448x3584x1) 2 _ _ _ _ rfl
      (ix3 (n0 := 8448) (n1 := 3584) (n2 := 1) ⟨(i 0).val, h0⟩ ⟨(i 1).val / 2, by omega⟩ 0) (fun b => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => by show 0 = ((i 0).val * 7168 + (i 1).val) % 2; omega)]
    rw [val_main_v122_apply, val_main_v119_apply, val_main_v117_apply, val_main_v116_apply, val_main_v115_apply, val_main_v118_apply, val_main_c_26_apply]
    unfold Spec.nib; rw [if_pos hp]
    refine congrArg (fun b : BitVec 8 => IntOp.andi (b.setWidth 32) 15#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)
  · rw [concatenate_pair_apply_right (t := S8448x3584x2) (s₁ := S8448x3584x1) (s₂ := S8448x3584x1) 2 _ _ _ _ rfl rfl
      (ix3 (n0 := 8448) (n1 := 3584) (n2 := 1) ⟨(i 0).val, h0⟩ ⟨(i 1).val / 2, by omega⟩ 0) (fun b hb => match b with
      | ⟨0, _⟩ => by show (i 0).val = ((i 0).val * 7168 + (i 1).val) / 7168; omega
      | ⟨1, _⟩ => by show (i 1).val / 2 = ((i 0).val * 7168 + (i 1).val) / 2 % 3584; omega
      | ⟨2, _⟩ => absurd rfl hb) (by show 0 + 1 = ((i 0).val * 7168 + (i 1).val) % 2; omega)]
    rw [val_main_v123_apply, val_main_v121_apply, val_main_v117_apply, val_main_v116_apply, val_main_v115_apply, val_main_v120_apply, val_main_c_27_apply]
    unfold Spec.nib; rw [if_neg hp]
    refine congrArg (fun b : BitVec 8 => IntOp.shrui .host (b.setWidth 32) 4#32) (congrArg x0 ?_)
    exact funext fun a => match a with
      | ⟨0, _⟩ => rfl
      | ⟨1, _⟩ => Fin.ext (by show ((i 0).val * 3584 + (i 1).val / 2) / 3584 % 8448 = (i 0).val; omega)
      | ⟨2, _⟩ => Fin.ext (by show ((i 0).val * 3584 + (i 1).val / 2) % 3584 = (i 1).val / 2; omega)

/-- Worker 3's decoded code of element `i`. -/
theorem dec_3 (x0 : (⟨S4x8448x3584, .i8⟩ : BufTy).Contents (Elt Ideal)) (i : S8448x7168.Idx) :
    val_main_v140 (F := Ideal) x0 i = Spec.dec (Spec.nib (x0 (byteIx 3 i)) (i 1).val) := by
  rw [val_main_v140_apply, val_main_v139_apply, val_main_v138_apply, val_main_call3_v0_apply, val_main_v136_apply, val_main_v131_apply, val_main_v135_apply, val_main_v129_apply, val_main_v133_apply, val_main_v127_apply, val_main_v137_apply, val_main_v126_apply, val_main_v128_apply, val_main_v130_apply, val_main_v132_apply, val_main_v134_apply, word_3]
  rfl

/-- Worker 3's weight. -/
theorem weight_3 (x2 : (⟨S4, .f32⟩ : BufTy).Contents (Elt Ideal)) (j : S_.Idx) :
    val_main_v114 (F := Ideal) x2 j = x2 (ix1 (n := 4) 3) := by
  unfold val_main_v114 shapeCast
  rw [val_main_v113_apply]
  refine congrArg x2 (funext fun a => match a with
    | ⟨0, _⟩ => Fin.ext ?_)
  generalize Shape.reshapeEquiv shapeCasts_S1_S_ j = q
  have hq : (q 0).val < 1 := (q 0).isLt
  show 3 + (q 0).val = 3
  omega

/-- Worker 3's contribution to element `i`. -/
theorem term_3 (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (i : S8448x7168.Idx) :
    val_main_v149 (F := Ideal) x0 x1 x2 i
      = Spec.term (Spec.nib (x0 (byteIx 3 i)) (i 1).val) (x1 (scaleIx 3 i)) (x2 (ix1 (n := 4) 3)) := by
  have h0 := lt0 i
  have h1 := lt1 i
  have e : idx_main_v143 (idx_main_v147 i) = i := funext fun a => match a with
    | ⟨0, _⟩ => Fin.ext (by simp only [idx_main_v143, idx_main_v147]; show _ = (i 0).val; omega)
    | ⟨1, _⟩ => Fin.ext (by simp only [idx_main_v143, idx_main_v147]; show _ = (i 1).val; omega)
  have es : idx_main_v141 (idx_main_v142 (idx_main_v144 (idx_main_v145 (idx_main_v147 i)))) = scaleIx 3 i :=
    funext fun a => match a with
    | ⟨0, _⟩ => rfl
    | ⟨1, _⟩ => Fin.ext (by simp only [idx_main_v141, idx_main_v142, idx_main_v144, idx_main_v145, idx_main_v147, scaleIx, ix3]; omega)
    | ⟨2, _⟩ => Fin.ext (by simp only [idx_main_v141, idx_main_v142, idx_main_v144, idx_main_v145, idx_main_v147, scaleIx, ix3]; omega)
  rw [val_main_v149_apply, val_main_v148_apply, val_main_v147_apply, val_main_v146_apply, val_main_v143_apply, val_main_v145_apply, val_main_v144_apply, val_main_v142_apply, val_main_v141_apply, e, es, dec_3, weight_3]
  rfl

/-- The four contributions added, at element `i`. -/
def dAt (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (i : S8448x7168.Idx) : Ideal .f32 :=
  Spec.dsum (fun k => Spec.nib (x0 (byteIx k i)) (i 1).val) (fun k => x1 (scaleIx k i)) (fun k => x2 (ix1 (n := 4) k))

/-- The first result at element `i`. -/
def outerAt (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (x3 : (⟨S8448x7168, .f32⟩ : BufTy).Contents (Elt Ideal))
    (x5 : (⟨S8448x7168, .i8⟩ : BufTy).Contents (Elt Ideal)) (x6 : (⟨S8448x56, .f32⟩ : BufTy).Contents (Elt Ideal))
    (x7 : (⟨S1, .f32⟩ : BufTy).Contents (Elt Ideal)) (i : S8448x7168.Idx) : Ideal .f32 :=
  Spec.outerE (dAt x0 x1 x2 i) (x5 i) (x6 (momIx i)) (x3 i) (x7 (ix1 (n := 1) 0))

theorem sum_eq (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (i : S8448x7168.Idx) :
    val_main_v150 (F := Ideal) x0 x1 x2 i = dAt x0 x1 x2 i := by
  rw [val_main_v150_apply, val_main_v112_apply, val_main_v74_apply, term_0, term_1, term_2, term_3]
  rfl

theorem lr_eq (x7 : (⟨S1, .f32⟩ : BufTy).Contents (Elt Ideal)) (j : S_.Idx) :
    val_main_v161 (F := Ideal) x7 j = x7 (ix1 (n := 1) 0) := by
  unfold val_main_v161 shapeCast
  refine congrArg x7 (funext fun a => match a with
    | ⟨0, _⟩ => Fin.ext ?_)
  generalize Shape.reshapeEquiv shapeCasts_S1_S_ j = q
  have hq : (q 0).val < 1 := (q 0).isLt
  show (q 0).val = 0
  omega

/-- The reference's first result, element by element. -/
theorem outer_eq (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (x3 : (⟨S8448x7168, .f32⟩ : BufTy).Contents (Elt Ideal))
    (x5 : (⟨S8448x7168, .i8⟩ : BufTy).Contents (Elt Ideal)) (x6 : (⟨S8448x56, .f32⟩ : BufTy).Contents (Elt Ideal))
    (x7 : (⟨S1, .f32⟩ : BufTy).Contents (Elt Ideal)) (i : S8448x7168.Idx) :
    val_main_v167 (F := Ideal) x0 x1 x2 x3 x5 x6 x7 i = outerAt x0 x1 x2 x3 x5 x6 x7 i := by
  have h0 := lt0 i
  have h1 := lt1 i
  have e : idx_main_v153 (idx_main_v157 i) = i := funext fun a => match a with
    | ⟨0, _⟩ => Fin.ext (by simp only [idx_main_v153, idx_main_v157]; show _ = (i 0).val; omega)
    | ⟨1, _⟩ => Fin.ext (by simp only [idx_main_v153, idx_main_v157]; show _ = (i 1).val; omega)
  have es : idx_main_v154 (idx_main_v155 (idx_main_v157 i)) = momIx i := funext fun a => match a with
    | ⟨0, _⟩ => Fin.ext (by simp only [idx_main_v154, idx_main_v155, idx_main_v157, momIx, ix2]; omega)
    | ⟨1, _⟩ => Fin.ext (by simp only [idx_main_v154, idx_main_v155, idx_main_v157, momIx, ix2]; omega)
  rw [val_main_v167_apply, val_main_v166_apply, val_main_v165_apply, lr_eq, val_main_v164_apply, val_main_v163_apply, val_main_v160_apply, val_main_v159_apply, val_main_v157_apply, val_main_v156_apply, val_main_v153_apply, val_main_v155_apply, val_main_v154_apply, e, es, val_main_v152_apply, val_main_v151_apply, sum_eq, val_main_v158_apply, val_main_cst_apply, val_main_v162_apply, val_main_cst_35_apply]
  rfl

/-- The reference's second result, element by element. -/
theorem merged_eq (x0 : (⟨S4x8448x3584, .i8⟩ : BufTy).Contents (Elt Ideal)) (x1 : (⟨S4x8448x56, .f32⟩ : BufTy).Contents (Elt Ideal))
    (x2 : (⟨S4, .f32⟩ : BufTy).Contents (Elt Ideal)) (x3 : (⟨S8448x7168, .f32⟩ : BufTy).Contents (Elt Ideal))
    (x4 : (⟨S8448x7168, .bf16⟩ : BufTy).Contents (Elt Ideal))
    (x5 : (⟨S8448x7168, .i8⟩ : BufTy).Contents (Elt Ideal)) (x6 : (⟨S8448x56, .f32⟩ : BufTy).Contents (Elt Ideal))
    (x7 : (⟨S1, .f32⟩ : BufTy).Contents (Elt Ideal)) (i : S8448x7168.Idx) :
    val_main_v173 (F := Ideal) x0 x1 x2 x3 x4 x5 x6 x7 i = Spec.mergedE (x4 i) (outerAt x0 x1 x2 x3 x5 x6 x7 i) := by
  rw [val_main_v173_apply, val_main_v170_apply, val_main_v172_apply, outer_eq, val_main_v168_apply, val_main_v169_apply, val_main_v171_apply, val_main_cst_36_apply, val_main_cst_37_apply]
  rfl

/-- The reference runs, leaves its arguments alone and declares no semaphore. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => (h c).2.2, sem_eq_zero_of_no_sems (by decide) r.2⟩) (Cert.ReferenceIdeal.Value.run m ρ)

/-- The reference's two results, as functions of the launch memory. -/
theorem values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v167) = (fun i => outerAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) i)
      ∧ r.2.mem ((c.tc : Thread nD τ).loc main_v173) = (fun i => Spec.mergedE ((m ((c.tc : Thread nD τ).loc main_arg4)) i) (outerAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      ((h c).1.trans (val_main_v167_eq (launchContents m c))).trans (funext fun i => outer_eq _ _ _ _ _ _ _ i),
      ((h c).2.1.trans (val_main_v173_eq (launchContents m c))).trans (funext fun i => merged_eq _ _ _ _ _ _ _ _ i),
      (h c).2.2⟩) (Cert.ReferenceIdeal.Value.run m ρ)

end Cert.ReferenceIdeal.Own

end
-- ==== Proof.ValueMath.lean ====
module

public import proofs.«01_k».proof.Proof.Gen.KernelIdeal.Skeleton
public import proofs.«01_k».proof.Proof.Spec
public import Idealize.ShloMosaic.Lib.ValueIdxCore
public import Idealize.ShloMosaic.Lib.ValueLayout
public import Idealize.ShloMosaic.Lib.MatmulPlain
public import Idealize.ShloMosaic.Lib.BitcastFour
public import Idealize.ShloMosaic.Lib.Pipeline.Value

@[expose] public section

set_option maxRecDepth 16384

/-! The arithmetic of one block at the ideal values: the bytes regrouped into codes, the two products that put the codes and
    the scales in place, read at an index. -/

noncomputable section

namespace Cert.KernelIdeal.Own

open Cert.KernelIdeal Cert.KernelIdeal.Gen
open Idealize.ShloMosaic Idealize.ShloMosaic.ValueIdx

/-- The low code of a byte as the bits of an eight-bit float. -/
def loB (y : BitVec 8) : BitVec 8 := ((y &&& 7#8) <<< 3) ||| ((y &&& 8#8) <<< 4)
/-- The high code likewise. -/
def hiB (y : BitVec 8) : BitVec 8 := ((y &&& 0x70#8) >>> 1) ||| (y &&& 0x80#8)
/-- The same of four bytes at once. -/
def loW (w : BitVec 32) : BitVec 32 := ((w &&& 117901063#32) <<< 3) ||| ((w &&& 134744072#32) <<< 4)
def hiW (w : BitVec 32) : BitVec 32 := ((w &&& 1886417008#32) >>> 1) ||| (w &&& 2155905152#32)

theorem loW_byte (w : BitVec 32) (b : ℕ) (hb : b < 4) : (loW w).extractLsb' (8 * b) 8 = loB (w.extractLsb' (8 * b) 8) := by
  apply BitVec.eq_of_getLsbD_eq
  intro q hq
  interval_cases b <;> interval_cases q <;>
    simp [loW, loB, BitVec.getLsbD_extractLsb', BitVec.getLsbD_or, BitVec.getLsbD_and, BitVec.getLsbD_shiftLeft, BitVec.getLsbD_ofNat, Nat.testBit]

theorem hiW_byte (w : BitVec 32) (b : ℕ) (hb : b < 4) : (hiW w).extractLsb' (8 * b) 8 = hiB (w.extractLsb' (8 * b) 8) := by
  apply BitVec.eq_of_getLsbD_eq
  intro q hq
  interval_cases b <;> interval_cases q <;>
    simp [hiW, hiB, BitVec.getLsbD_extractLsb', BitVec.getLsbD_or, BitVec.getLsbD_and, BitVec.getLsbD_ushiftRight, BitVec.getLsbD_ofNat, Nat.testBit]

/-- Words read as bytes: byte row `p` is byte `p % 4` of word row `p / 4`. -/
theorem bitcast_back (L : S32x128.Idx → BitVec 32) (p : Fin 128) (l : Fin 128) :
    bitcast S128x128 8 L bitcasts_S32x128_w32_S128x128_w8 (ix2 (n0 := 128) (n1 := 128) p l)
      = (L (ix2 (n0 := 32) (n1 := 128) ⟨p.val / 4, by omega⟩ l)).extractLsb' (8 * (p.val % 4)) 8 := by
  apply BitVec.eq_of_getLsbD_eq
  intro q hq
  rw [bitcast_getLsbD L _ _ q hq (by decide), BitVec.getLsbD_extractLsb']
  have hrow : S128x128.row (ix2 (n0 := 128) (n1 := 128) p l) = p.val := rfl
  have e1 : (p.val * 8 + q) % 32 = 8 * (p.val % 4) + q := by omega
  simp only [hrow, e1, hq, decide_true, Bool.true_and]
  congr 2
  funext c
  match c with
  | ⟨0, _⟩ => exact Fin.ext ((Shape.Bitcasts.srcIdx_row _ _ _ _ ⟨0, Nat.zero_lt_two⟩ rfl).trans (by show (p.val * 8 + q) / 32 = p.val / 4; omega))
  | ⟨1, _⟩ => exact Fin.ext (Shape.Bitcasts.srcIdx_other _ _ _ _ ⟨1, Nat.one_lt_two⟩ (by show ¬ 1 + 2 = 2; omega))

/-- Bytes read as words: byte `b` of word row `a` is byte row `4 a + b`. -/
theorem bitcast_forth (x : S128x128.Idx → BitVec 8) (a : Fin 32) (l : Fin 128) (b : ℕ) (hb : b < 4) :
    (bitcast S32x128 32 x bitcasts_S128x128_w8_S32x128_w32 (ix2 (n0 := 32) (n1 := 128) a l)).extractLsb' (8 * b) 8
      = x (ix2 (n0 := 128) (n1 := 128) ⟨4 * a.val + b, by omega⟩ l) := by
  apply BitVec.eq_of_getLsbD_eq
  intro q hq
  rw [BitVec.getLsbD_extractLsb', bitcast_8_32_getLsbD_ix2 (R := 128) (r := 32) (n := 128) x bitcasts_S128x128_w8_S32x128_w32 a l (8 * b + q) (by omega)
    ⟨4 * a.val + b, by omega⟩ (by show 4 * a.val + b = 4 * a.val + (8 * b + q) / 8; omega)]
  have e : (8 * b + q) % 8 = q := by omega
  simp [hq, e]

/-- The regrouped bytes, low codes. -/
theorem lo_tile (x : S128x128.Idx → BitVec 8) (p l : Fin 128) :
    bitcast S128x128 8 (fun j => loW (bitcast S32x128 32 x bitcasts_S128x128_w8_S32x128_w32 j)) bitcasts_S32x128_w32_S128x128_w8 (ix2 (n0 := 128) (n1 := 128) p l)
      = loB (x (ix2 (n0 := 128) (n1 := 128) p l)) := by
  rw [bitcast_back, loW_byte _ _ (by omega), bitcast_forth _ _ _ _ (by omega)]
  refine congrArg (fun i => loB (x i)) (congrArg (fun i => ix2 (n0 := 128) (n1 := 128) i l) (Fin.ext ?_))
  show 4 * (p.val / 4) + p.val % 4 = p.val
  omega

/-- The regrouped bytes, high codes. -/
theorem hi_tile (x : S128x128.Idx → BitVec 8) (p l : Fin 128) :
    bitcast S128x128 8 (fun j => hiW (bitcast S32x128 32 x bitcasts_S128x128_w8_S32x128_w32 j)) bitcasts_S32x128_w32_S128x128_w8 (ix2 (n0 := 128) (n1 := 128) p l)
      = hiB (x (ix2 (n0 := 128) (n1 := 128) p l)) := by
  rw [bitcast_back, hiW_byte _ _ (by omega), bitcast_forth _ _ _ _ (by omega)]
  refine congrArg (fun i => hiB (x i)) (congrArg (fun i => ix2 (n0 := 128) (n1 := 128) i l) (Fin.ext ?_))
  show 4 * (p.val / 4) + p.val % 4 = p.val
  omega

/-- The eight-bit float of a code from its four bits. -/
def code8 (n : BitVec 4) : BitVec 8 := ((n.setWidth 8 &&& 7#8) <<< 3) ||| ((n.setWidth 8 &&& 8#8) <<< 4)

theorem loB_code (y : BitVec 8) : loB y = code8 (y.setWidth 4) := by revert y; decide +kernel
theorem hiB_code (y : BitVec 8) : hiB y = code8 ((y >>> 4).setWidth 4) := by revert y; decide +kernel

/-- The 32-bit pattern a code stands for. -/
def code32 (v : BitVec 32) : BitVec 32 :=
  Scalar.select (IntOp.cmpi .eq (IntOp.andi v 7#32) 0#32) 0#32
    (IntOp.ori (IntOp.shli .host (IntOp.shrui .host v 3#32) 31#32)
      (IntOp.shli .host (IntOp.addi (IntOp.andi v 7#32) 120#32) 23#32))

/-- The eight-bit float and the 32-bit pattern of a code denote one value. -/
theorem code_val (n : BitVec 4) : Ideal.ofBits .fp8e4m3 (code8 n) = Ideal.ofBits .f32 (code32 (n.setWidth 32)) := by
  have hn : ∀ k : Fin 16, Ideal.ofBits .fp8e4m3 (code8 (BitVec.ofFin k)) = Ideal.ofBits .f32 (code32 ((BitVec.ofFin k : BitVec 4).setWidth 32)) := by
    intro k
    fin_cases k <;>
    · simp [Ideal.ofBits, Ideal.e4m3fn, Ideal.ieee, code8, code32, Scalar.select, IntOp.cmpi, IntOp.andi, IntOp.ori, IntOp.shli, IntOp.shrui, IntOp.addi]
      try norm_num
      try (rw [← EReal.coe_mul, ← EReal.coe_mul]; norm_num)
  exact hn n.toFin

/-- The code a byte holds for column parity `n`. -/
theorem nib_even (y : BitVec 8) (n : ℕ) (h : n % 2 = 0) : Spec.nib y n = (y.setWidth 4).setWidth 32 := by
  unfold Spec.nib; rw [if_pos h]
  have : ∀ y : BitVec 8, IntOp.andi (y.setWidth 32) 15#32 = (y.setWidth 4).setWidth 32 := by decide +kernel
  exact this y
theorem nib_odd (y : BitVec 8) (n : ℕ) (h : ¬ n % 2 = 0) : Spec.nib y n = ((y >>> 4).setWidth 4).setWidth 32 := by
  unfold Spec.nib; rw [if_neg h]
  have : ∀ y : BitVec 8, IntOp.shrui .host (y.setWidth 32) 4#32 = ((y >>> 4).setWidth 4).setWidth 32 := by decide +kernel
  exact this y

theorem dec_even (y : BitVec 8) (n : ℕ) (h : n % 2 = 0) : FloatOps.ofBits (F := Ideal) .fp8e4m3 (loB y) = Spec.dec (Spec.nib y n) := by
  rw [loB_code, nib_even y n h]; exact code_val _
theorem dec_odd (y : BitVec 8) (n : ℕ) (h : ¬ n % 2 = 0) : FloatOps.ofBits (F := Ideal) .fp8e4m3 (hiB y) = Spec.dec (Spec.nib y n) := by
  rw [hiB_code, nib_odd y n h]; exact code_val _

/-- The row the permutation takes column `n` from. -/
def srcOf (k : ℕ) : ℕ := if k < 128 then 2 * k else 2 * (k - 128) + 1

/-- What the permutation operand holds. -/
def IsPerm (p : FVec Ideal S256x256 .fp8e4m3) : Prop :=
  ∀ k n : Fin 256, p (ix2 (n0 := 256) (n1 := 256) k n) = if srcOf k.val = n.val then (1 : EReal) else 0

/-- What the selection operand of trip `c` holds. -/
def IsSel (c : ℕ) (v : FVec Ideal S1x256x256 .bf16) : Prop :=
  ∀ k n : Fin 256, v (ix3 (n0 := 1) (n1 := 256) (n2 := 256) 0 k n) = if k.val % 64 = 2 * c + n.val / 128 ∧ k.val < 192 then (1 : EReal) else 0

/-- The decoded tile of one worker. -/
theorem dec_tile (x : Vec Ideal S1x128x128 .i8) (p : Vec Ideal S256x256 .fp8e4m3) (hp : IsPerm p) (r : Fin 128) (n : Fin 256) :
    k0_pay117 (F := Ideal) x p (ix3 (n0 := 1) (n1 := 128) (n2 := 256) 0 r n)
      = Spec.dec (Spec.nib (x (ix3 (n0 := 1) (n1 := 128) (n2 := 128) 0 r ⟨n.val / 2, by omega⟩)) n.val) := by
  unfold k0_pay117
  refine (shapeCast_ab_1ab_apply (a := 128) (b := 256) _ shapeCasts_S128x256_S1x128x256 0 r n).trans ?_
  refine (Ideal.matmul_plain_apply (M := 128) (K := 256) (N := 256) none _ p _ r n).trans ?_
  have hz : constant (F := Ideal) S128x256 .f32 0x00000000#32 (ix2 (n0 := 128) (n1 := 256) r n) = (0 : EReal) := Ideal.ofBits_zero_f32
  rw [hz, zero_add]
  obtain ⟨k0, hk0⟩ : ∃ k0 : Fin 256, k0.val = if n.val % 2 = 0 then n.val / 2 else 128 + n.val / 2 :=
    ⟨⟨if n.val % 2 = 0 then n.val / 2 else 128 + n.val / 2, by have := n.isLt; split <;> omega⟩, rfl⟩
  have hn := n.isLt
  have hk0' := k0.isLt
  have e1 : p (ix2 (n0 := 256) (n1 := 256) k0 n) = (1 : EReal) :=
    (hp k0 n).trans (if_pos (by unfold srcOf; split_ifs at hk0 ⊢ <;> omega))
  rw [Finset.sum_eq_single k0]
  · rw [e1, mul_one]
    by_cases h : n.val % 2 = 0
    · rw [if_pos h] at hk0
      refine (concatenate_pair_apply_left (t := S128x256) (s₁ := S128x128) (s₂ := S128x128) 1 _ _ _ _ rfl
        (ix2 (n0 := 128) (n1 := 128) r ⟨n.val / 2, by omega⟩) (fun b => match b with
        | ⟨0, _⟩ => rfl
        | ⟨1, _⟩ => by show n.val / 2 = k0.val; exact hk0.symm)).trans ?_
      refine Eq.trans ?_ (dec_even _ n.val h)
      refine (congrArg (FloatOps.ofBits (F := Ideal) .fp8e4m3) ((lo_tile (shapeCast S128x128 x shapeCasts_S1x128x128_S128x128) r ⟨n.val / 2, by omega⟩).trans ?_))
      exact congrArg loB (shapeCast_1ab_ab_apply (a := 128) (b := 128) x shapeCasts_S1x128x128_S128x128 r _)
    · rw [if_neg h] at hk0
      refine (concatenate_pair_apply_right (t := S128x256) (s₁ := S128x128) (s₂ := S128x128) 1 _ _ _ _ rfl rfl
        (ix2 (n0 := 128) (n1 := 128) r ⟨n.val / 2, by omega⟩) (fun b hb => match b with
        | ⟨0, _⟩ => rfl
        | ⟨1, _⟩ => absurd rfl hb)
        (by show n.val / 2 + 128 = k0.val; omega)).trans ?_
      refine Eq.trans ?_ (dec_odd _ n.val h)
      refine (congrArg (FloatOps.ofBits (F := Ideal) .fp8e4m3) ((hi_tile (shapeCast S128x128 x shapeCasts_S1x128x128_S128x128) r ⟨n.val / 2, by omega⟩).trans ?_))
      exact congrArg hiB (shapeCast_1ab_ab_apply (a := 128) (b := 128) x shapeCasts_S1x128x128_S128x128 r _)
  · intro k _ hk
    rw [hp, if_neg, mul_zero]
    intro e
    apply hk
    apply Fin.ext
    have := k.isLt
    unfold srcOf at e
    split_ifs at e hk0 <;> omega
  · intro h; exact absurd (Finset.mem_univ _) h

/-- A sum against the indicator of the three rows a selection keeps. -/
theorem sum_sel (f : Fin 256 → EReal) (b : ℕ) (hb : b < 64) :
    (∑ k : Fin 256, f k * (if k.val % 64 = b ∧ k.val < 192 then (1 : EReal) else 0))
      = f ⟨b, by omega⟩ + f ⟨b + 64, by omega⟩ + f ⟨b + 128, by omega⟩ := by
  rw [← Finset.sum_subset (s₁ := ({⟨b, by omega⟩, ⟨b + 64, by omega⟩, ⟨b + 128, by omega⟩} : Finset (Fin 256))) (Finset.subset_univ _)]
  · rw [Finset.sum_insert, Finset.sum_insert, Finset.sum_singleton]
    · rw [if_pos (by show b % 64 = b ∧ b < 192; omega), if_pos (by show (b + 64) % 64 = b ∧ b + 64 < 192; omega),
        if_pos (by show (b + 128) % 64 = b ∧ b + 128 < 192; omega), mul_one, mul_one, mul_one, add_assoc]
    · simp
    · simp
  · intro k _ hk
    rw [if_neg, mul_zero]
    rintro ⟨h1, h2⟩
    apply hk
    simp only [Finset.mem_insert, Finset.mem_singleton, Fin.ext_iff]
    omega

/-- The scale tile. -/
theorem scl_tile (l : Vec Ideal S640x256 .bf16) (v : Vec Ideal S1x256x256 .bf16) (c : ℕ) (hc : c < 28) (hv : IsSel c v)
    (r : Fin 640) (n : Fin 256) :
    k0_pay127 (F := Ideal) l v (ix3 (n0 := 1) (n1 := 640) (n2 := 256) 0 r n)
      = l (ix2 (n0 := 640) (n1 := 256) r ⟨2 * c + n.val / 128, by omega⟩)
        + l (ix2 (n0 := 640) (n1 := 256) r ⟨2 * c + n.val / 128 + 64, by omega⟩)
        + l (ix2 (n0 := 640) (n1 := 256) r ⟨2 * c + n.val / 128 + 128, by omega⟩) := by
  unfold k0_pay127
  refine (shapeCast_ab_1ab_apply (a := 640) (b := 256) _ shapeCasts_S640x256_S1x640x256 0 r n).trans ?_
  refine (Ideal.matmul_plain_apply (M := 640) (K := 256) (N := 256) none l _ _ r n).trans ?_
  have hz : constant (F := Ideal) S640x256 .f32 0x00000000#32 (ix2 (n0 := 640) (n1 := 256) r n) = (0 : EReal) := Ideal.ofBits_zero_f32
  rw [hz, zero_add]
  rw [← sum_sel (fun k => l (ix2 (n0 := 640) (n1 := 256) r k)) (2 * c + n.val / 128) (by omega)]
  refine Finset.sum_congr rfl fun k _ => ?_
  rw [← hv k n]
  exact congrArg (fun z => l (ix2 (n0 := 640) (n1 := 256) r k) * z) (shapeCast_1ab_ab_apply (a := 256) (b := 256) v shapeCasts_S1x256x256_S256x256 k n)

end Cert.KernelIdeal.Own

end
-- ==== Proof.ValueBlock.lean ====
module

public import proofs.«01_k».proof.Proof.ValueMath
public import Idealize.ShloMosaic.Lib.KernelVsHost
public import Idealize.ShloMosaic.Lib.Writes

@[expose] public section

set_option maxRecDepth 16384

/-! One block of the outer step read at an index, and the columns of scales split into their parts. -/

noncomputable section

namespace Cert.KernelIdeal.Own

open Cert.KernelIdeal Cert.KernelIdeal.Gen
open Idealize.ShloMosaic Idealize.ShloMosaic.ValueIdx

/-- A decoded code times its scale, the scale already weighted. -/
theorem term_eq (v : BitVec 32) (s w : Ideal .f32) : (Spec.dec v * (s * w) : EReal) = Spec.term v s w := by
  show (Spec.dec v * (s * w) : EReal) = w * (Spec.dec v * s)
  rw [mul_comm w, mul_assoc]

/-- The outer block from its loads. -/
def oBlk (lr : Elt Ideal .f32) (d0 s0 d1 s1 d2 s2 d3 s3 : Vec Ideal S1x32x128 .f32) (mc : Vec Ideal S32x128 .i8)
    (ms : Vec Ideal S1x32x128 .f32) (ga : Vec Ideal S32x128 .f32) : FVec Ideal S32x128 .f32 :=
  k0_pay135 lr (k0_pay129 d0 s0 d1 s1) (k0_pay130 d2) s2 d3 s3 mc ms ga

/-- The merged block from its loads. -/
def mBlk (lr : Elt Ideal .f32) (d0 s0 d1 s1 d2 s2 d3 s3 : Vec Ideal S1x32x128 .f32) (mc : Vec Ideal S32x128 .i8)
    (ms : Vec Ideal S1x32x128 .f32) (ga : Vec Ideal S32x128 .f32) (la : Vec Ideal S32x128 .bf16) : FVec Ideal S32x128 .f32 :=
  k0_pay137 (k0_pay134 la) (oBlk lr d0 s0 d1 s1 d2 s2 d3 s3 mc ms ga) k0_pay136

/-- A code byte as a number, in eight bits or widened. -/
theorem code_num (x : BitVec 8) : FloatOps.sitofp (F := Ideal) .bf16 x = FloatOps.sitofp (F := Ideal) .f32 (x.signExtend 32) := by
  have h : ∀ x : BitVec 8, (x.signExtend 32).toInt = x.toInt := by decide +kernel
  show (((x.toInt : ℤ) : ℝ) : EReal) = ((((x.signExtend 32).toInt : ℤ) : ℝ) : EReal)
  rw [h]

theorem oBlk_apply (lr : Elt Ideal .f32) (d0 s0 d1 s1 d2 s2 d3 s3 : Vec Ideal S1x32x128 .f32) (mc : Vec Ideal S32x128 .i8)
    (ms : Vec Ideal S1x32x128 .f32) (ga : Vec Ideal S32x128 .f32) (r : Fin 32) (n : Fin 128) :
    oBlk lr d0 s0 d1 s1 d2 s2 d3 s3 mc ms ga (ix2 (n0 := 32) (n1 := 128) r n)
      = Spec.outerE (d0 (ix3 (n0 := 1) (n1 := 32) (n2 := 128) 0 r n) * s0 (ix3 (n0 := 1) (n1 := 32) (n2 := 128) 0 r n)
          + d1 (ix3 (n0 := 1) (n1 := 32) (n2 := 128) 0 r n) * s1 (ix3 (n0 := 1) (n1 := 32) (n2 := 128) 0 r n)
          + d2 (ix3 (n0 := 1) (n1 := 32) (n2 := 128) 0 r n) * s2 (ix3 (n0 := 1) (n1 := 32) (n2 := 128) 0 r n)
          + d3 (ix3 (n0 := 1) (n1 := 32) (n2 := 128) 0 r n) * s3 (ix3 (n0 := 1) (n1 := 32) (n2 := 128) 0 r n) : EReal)
          (mc (ix2 (n0 := 32) (n1 := 128) r n)) (ms (ix3 (n0 := 1) (n1 := 32) (n2 := 128) 0 r n)) (ga (ix2 (n0 := 32) (n1 := 128) r n)) lr := by
  have e : ∀ d : Vec Ideal S1x32x128 .f32, shapeCast S32x128 d shapeCasts_S1x32x128_S32x128 (ix2 (n0 := 32) (n1 := 128) r n)
      = d (ix3 (n0 := 1) (n1 := 32) (n2 := 128) 0 r n) := fun d => shapeCast_1ab_ab_apply (a := 32) (b := 128) d shapeCasts_S1x32x128_S32x128 r n
  rw [← e d0, ← e d1, ← e d2, ← e d3, ← e s0, ← e s1, ← e s2, ← e s3, ← e ms]
  unfold Spec.outerE Spec.bnew
  rw [← code_num]
  rfl

theorem mBlk_apply (lr : Elt Ideal .f32) (d0 s0 d1 s1 d2 s2 d3 s3 : Vec Ideal S1x32x128 .f32) (mc : Vec Ideal S32x128 .i8)
    (ms : Vec Ideal S1x32x128 .f32) (ga : Vec Ideal S32x128 .f32) (la : Vec Ideal S32x128 .bf16) (r : Fin 32) (n : Fin 128) :
    mBlk lr d0 s0 d1 s1 d2 s2 d3 s3 mc ms ga la (ix2 (n0 := 32) (n1 := 128) r n)
      = Spec.mergedE (la (ix2 (n0 := 32) (n1 := 128) r n))
          (oBlk lr d0 s0 d1 s1 d2 s2 d3 s3 mc ms ga (ix2 (n0 := 32) (n1 := 128) r n)) := rfl

/-- A finite number less itself is zero. -/
theorem sub_self_fin {x : EReal} (h : x ≠ ⊤ ∧ x ≠ ⊥) : x - x = 0 := EReal.sub_self h.1 h.2

/-- The low part of a finite number that is its own high part is zero. -/
theorem low_apply (v : Vec Ideal S128x128 .f32) (r l : Fin 128)
    (h : v (ix2 (n0 := 128) (n1 := 128) r l) ≠ ⊤ ∧ v (ix2 (n0 := 128) (n1 := 128) r l) ≠ ⊥) :
    k0_pay370 (F := Ideal) v (ix2 (n0 := 128) (n1 := 128) r l) = (0 : EReal) := by
  unfold k0_pay370
  refine (congrFun (shapeCast_self _ _) _).trans ?_
  show ((v (ix2 (n0 := 128) (n1 := 128) r l) - v (ix2 (n0 := 128) (n1 := 128) r l)) - (v (ix2 (n0 := 128) (n1 := 128) r l) - v (ix2 (n0 := 128) (n1 := 128) r l)) : EReal) = 0
  rw [sub_self_fin h]; simp

/-- The high part of a finite number is the number, and the middle part is zero wherever it lands. -/
theorem high_apply (v : Vec Ideal S128x128 .f32) (r l : Fin 128)
    (h : v (ix2 (n0 := 128) (n1 := 128) r ⟨(l.val + 64) % 128, by omega⟩) ≠ ⊤ ∧ v (ix2 (n0 := 128) (n1 := 128) r ⟨(l.val + 64) % 128, by omega⟩) ≠ ⊥) :
    k0_pay369 (F := Ideal) v (ix2 (n0 := 128) (n1 := 128) r l) = v (ix2 (n0 := 128) (n1 := 128) r l) := by
  unfold k0_pay369
  refine (congrFun (shapeCast_self _ _) _).trans ?_
  have e := dynamicRotate_apply (s := S128x128) 1 64#32 (k0_pay368 (F := Ideal) v) rotates_S128x128_d1 (ix2 (n0 := 128) (n1 := 128) r l)
    (ix2 (n0 := 128) (n1 := 128) r ⟨(l.val + 64) % 128, by omega⟩) (fun b => match b with
      | ⟨0, _⟩ => rfl
      | ⟨1, _⟩ => by
        show (l.val + 64) % 128 = (l.val + 128 - 64 % 128) % 128
        omega)
  show (v (ix2 (n0 := 128) (n1 := 128) r l) + dynamicRotate 1 64#32 none (k0_pay368 (F := Ideal) v) rotates_S128x128_d1 (ix2 (n0 := 128) (n1 := 128) r l) : EReal) = _
  rw [e]
  show (v (ix2 (n0 := 128) (n1 := 128) r l) + (v _ - v _) : EReal) = _
  rw [sub_self_fin h, add_zero]

/-- The columns of scales: the four workers' scales weighted, then the momentum's, in lanes 0 to 55; zero in the other lanes. -/
def colsG (gs : Vec Ideal S4x128x56 .f32) (ww : Vec Ideal S4 .f32) (ms : Vec Ideal S128x56 .f32) : S640x128.Idx → EReal := fun i =>
  if hl : (i 1).val < 56 then
    if hr : (i 0).val < 512 then
      gs (ix3 (n0 := 4) (n1 := 128) (n2 := 56) ⟨(i 0).val / 128, by omega⟩ ⟨(i 0).val % 128, by omega⟩ ⟨(i 1).val, hl⟩)
        * ww (ix1 (n := 4) ⟨(i 0).val / 128, by omega⟩)
    else ms (ix2 (n0 := 128) (n1 := 56) ⟨(i 0).val - 512, by have : (i 0).val < 640 := (i 0).isLt; omega⟩ ⟨(i 1).val, hl⟩)
  else 0

/-- The columns with the lanes of the middle and low parts, which are zero. -/
def limbsG (gs : Vec Ideal S4x128x56 .f32) (ww : Vec Ideal S4 .f32) (ms : Vec Ideal S128x56 .f32) : S640x256.Idx → EReal := fun i =>
  if hl : (i 1).val < 128 then colsG gs ww ms (ix2 (n0 := 640) (n1 := 128) ⟨(i 0).val, (i 0).isLt⟩ ⟨(i 1).val, hl⟩) else 0

/-- Finite scales and weights. -/
structure FinIn (gs : Vec Ideal S4x128x56 .f32) (ww : Vec Ideal S4 .f32) (ms : Vec Ideal S128x56 .f32) : Prop where
  gs : ∀ i, gs i ≠ ⊤ ∧ gs i ≠ ⊥
  ww : ∀ i, ww i ≠ ⊤ ∧ ww i ≠ ⊥
  ms : ∀ i, ms i ≠ ⊤ ∧ ms i ≠ ⊥

theorem mul_fin {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem colsG_fin {gs : Vec Ideal S4x128x56 .f32} {ww : Vec Ideal S4 .f32} {ms : Vec Ideal S128x56 .f32} (h : FinIn gs ww ms) (i : S640x128.Idx) :
    colsG gs ww ms i ≠ ⊤ ∧ colsG gs ww ms i ≠ ⊥ := by
  unfold colsG
  split_ifs
  · exact mul_fin (h.gs _) (h.ww _)
  · exact h.ms _
  · exact ⟨EReal.zero_ne_top, EReal.zero_ne_bot⟩

end Cert.KernelIdeal.Own

end
-- ==== Proof.ValueTile.lean ====
module

public import proofs.«01_k».proof.Proof.LoopKernelIdeal
public import proofs.«01_k».proof.Proof.ValueBlock
public import Idealize.ShloMosaic.Lib.Pipeline.ValueKit

@[expose] public section

set_option maxRecDepth 16384

/-! What one trip of the main loop stores into the two result windows. -/

noncomputable section

namespace Cert.KernelIdeal.Own

open Cert.KernelIdeal Cert.KernelIdeal.Gen
open Idealize.ShloMosaic hiding ix1 ix2 ix3
open Idealize.ShloMosaic.ValueIdx

/-- The decoded code of worker `w`, row `r`, column `n`. -/
def Din (x1 : S4x128x3584.Idx → BitVec 8) (w r n : ℕ) : EReal :=
  Spec.dec (Spec.nib (x1 (ix3 (n0 := 4) (n1 := 128) (n2 := 3584) ⟨w % 4, by omega⟩ ⟨r % 128, by omega⟩ ⟨(n / 2) % 3584, by omega⟩)) n)

/-- The three parts of a scale added: row `r` of the columns, block `b`. -/
def Sin (l : S640x256.Idx → EReal) (r b : ℕ) : EReal :=
  l (ix2 (n0 := 640) (n1 := 256) ⟨r % 640, by omega⟩ ⟨b % 256, by omega⟩)
    + l (ix2 (n0 := 640) (n1 := 256) ⟨r % 640, by omega⟩ ⟨(b + 64) % 256, by omega⟩)
    + l (ix2 (n0 := 640) (n1 := 256) ⟨r % 640, by omega⟩ ⟨(b + 128) % 256, by omega⟩)

/-- What the decoded tiles of trip `k` hold. -/
def decG (x1 : S4x128x3584.Idx → BitVec 8) (k : ℕ) : S2x512x256.Idx → EReal := fun i =>
  Din x1 ((i 1).val / 128) ((i 1).val % 128) (256 * k + (i 2).val)

/-- What the scale tile of trip `k` holds. -/
def sclG (l : S640x256.Idx → EReal) (k : ℕ) : S2x640x256.Idx → EReal := fun i =>
  Sin l (i 1).val (2 * k + (i 2).val / 128)

/-- The aggregated update from the codes and the scales. -/
def dG (x1 : S4x128x3584.Idx → BitVec 8) (l : S640x256.Idx → EReal) (r n : ℕ) : EReal :=
  Din x1 0 r n * Sin l r (n / 128) + Din x1 1 r n * Sin l (128 + r) (n / 128)
    + Din x1 2 r n * Sin l (256 + r) (n / 128) + Din x1 3 r n * Sin l (384 + r) (n / 128)

/-- The outer window. -/
def outG (x1 : S4x128x3584.Idx → BitVec 8) (l : S640x256.Idx → EReal) (x6 : S128x7168.Idx → BitVec 8)
    (x4 : S128x7168.Idx → EReal) (lr : EReal) : S128x7168.Idx → EReal := fun i =>
  Spec.outerE (dG x1 l (i 0).val (i 1).val) (x6 i) (Sin l (512 + (i 0).val) ((i 1).val / 128)) (x4 i) lr

/-- The merged window. -/
def merG (x1 : S4x128x3584.Idx → BitVec 8) (l : S640x256.Idx → EReal) (x6 : S128x7168.Idx → BitVec 8)
    (x4 : S128x7168.Idx → EReal) (x5 : S128x7168.Idx → EReal) (lr : EReal) : S128x7168.Idx → EReal := fun i =>
  Spec.mergedE (x5 i) (outG x1 l x6 x4 lr i)

theorem ix3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  match d with
  | ⟨0, _⟩ => exact Fin.ext h0
  | ⟨1, _⟩ => exact Fin.ext h1
  | ⟨2, _⟩ => exact Fin.ext h2

theorem ix2_ext {n0 n1 : ℕ} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

theorem Din_congr (x1 : S4x128x3584.Idx → BitVec 8) {w r n w' r' n' : ℕ} (hw : w = w') (hr : r = r') (hn : n = n') :
    Din x1 w r n = Din x1 w' r' n' := by subst hw hr hn; rfl

theorem Sin_congr (l : S640x256.Idx → EReal) {r b r' b' : ℕ} (hr : r = r') (hb : b = b') : Sin l r b = Sin l r' b' := by
  subst hr hb; rfl

/-- The four bits depend on the column's parity only. -/
theorem nib_parity (y : BitVec 8) {n n' : ℕ} (h : n % 2 = n' % 2) : Spec.nib y n = Spec.nib y n' := by
  unfold Spec.nib; rw [h]

/-- A decoded tile stored in its place. -/
theorem dec_piece (arg1 : Memref sig .tc .vmem S4x128x3584 .i8) (X : BufTy.Contents (Elt Ideal) arg1.view.ty)
    (P : Vec Ideal S256x256 .fp8e4m3) (hp : IsPerm P) (w k : ℕ) (hw : w < 4) (hk : k < 28)
    (off off1 : Fin 3 → ℕ) (hoff : off = ![k % 2, 128 * w, 0]) (hoff1 : off1 = ![w, 0, 128 * k])
    (inb : ∀ a, off a + S1x128x256.size a ≤ S2x512x256.size a) (inb1 : ∀ a, off1 a + S1x128x128.size a ≤ S4x128x3584.size a)
    (y : S1x128x256.Idx) :
    k0_pay117 (F := Ideal) (View.readAt (Elt Ideal) arg1.view (Rect.unit (s := S4x128x3584) off1 S1x128x128.size inb1).toLoadRect X) P y
      = decG (arg1.view.read (Elt Ideal) X) k ((Rect.unit (s := S2x512x256) off S1x128x256.size inb).emb y) := by
  obtain ⟨a, r, n, rfl⟩ : ∃ (a : Fin 1) (r : Fin 128) (n : Fin 256), y = ix3 a r n :=
    ⟨y 0, y 1, y 2, ix3_ext _ _ _ _ rfl rfl rfl⟩
  obtain rfl : a = 0 := Subsingleton.elim _ _
  refine (dec_tile _ P hp r n).trans ?_
  subst hoff hoff1
  have e1 := ValueKit.rect_emb_unit_val (s := S2x512x256) ![k % 2, 128 * w, 0] S1x128x256.size inb (ix3 (n0 := 1) (n1 := 128) (n2 := 256) 0 r n) 1
  have e2 := ValueKit.rect_emb_unit_val (s := S2x512x256) ![k % 2, 128 * w, 0] S1x128x256.size inb (ix3 (n0 := 1) (n1 := 128) (n2 := 256) 0 r n) 2
  have e1' : ((Rect.unit (s := S2x512x256) ![k % 2, 128 * w, 0] S1x128x256.size inb).emb (ix3 (n0 := 1) (n1 := 128) (n2 := 256) 0 r n) 1).val = 128 * w + r.val := e1
  have e2' : ((Rect.unit (s := S2x512x256) ![k % 2, 128 * w, 0] S1x128x256.size inb).emb (ix3 (n0 := 1) (n1 := 128) (n2 := 256) 0 r n) 2).val = 0 + n.val := e2
  have hr := r.isLt
  have hn := n.isLt
  unfold decG
  rw [Din_congr _ (w' := w) (r' := r.val) (n' := 256 * k + n.val) (by rw [e1']; omega) (by rw [e1']; omega) (by rw [e2']; omega)]
  unfold Din
  rw [nib_parity _ (show n.val % 2 = (256 * k + n.val) % 2 by omega)]
  refine congrArg (fun z => Spec.dec (Spec.nib z (256 * k + n.val))) ?_
  refine congrArg (arg1.view.read (Elt Ideal) X) ?_
  refine ix3_ext _ _ _ _ ?_ ?_ ?_
  · refine (Rect.idx_unit_val (s := S4x128x3584) _ _ _ _ _).trans ?_
    show w + 0 = w % 4; omega
  · refine (Rect.idx_unit_val (s := S4x128x3584) _ _ _ _ _).trans ?_
    show 0 + r.val = r.val % 128; omega
  · refine (Rect.idx_unit_val (s := S4x128x3584) _ _ _ _ _).trans ?_
    show 128 * k + n.val / 2 = ((256 * k + n.val) / 2) % 3584; omega

/-- The scale tile stored in its place. -/
theorem scl_piece (l : Vec Ideal S640x256 .bf16) (v : Vec Ideal S1x256x256 .bf16) (k : ℕ) (hk : k < 28) (hv : IsSel k v)
    (off : Fin 3 → ℕ) (hoff : off = ![k % 2, 0, 0])
    (inb : ∀ a, off a + S1x640x256.size a ≤ S2x640x256.size a) (y : S1x640x256.Idx) :
    k0_pay127 (F := Ideal) l v y = sclG l k ((Rect.unit (s := S2x640x256) off S1x640x256.size inb).emb y) := by
  obtain ⟨a, r, n, rfl⟩ : ∃ (a : Fin 1) (r : Fin 640) (n : Fin 256), y = ix3 a r n :=
    ⟨y 0, y 1, y 2, ix3_ext _ _ _ _ rfl rfl rfl⟩
  obtain rfl : a = 0 := Subsingleton.elim _ _
  refine (scl_tile l v k hk hv r n).trans ?_
  subst hoff
  have e1 := ValueKit.rect_emb_unit_val (s := S2x640x256) ![k % 2, 0, 0] S1x640x256.size inb (ix3 (n0 := 1) (n1 := 640) (n2 := 256) 0 r n) 1
  have e2 := ValueKit.rect_emb_unit_val (s := S2x640x256) ![k % 2, 0, 0] S1x640x256.size inb (ix3 (n0 := 1) (n1 := 640) (n2 := 256) 0 r n) 2
  have e1' : ((Rect.unit (s := S2x640x256) ![k % 2, 0, 0] S1x640x256.size inb).emb (ix3 (n0 := 1) (n1 := 640) (n2 := 256) 0 r n) 1).val = 0 + r.val := e1
  have e2' : ((Rect.unit (s := S2x640x256) ![k % 2, 0, 0] S1x640x256.size inb).emb (ix3 (n0 := 1) (n1 := 640) (n2 := 256) 0 r n) 2).val = 0 + n.val := e2
  have hr := r.isLt
  have hn := n.isLt
  unfold sclG
  rw [Sin_congr _ (r' := r.val) (b' := 2 * k + n.val / 128) (by rw [e1']; omega) (by rw [e2']; omega)]
  unfold Sin
  have f : ∀ (a b : Fin 640) (c d : Fin 256), a = b → c = d → l (ix2 (n0 := 640) (n1 := 256) a c) = l (ix2 (n0 := 640) (n1 := 256) b d) := by
    rintro a b c d rfl rfl; rfl
  refine congrArg₂ (· + ·) (congrArg₂ (· + ·) (f _ _ _ _ ?_ ?_) (f _ _ _ _ ?_ ?_)) (f _ _ _ _ ?_ ?_)
  all_goals (apply Fin.ext; dsimp only; omega)

/-- A read of buffer contents made of pieces that agree with `G`, at a place the pieces cover. -/
theorem readCov_eq {κ : Kind} {sp : Space} {s : Shape} {e : EltTy} (v : View sig κ sp s e) (L : List (View.Piece (Elt Ideal) s e))
    (G : s.Idx → Elt Ideal e) (hG : ∀ p ∈ L, ∀ x, p.2 x = G (p.1.emb x)) (B : LoadRect s) (x : B.shape.Idx)
    (hc : ∃ p ∈ L, B.idx x ∈ p.1.set) : v.readCov L B x = G (B.idx x) :=
  View.read_writes_apply_of_pieces v v.junk G L hG (B.idx x) hc

/-- An outer block is the outer window's values. -/
theorem out_piece (x1 : S4x128x3584.Idx → BitVec 8) (l : S640x256.Idx → EReal) (lr : EReal) (k h q : ℕ) (hk : k < 28) (hh : h < 2) (hq : q < 4)
    (d0 s0 d1 s1 d2 s2 d3 s3 ms : Vec Ideal S1x32x128 .f32)
    (hd0 : ∀ (r : Fin 32) (n : Fin 128), d0 (ix3 (n0 := 1) (n1 := 32) (n2 := 128) 0 r n) = Din x1 0 (32 * q + r.val) (256 * k + 128 * h + n.val))
    (hs0 : ∀ (r : Fin 32) (n : Fin 128), s0 (ix3 (n0 := 1) (n1 := 32) (n2 := 128) 0 r n) = Sin l (32 * q + r.val) (2 * k + h))
    (hd1 : ∀ (r : Fin 32) (n : Fin 128), d1 (ix3 (n0 := 1) (n1 := 32) (n2 := 128) 0 r n) = Din x1 1 (32 * q + r.val) (256 * k + 128 * h + n.val))
    (hs1 : ∀ (r : Fin 32) (n : Fin 128), s1 (ix3 (n0 := 1) (n1 := 32) (n2 := 128) 0 r n) = Sin l (128 + 32 * q + r.val) (2 * k + h))
    (hd2 : ∀ (r : Fin 32) (n : Fin 128), d2 (ix3 (n0 := 1) (n1 := 32) (n2 := 128) 0 r n) = Din x1 2 (32 * q + r.val) (256 * k + 128 * h + n.val))
    (hs2 : ∀ (r : Fin 32) (n : Fin 128), s2 (ix3 (n0 := 1) (n1 := 32) (n2 := 128) 0 r n) = Sin l (256 + 32 * q + r.val) (2 * k + h))
    (hd3 : ∀ (r : Fin 32) (n : Fin 128), d3 (ix3 (n0 := 1) (n1 := 32) (n2 := 128) 0 r n) = Din x1 3 (32 * q + r.val) (256 * k + 128 * h + n.val))
    (hs3 : ∀ (r : Fin 32) (n : Fin 128), s3 (ix3 (n0 := 1) (n1 := 32) (n2 := 128) 0 r n) = Sin l (384 + 32 * q + r.val) (2 * k + h))
    (hms : ∀ (r : Fin 32) (n : Fin 128), ms (ix3 (n0 := 1) (n1 := 32) (n2 := 128) 0 r n) = Sin l (512 + 32 * q + r.val) (2 * k + h))
    (arg6 : Memref sig .tc .vmem S128x7168 .i8) (X6 : BufTy.Contents (Elt Ideal) arg6.view.ty)
    (arg4 : Memref sig .tc .vmem S128x7168 .f32) (X4 : BufTy.Contents (Elt Ideal) arg4.view.ty)
    (off : Fin 2 → ℕ) (hoff : off = ![32 * q, 256 * k + 128 * h]) (inb : ∀ a, off a + S32x128.size a ≤ S128x7168.size a)
    (y : S32x128.Idx) :
    oBlk lr d0 s0 d1 s1 d2 s2 d3 s3 (View.readAt (Elt Ideal) arg6.view (Rect.unit (s := S128x7168) off S32x128.size inb).toLoadRect X6) ms
        (View.readAt (Elt Ideal) arg4.view (Rect.unit (s := S128x7168) off S32x128.size inb).toLoadRect X4) y
      = outG x1 l (arg6.view.read (Elt Ideal) X6) (arg4.view.read (Elt Ideal) X4) lr
          ((Rect.unit (s := S128x7168) off S32x128.size inb).emb y) := by
  obtain ⟨r, n, rfl⟩ : ∃ (r : Fin 32) (n : Fin 128), y = ix2 r n := ⟨y 0, y 1, ix2_ext _ _ _ rfl rfl⟩
  refine (oBlk_apply _ _ _ _ _ _ _ _ _ _ _ _ r n).trans ?_
  have e1 : ((Rect.unit (s := S128x7168) off S32x128.size inb).emb (ix2 (n0 := 32) (n1 := 128) r n) 0).val = 32 * q + r.val := by
    refine (ValueKit.rect_emb_unit_val (s := S128x7168) _ _ _ _ _).trans ?_
    subst hoff; rfl
  have e2 : ((Rect.unit (s := S128x7168) off S32x128.size inb).emb (ix2 (n0 := 32) (n1 := 128) r n) 1).val = 256 * k + 128 * h + n.val := by
    refine (ValueKit.rect_emb_unit_val (s := S128x7168) _ _ _ _ _).trans ?_
    subst hoff; rfl
  have hr := r.isLt
  have hn := n.isLt
  unfold outG dG
  rw [hd0, hs0, hd1, hs1, hd2, hs2, hd3, hs3, hms, e1, e2]
  have en : (256 * k + 128 * h + n.val) / 128 = 2 * k + h := by omega
  rw [en, show 128 + (32 * q + r.val) = 128 + 32 * q + r.val by omega, show 256 + (32 * q + r.val) = 256 + 32 * q + r.val by omega,
    show 384 + (32 * q + r.val) = 384 + 32 * q + r.val by omega, show 512 + (32 * q + r.val) = 512 + 32 * q + r.val by omega]
  rfl

/-- A merged block is the merged window's values. -/
theorem mer_piece (x1 : S4x128x3584.Idx → BitVec 8) (l : S640x256.Idx → EReal) (lr : EReal)
    (d0 s0 d1 s1 d2 s2 d3 s3 ms : Vec Ideal S1x32x128 .f32)
    (arg6 : Memref sig .tc .vmem S128x7168 .i8) (X6 : BufTy.Contents (Elt Ideal) arg6.view.ty)
    (arg4 : Memref sig .tc .vmem S128x7168 .f32) (X4 : BufTy.Contents (Elt Ideal) arg4.view.ty)
    (arg5 : Memref sig .tc .vmem S128x7168 .bf16) (X5 : BufTy.Contents (Elt Ideal) arg5.view.ty)
    (off : Fin 2 → ℕ) (inb : ∀ a, off a + S32x128.size a ≤ S128x7168.size a)
    (y : S32x128.Idx)
    (ho : oBlk lr d0 s0 d1 s1 d2 s2 d3 s3 (View.readAt (Elt Ideal) arg6.view (Rect.unit (s := S128x7168) off S32x128.size inb).toLoadRect X6) ms
        (View.readAt (Elt Ideal) arg4.view (Rect.unit (s := S128x7168) off S32x128.size inb).toLoadRect X4) y
      = outG x1 l (arg6.view.read (Elt Ideal) X6) (arg4.view.read (Elt Ideal) X4) lr
          ((Rect.unit (s := S128x7168) off S32x128.size inb).emb y)) :
    mBlk lr d0 s0 d1 s1 d2 s2 d3 s3 (View.readAt (Elt Ideal) arg6.view (Rect.unit (s := S128x7168) off S32x128.size inb).toLoadRect X6) ms
        (View.readAt (Elt Ideal) arg4.view (Rect.unit (s := S128x7168) off S32x128.size inb).toLoadRect X4)
        (View.readAt (Elt Ideal) arg5.view (Rect.unit (s := S128x7168) off S32x128.size inb).toLoadRect X5) y
      = merG x1 l (arg6.view.read (Elt Ideal) X6) (arg4.view.read (Elt Ideal) X4) (arg5.view.read (Elt Ideal) X5) lr
          ((Rect.unit (s := S128x7168) off S32x128.size inb).emb y) := by
  obtain ⟨r, n, rfl⟩ : ∃ (r : Fin 32) (n : Fin 128), y = ix2 r n := ⟨y 0, y 1, ix2_ext _ _ _ rfl rfl⟩
  refine (mBlk_apply _ _ _ _ _ _ _ _ _ _ _ _ _ r n).trans ?_
  unfold merG
  rw [ho]
  rfl

end Cert.KernelIdeal.Own

end
-- ==== Proof.ValueTrip.lean ====
module

public import proofs.«01_k».proof.Proof.ValueTile

@[expose] public section

set_option maxRecDepth 16384
set_option maxHeartbeats 4000000

/-! The pieces one trip of the main loop stores into the two result windows hold the windows' values. -/

noncomputable section

namespace Cert.KernelIdeal.Own

open Cert.KernelIdeal Cert.KernelIdeal.Gen
open Idealize.ShloMosaic hiding ix1 ix2 ix3
open Idealize.ShloMosaic.ValueIdx

theorem trips28 (k : Fin k0_t1_loop.trips) : k.val < 28 := Nat.lt_of_lt_of_le k.isLt k0_t1_abs.2.1

/-- The permutation as a load reads it. -/
def permLd (arg29 : Memref sig .tc .vmem S256x256 .fp8e4m3) (X : BufTy.Contents (Elt Ideal) arg29.view.ty) : Vec Ideal S256x256 .fp8e4m3 :=
  View.readAt (Elt Ideal) arg29.view (Rect.unit (s := S256x256) ![0, 0] S256x256.size inb_S256x256_S256x256_0_0).toLoadRect X

/-- A selection as a load reads it. -/
def selLd (arg31 : Memref sig .tc .vmem S28x256x256 .bf16) (X : BufTy.Contents (Elt Ideal) arg31.view.ty) (k : Fin k0_t1_loop.trips) :
    Vec Ideal S1x256x256 .bf16 :=
  View.readAt (Elt Ideal) arg31.view (Rect.unit (s := S28x256x256) (k0_off9 k) S1x256x256.size (k0_off9_inb k)).toLoadRect X

/-- The columns as a load reads them. -/
def limbLd (arg33 : Memref sig .tc .vmem S640x256 .bf16) (X : BufTy.Contents (Elt Ideal) arg33.view.ty) : Vec Ideal S640x256 .bf16 :=
  View.readAt (Elt Ideal) arg33.view (Rect.unit (s := S640x256) ![0, 0] S640x256.size inb_S640x256_S640x256_0_0).toLoadRect X

theorem dec_pieces (arg1 : Memref sig .tc .vmem S4x128x3584 .i8) (arg29 : Memref sig .tc .vmem S256x256 .fp8e4m3)
    (X1 : BufTy.Contents (Elt Ideal) arg1.view.ty) (X29 : BufTy.Contents (Elt Ideal) arg29.view.ty)
    (k : Fin k0_t1_loop.trips) (hp : IsPerm (permLd arg29 X29)) :
    ∀ p ∈ trip_k0_t1.sl.HW_arg34_4 (F := Ideal) arg1 arg29 X1 X29 k, ∀ x, p.2 x = decG (arg1.view.read (Elt Ideal) X1) k.val (p.1.emb x) := by
  have hk := trips28 k
  unfold trip_k0_t1.sl.HW_arg34_4
  refine List.forall_mem_cons.2 ⟨?_, List.forall_mem_cons.2 ⟨?_, List.forall_mem_cons.2 ⟨?_, List.forall_mem_cons.2 ⟨?_, fun p hp => absurd hp List.not_mem_nil⟩⟩⟩⟩
  · exact fun x => dec_piece arg1 X1 _ hp 3 k.val (by decide) hk _ (k0_off7 k) (k0_off8_eq k) (k0_off7_eq k) (k0_off8_inb k) (k0_off7_inb k) x
  · exact fun x => dec_piece arg1 X1 _ hp 2 k.val (by decide) hk _ (k0_off5 k) (k0_off6_eq k) (k0_off5_eq k) (k0_off6_inb k) (k0_off5_inb k) x
  · exact fun x => dec_piece arg1 X1 _ hp 1 k.val (by decide) hk _ (k0_off3 k) (k0_off4_eq k) (k0_off3_eq k) (k0_off4_inb k) (k0_off3_inb k) x
  · exact fun x => dec_piece arg1 X1 _ hp 0 k.val (by decide) hk _ (k0_off1 k) (k0_off2_eq k) (k0_off1_eq k) (k0_off2_inb k) (k0_off1_inb k) x

/-- A load of the decoded tiles. -/
theorem d_load (arg1 : Memref sig .tc .vmem S4x128x3584 .i8) (arg29 : Memref sig .tc .vmem S256x256 .fp8e4m3)
    (arg34 : Memref sig .tc .vmem S2x512x256 .f32)
    (X1 : BufTy.Contents (Elt Ideal) arg1.view.ty) (X29 : BufTy.Contents (Elt Ideal) arg29.view.ty)
    (k : Fin k0_t1_loop.trips) (hp : IsPerm (permLd arg29 X29)) (w h q : ℕ) (hw : w < 4) (hh : h < 2) (hq : q < 4)
    (off : Fin 3 → ℕ) (hoff : off = ![k.val % 2, 128 * w + 32 * q, 128 * h]) (inb : ∀ a, off a + S1x32x128.size a ≤ S2x512x256.size a)
    (r : Fin 32) (n : Fin 128) :
    arg34.view.readCov (trip_k0_t1.sl.HW_arg34_4 (F := Ideal) arg1 arg29 X1 X29 k)
        (Rect.unit (s := S2x512x256) off S1x32x128.size inb).toLoadRect (ix3 (n0 := 1) (n1 := 32) (n2 := 128) 0 r n)
      = Din (arg1.view.read (Elt Ideal) X1) w (32 * q + r.val) (256 * k.val + 128 * h + n.val) := by
  have hr := r.isLt
  have hn := n.isLt
  have hk := trips28 k
  generalize hi : (Rect.unit (s := S2x512x256) off S1x32x128.size inb).toLoadRect.idx (ix3 (n0 := 1) (n1 := 32) (n2 := 128) 0 r n) = i
  have e0 : (i 0).val = k.val % 2 := by
    rw [← hi]; refine (Rect.idx_unit_val (s := S2x512x256) _ _ _ _ _).trans ?_; subst hoff; show k.val % 2 + 0 = _; omega
  have e1 : (i 1).val = 128 * w + 32 * q + r.val := by
    rw [← hi]; refine (Rect.idx_unit_val (s := S2x512x256) _ _ _ _ _).trans ?_; subst hoff; rfl
  have e2 : (i 2).val = 128 * h + n.val := by
    rw [← hi]; refine (Rect.idx_unit_val (s := S2x512x256) _ _ _ _ _).trans ?_; subst hoff; rfl
  refine (readCov_eq arg34.view _ _ (dec_pieces arg1 arg29 X1 X29 k hp) _ _ ?_).trans ?_
  · rw [hi]
    have key : ∀ (w : ℕ) (o : Fin 3 → ℕ) (inb' : ∀ a, o a + S1x128x256.size a ≤ S2x512x256.size a), o = ![k.val % 2, 128 * w, 0] →
        (i 1).val / 128 = w → i ∈ (Rect.unit (s := S2x512x256) o S1x128x256.size inb').set := by
      intro w o inb' ho hw'
      subst ho
      refine Rect.mem_set_unit.2 fun a => ?_
      match a with
      | ⟨0, _⟩ => show k.val % 2 ≤ (i 0).val ∧ (i 0).val < k.val % 2 + 1; omega
      | ⟨1, _⟩ => show 128 * w ≤ (i 1).val ∧ (i 1).val < 128 * w + 128; omega
      | ⟨2, _⟩ => show 0 ≤ (i 2).val ∧ (i 2).val < 0 + 256; omega
    unfold trip_k0_t1.sl.HW_arg34_4
    match w, hw with
    | 0, _ => exact ⟨_, List.mem_cons_of_mem _ (List.mem_cons_of_mem _ (List.mem_cons_of_mem _ List.mem_cons_self)), key 0 _ (k0_off2_inb k) (k0_off2_eq k) (by omega)⟩
    | 1, _ => exact ⟨_, List.mem_cons_of_mem _ (List.mem_cons_of_mem _ List.mem_cons_self), key 1 _ (k0_off4_inb k) (k0_off4_eq k) (by omega)⟩
    | 2, _ => exact ⟨_, List.mem_cons_of_mem _ List.mem_cons_self, key 2 _ (k0_off6_inb k) (k0_off6_eq k) (by omega)⟩
    | 3, _ => exact ⟨_, List.mem_cons_self, key 3 _ (k0_off8_inb k) (k0_off8_eq k) (by omega)⟩
  · rw [hi]
    exact Din_congr _ (by rw [e1]; omega) (by rw [e1]; omega) (by rw [e2]; omega)

/-- A load of the scale tile. -/
theorem s_load (arg31 : Memref sig .tc .vmem S28x256x256 .bf16) (arg33 : Memref sig .tc .vmem S640x256 .bf16)
    (arg35 : Memref sig .tc .vmem S2x640x256 .f32)
    (X31 : BufTy.Contents (Elt Ideal) arg31.view.ty) (X33 : BufTy.Contents (Elt Ideal) arg33.view.ty)
    (k : Fin k0_t1_loop.trips) (hv : IsSel k.val (selLd arg31 X31 k)) (h q ρ : ℕ) (hh : h < 2) (hρ : ρ + 32 ≤ 640)
    (off : Fin 3 → ℕ) (hoff : off = ![k.val % 2, ρ, 128 * h]) (inb : ∀ a, off a + S1x32x128.size a ≤ S2x640x256.size a)
    (r : Fin 32) (n : Fin 128) :
    arg35.view.readCov (trip_k0_t1.sl.HW_arg35_1 (F := Ideal) arg31 arg33 X31 X33 k)
        (Rect.unit (s := S2x640x256) off S1x32x128.size inb).toLoadRect (ix3 (n0 := 1) (n1 := 32) (n2 := 128) 0 r n)
      = Sin (limbLd arg33 X33) (ρ + r.val) (2 * k.val + h) := by
  have hr := r.isLt
  have hn := n.isLt
  have hk := trips28 k
  generalize hi : (Rect.unit (s := S2x640x256) off S1x32x128.size inb).toLoadRect.idx (ix3 (n0 := 1) (n1 := 32) (n2 := 128) 0 r n) = i
  have e0 : (i 0).val = k.val % 2 := by
    rw [← hi]; refine (Rect.idx_unit_val (s := S2x640x256) _ _ _ _ _).trans ?_; subst hoff; show k.val % 2 + 0 = _; omega
  have e1 : (i 1).val = ρ + r.val := by
    rw [← hi]; refine (Rect.idx_unit_val (s := S2x640x256) _ _ _ _ _).trans ?_; subst hoff; rfl
  have e2 : (i 2).val = 128 * h + n.val := by
    rw [← hi]; refine (Rect.idx_unit_val (s := S2x640x256) _ _ _ _ _).trans ?_; subst hoff; rfl
  refine (readCov_eq arg35.view _ (sclG (limbLd arg33 X33) k.val) ?_ _ _ ?_).trans ?_
  · unfold trip_k0_t1.sl.HW_arg35_1
    refine List.forall_mem_cons.2 ⟨?_, fun p hp => absurd hp List.not_mem_nil⟩
    exact fun x => scl_piece _ _ k.val hk hv _ (k0_off10_eq k) (k0_off10_inb k) x
  · rw [hi]
    unfold trip_k0_t1.sl.HW_arg35_1
    refine ⟨_, List.mem_cons_self, (Rect.mem_set_unit (s := S2x640x256) (inb := k0_off10_inb k)).2 fun a => ?_⟩
    rw [k0_off10_eq k]
    match a with
    | ⟨0, _⟩ => show k.val % 2 ≤ (i 0).val ∧ (i 0).val < k.val % 2 + 1; omega
    | ⟨1, _⟩ => show 0 ≤ (i 1).val ∧ (i 1).val < 0 + 640; omega
    | ⟨2, _⟩ => show 0 ≤ (i 2).val ∧ (i 2).val < 0 + 256; omega
  · rw [hi]
    exact Sin_congr _ e1 (by rw [e2]; omega)

theorem out_00 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off19 k 0#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off11 k) S1x32x128.size (k0_off11_inb k)).toLoadRect)
      (arg35.view.readCov (trip_k0_t1.sl.HW_arg35_1 (F := Ideal) arg31 arg33 X_arg31 X_arg33 k) (Rect.unit (s := S2x640x256) (k0_off12 k) S1x32x128.size (k0_off12_inb k)).toLoadRect)
      (arg34.view.readCov (trip_k0_t1.sl.HW_arg34_4 (F := Ideal) arg1 arg29 X_arg1 X_arg29 k) (Rect.unit (s := S2x512x256) (k0_off13 k) S1x32x128.size (k0_off13_inb k)).toLoadRect)
      (arg35.view.readCov (trip_k0_t1.sl.HW_arg35_1 (F := Ideal) arg31 arg33 X_arg31 X_arg33 k) (Rect.unit (s := S2x640x256) (k0_off14 k) S1x32x128.size (k0_off14_inb k)).toLoadRect)
      (arg34.view.readCov (trip_k0_t1.sl.HW_arg34_4 (F := Ideal) arg1 arg29 X_arg1 X_arg29 k) (Rect.unit (s := S2x512x256) (k0_off15 k) S1x32x128.size (k0_off15_inb k)).toLoadRect)
      (arg35.view.readCov (trip_k0_t1.sl.HW_arg35_1 (F := Ideal) arg31 arg33 X_arg31 X_arg33 k) (Rect.unit (s := S2x640x256) (k0_off16 k) S1x32x128.size (k0_off16_inb k)).toLoadRect)
      (arg34.view.readCov (trip_k0_t1.sl.HW_arg34_4 (F := Ideal) arg1 arg29 X_arg1 X_arg29 k) (Rect.unit (s := S2x512x256) (k0_off17 k) S1x32x128.size (k0_off17_inb k)).toLoadRect)
      (arg35.view.readCov (trip_k0_t1.sl.HW_arg35_1 (F := Ideal) arg31 arg33 X_arg31 X_arg33 k) (Rect.unit (s := S2x640x256) (k0_off18 k) S1x32x128.size (k0_off18_inb k)).toLoadRect)
      (View.readAt (Elt Ideal) arg6.view (Rect.unit (s := S128x7168) (k0_off19 k 0#32) S32x128.size inb).toLoadRect X_arg6)
      (arg35.view.readCov (trip_k0_t1.sl.HW_arg35_1 (F := Ideal) arg31 arg33 X_arg31 X_arg33 k) (Rect.unit (s := S2x640x256) (k0_off20 k) S1x32x128.size (k0_off20_inb k)).toLoadRect)
      (View.readAt (Elt Ideal) arg4.view (Rect.unit (s := S128x7168) (k0_off19 k 0#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off19 k 0#32) S32x128.size inb).emb y) :=
  out_piece _ _ v144 k.val 0 0 (trips28 k) (by decide) (by decide) _ _ _ _ _ _ _ _ _
    (d_load arg1 arg29 arg34 X_arg1 X_arg29 k hp 0 0 0 (by decide) (by decide) (by decide) _ (k0_off11_eq k) (k0_off11_inb k))
    (fun r n => (s_load arg31 arg33 arg35 X_arg31 X_arg33 k hv 0 0 0 (by decide) (by decide) _ (k0_off12_eq k) (k0_off12_inb k) r n).trans rfl)
    (d_load arg1 arg29 arg34 X_arg1 X_arg29 k hp 1 0 0 (by decide) (by decide) (by decide) _ (k0_off13_eq k) (k0_off13_inb k))
    (fun r n => (s_load arg31 arg33 arg35 X_arg31 X_arg33 k hv 0 0 128 (by decide) (by decide) _ (k0_off14_eq k) (k0_off14_inb k) r n).trans rfl)
    (d_load arg1 arg29 arg34 X_arg1 X_arg29 k hp 2 0 0 (by decide) (by decide) (by decide) _ (k0_off15_eq k) (k0_off15_inb k))
    (fun r n => (s_load arg31 arg33 arg35 X_arg31 X_arg33 k hv 0 0 256 (by decide) (by decide) _ (k0_off16_eq k) (k0_off16_inb k) r n).trans rfl)
    (d_load arg1 arg29 arg34 X_arg1 X_arg29 k hp 3 0 0 (by decide) (by decide) (by decide) _ (k0_off17_eq k) (k0_off17_inb k))
    (fun r n => (s_load arg31 arg33 arg35 X_arg31 X_arg33 k hv 0 0 384 (by decide) (by decide) _ (k0_off18_eq k) (k0_off18_inb k) r n).trans rfl)
    (fun r n => (s_load arg31 arg33 arg35 X_arg31 X_arg33 k hv 0 0 512 (by decide) (by decide) _ (k0_off20_eq k) (k0_off20_inb k) r n).trans rfl)
    arg6 X_arg6 arg4 X_arg4 _ (k0_off19_eq k 0) inb y

theorem mer_00 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off19 k 0#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off11 k) S1x32x128.size (k0_off11_inb k)).toLoadRect)
      (arg35.view.readCov (trip_k0_t1.sl.HW_arg35_1 (F := Ideal) arg31 arg33 X_arg31 X_arg33 k) (Rect.unit (s := S2x640x256) (k0_off12 k) S1x32x128.size (k0_off12_inb k)).toLoadRect)
      (arg34.view.readCov (trip_k0_t1.sl.HW_arg34_4 (F := Ideal) arg1 arg29 X_arg1 X_arg29 k) (Rect.unit (s := S2x512x256) (k0_off13 k) S1x32x128.size (k0_off13_inb k)).toLoadRect)
      (arg35.view.readCov (trip_k0_t1.sl.HW_arg35_1 (F := Ideal) arg31 arg33 X_arg31 X_arg33 k) (Rect.unit (s := S2x640x256) (k0_off14 k) S1x32x128.size (k0_off14_inb k)).toLoadRect)
      (arg34.view.readCov (trip_k0_t1.sl.HW_arg34_4 (F := Ideal) arg1 arg29 X_arg1 X_arg29 k) (Rect.unit (s := S2x512x256) (k0_off15 k) S1x32x128.size (k0_off15_inb k)).toLoadRect)
      (arg35.view.readCov (trip_k0_t1.sl.HW_arg35_1 (F := Ideal) arg31 arg33 X_arg31 X_arg33 k) (Rect.unit (s := S2x640x256) (k0_off16 k) S1x32x128.size (k0_off16_inb k)).toLoadRect)
      (arg34.view.readCov (trip_k0_t1.sl.HW_arg34_4 (F := Ideal) arg1 arg29 X_arg1 X_arg29 k) (Rect.unit (s := S2x512x256) (k0_off17 k) S1x32x128.size (k0_off17_inb k)).toLoadRect)
      (arg35.view.readCov (trip_k0_t1.sl.HW_arg35_1 (F := Ideal) arg31 arg33 X_arg31 X_arg33 k) (Rect.unit (s := S2x640x256) (k0_off18 k) S1x32x128.size (k0_off18_inb k)).toLoadRect)
      (View.readAt (Elt Ideal) arg6.view (Rect.unit (s := S128x7168) (k0_off19 k 0#32) S32x128.size inb).toLoadRect X_arg6)
      (arg35.view.readCov (trip_k0_t1.sl.HW_arg35_1 (F := Ideal) arg31 arg33 X_arg31 X_arg33 k) (Rect.unit (s := S2x640x256) (k0_off20 k) S1x32x128.size (k0_off20_inb k)).toLoadRect)
      (View.readAt (Elt Ideal) arg4.view (Rect.unit (s := S128x7168) (k0_off19 k 0#32) S32x128.size inb).toLoadRect X_arg4)
      (View.readAt (Elt Ideal) arg5.view (Rect.unit (s := S128x7168) (k0_off19 k 0#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off19 k 0#32) S32x128.size inb).emb y) :=
  mer_piece _ _ v144 _ _ _ _ _ _ _ _ _ arg6 X_arg6 arg4 X_arg4 arg5 X_arg5 _ inb y
    (out_00 arg1 arg4 arg5 arg6 arg29 arg31 arg33 arg34 arg35 v144 X_arg1 X_arg4 X_arg5 X_arg6 X_arg29 X_arg31 X_arg33 k hp hv inb y)

theorem out_01 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off30 k 0#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off22 k) S1x32x128.size (k0_off22_inb k)).toLoadRect)
      (arg35.view.readCov (trip_k0_t1.sl.HW_arg35_1 (F := Ideal) arg31 arg33 X_arg31 X_arg33 k) (Rect.unit (s := S2x640x256) (k0_off23 k) S1x32x128.size (k0_off23_inb k)).toLoadRect)
      (arg34.view.readCov (trip_k0_t1.sl.HW_arg34_4 (F := Ideal) arg1 arg29 X_arg1 X_arg29 k) (Rect.unit (s := S2x512x256) (k0_off24 k) S1x32x128.size (k0_off24_inb k)).toLoadRect)
      (arg35.view.readCov (trip_k0_t1.sl.HW_arg35_1 (F := Ideal) arg31 arg33 X_arg31 X_arg33 k) (Rect.unit (s := S2x640x256) (k0_off25 k) S1x32x128.size (k0_off25_inb k)).toLoadRect)
      (arg34.view.readCov (trip_k0_t1.sl.HW_arg34_4 (F := Ideal) arg1 arg29 X_arg1 X_arg29 k) (Rect.unit (s := S2x512x256) (k0_off26 k) S1x32x128.size (k0_off26_inb k)).toLoadRect)
      (arg35.view.readCov (trip_k0_t1.sl.HW_arg35_1 (F := Ideal) arg31 arg33 X_arg31 X_arg33 k) (Rect.unit (s := S2x640x256) (k0_off27 k) S1x32x128.size (k0_off27_inb k)).toLoadRect)
      (arg34.view.readCov (trip_k0_t1.sl.HW_arg34_4 (F := Ideal) arg1 arg29 X_arg1 X_arg29 k) (Rect.unit (s := S2x512x256) (k0_off28 k) S1x32x128.size (k0_off28_inb k)).toLoadRect)
      (arg35.view.readCov (trip_k0_t1.sl.HW_arg35_1 (F := Ideal) arg31 arg33 X_arg31 X_arg33 k) (Rect.unit (s := S2x640x256) (k0_off29 k) S1x32x128.size (k0_off29_inb k)).toLoadRect)
      (View.readAt (Elt Ideal) arg6.view (Rect.unit (s := S128x7168) (k0_off30 k 0#32) S32x128.size inb).toLoadRect X_arg6)
      (arg35.view.readCov (trip_k0_t1.sl.HW_arg35_1 (F := Ideal) arg31 arg33 X_arg31 X_arg33 k) (Rect.unit (s := S2x640x256) (k0_off31 k) S1x32x128.size (k0_off31_inb k)).toLoadRect)
      (View.readAt (Elt Ideal) arg4.view (Rect.unit (s := S128x7168) (k0_off30 k 0#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off30 k 0#32) S32x128.size inb).emb y) :=
  out_piece _ _ v144 k.val 0 1 (trips28 k) (by decide) (by decide) _ _ _ _ _ _ _ _ _
    (d_load arg1 arg29 arg34 X_arg1 X_arg29 k hp 0 0 1 (by decide) (by decide) (by decide) _ (k0_off22_eq k) (k0_off22_inb k))
    (fun r n => (s_load arg31 arg33 arg35 X_arg31 X_arg33 k hv 0 1 32 (by decide) (by decide) _ (k0_off23_eq k) (k0_off23_inb k) r n).trans rfl)
    (d_load arg1 arg29 arg34 X_arg1 X_arg29 k hp 1 0 1 (by decide) (by decide) (by decide) _ (k0_off24_eq k) (k0_off24_inb k))
    (fun r n => (s_load arg31 arg33 arg35 X_arg31 X_arg33 k hv 0 1 160 (by decide) (by decide) _ (k0_off25_eq k) (k0_off25_inb k) r n).trans rfl)
    (d_load arg1 arg29 arg34 X_arg1 X_arg29 k hp 2 0 1 (by decide) (by decide) (by decide) _ (k0_off26_eq k) (k0_off26_inb k))
    (fun r n => (s_load arg31 arg33 arg35 X_arg31 X_arg33 k hv 0 1 288 (by decide) (by decide) _ (k0_off27_eq k) (k0_off27_inb k) r n).trans rfl)
    (d_load arg1 arg29 arg34 X_arg1 X_arg29 k hp 3 0 1 (by decide) (by decide) (by decide) _ (k0_off28_eq k) (k0_off28_inb k))
    (fun r n => (s_load arg31 arg33 arg35 X_arg31 X_arg33 k hv 0 1 416 (by decide) (by decide) _ (k0_off29_eq k) (k0_off29_inb k) r n).trans rfl)
    (fun r n => (s_load arg31 arg33 arg35 X_arg31 X_arg33 k hv 0 1 544 (by decide) (by decide) _ (k0_off31_eq k) (k0_off31_inb k) r n).trans rfl)
    arg6 X_arg6 arg4 X_arg4 _ (k0_off30_eq k 0) inb y

theorem mer_01 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off30 k 0#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off22 k) S1x32x128.size (k0_off22_inb k)).toLoadRect)
      (arg35.view.readCov (trip_k0_t1.sl.HW_arg35_1 (F := Ideal) arg31 arg33 X_arg31 X_arg33 k) (Rect.unit (s := S2x640x256) (k0_off23 k) S1x32x128.size (k0_off23_inb k)).toLoadRect)
      (arg34.view.readCov (trip_k0_t1.sl.HW_arg34_4 (F := Ideal) arg1 arg29 X_arg1 X_arg29 k) (Rect.unit (s := S2x512x256) (k0_off24 k) S1x32x128.size (k0_off24_inb k)).toLoadRect)
      (arg35.view.readCov (trip_k0_t1.sl.HW_arg35_1 (F := Ideal) arg31 arg33 X_arg31 X_arg33 k) (Rect.unit (s := S2x640x256) (k0_off25 k) S1x32x128.size (k0_off25_inb k)).toLoadRect)
      (arg34.view.readCov (trip_k0_t1.sl.HW_arg34_4 (F := Ideal) arg1 arg29 X_arg1 X_arg29 k) (Rect.unit (s := S2x512x256) (k0_off26 k) S1x32x128.size (k0_off26_inb k)).toLoadRect)
      (arg35.view.readCov (trip_k0_t1.sl.HW_arg35_1 (F := Ideal) arg31 arg33 X_arg31 X_arg33 k) (Rect.unit (s := S2x640x256) (k0_off27 k) S1x32x128.size (k0_off27_inb k)).toLoadRect)
      (arg34.view.readCov (trip_k0_t1.sl.HW_arg34_4 (F := Ideal) arg1 arg29 X_arg1 X_arg29 k) (Rect.unit (s := S2x512x256) (k0_off28 k) S1x32x128.size (k0_off28_inb k)).toLoadRect)
      (arg35.view.readCov (trip_k0_t1.sl.HW_arg35_1 (F := Ideal) arg31 arg33 X_arg31 X_arg33 k) (Rect.unit (s := S2x640x256) (k0_off29 k) S1x32x128.size (k0_off29_inb k)).toLoadRect)
      (View.readAt (Elt Ideal) arg6.view (Rect.unit (s := S128x7168) (k0_off30 k 0#32) S32x128.size inb).toLoadRect X_arg6)
      (arg35.view.readCov (trip_k0_t1.sl.HW_arg35_1 (F := Ideal) arg31 arg33 X_arg31 X_arg33 k) (Rect.unit (s := S2x640x256) (k0_off31 k) S1x32x128.size (k0_off31_inb k)).toLoadRect)
      (View.readAt (Elt Ideal) arg4.view (Rect.unit (s := S128x7168) (k0_off30 k 0#32) S32x128.size inb).toLoadRect X_arg4)
      (View.readAt (Elt Ideal) arg5.view (Rect.unit (s := S128x7168) (k0_off30 k 0#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off30 k 0#32) S32x128.size inb).emb y) :=
  mer_piece _ _ v144 _ _ _ _ _ _ _ _ _ arg6 X_arg6 arg4 X_arg4 arg5 X_arg5 _ inb y
    (out_01 arg1 arg4 arg5 arg6 arg29 arg31 arg33 arg34 arg35 v144 X_arg1 X_arg4 X_arg5 X_arg6 X_arg29 X_arg31 X_arg33 k hp hv inb y)

theorem out_02 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off41 k 0#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off33 k) S1x32x128.size (k0_off33_inb k)).toLoadRect)
      (arg35.view.readCov (trip_k0_t1.sl.HW_arg35_1 (F := Ideal) arg31 arg33 X_arg31 X_arg33 k) (Rect.unit (s := S2x640x256) (k0_off34 k) S1x32x128.size (k0_off34_inb k)).toLoadRect)
      (arg34.view.readCov (trip_k0_t1.sl.HW_arg34_4 (F := Ideal) arg1 arg29 X_arg1 X_arg29 k) (Rect.unit (s := S2x512x256) (k0_off35 k) S1x32x128.size (k0_off35_inb k)).toLoadRect)
      (arg35.view.readCov (trip_k0_t1.sl.HW_arg35_1 (F := Ideal) arg31 arg33 X_arg31 X_arg33 k) (Rect.unit (s := S2x640x256) (k0_off36 k) S1x32x128.size (k0_off36_inb k)).toLoadRect)
      (arg34.view.readCov (trip_k0_t1.sl.HW_arg34_4 (F := Ideal) arg1 arg29 X_arg1 X_arg29 k) (Rect.unit (s := S2x512x256) (k0_off37 k) S1x32x128.size (k0_off37_inb k)).toLoadRect)
      (arg35.view.readCov (trip_k0_t1.sl.HW_arg35_1 (F := Ideal) arg31 arg33 X_arg31 X_arg33 k) (Rect.unit (s := S2x640x256) (k0_off38 k) S1x32x128.size (k0_off38_inb k)).toLoadRect)
      (arg34.view.readCov (trip_k0_t1.sl.HW_arg34_4 (F := Ideal) arg1 arg29 X_arg1 X_arg29 k) (Rect.unit (s := S2x512x256) (k0_off39 k) S1x32x128.size (k0_off39_inb k)).toLoadRect)
      (arg35.view.readCov (trip_k0_t1.sl.HW_arg35_1 (F := Ideal) arg31 arg33 X_arg31 X_arg33 k) (Rect.unit (s := S2x640x256) (k0_off40 k) S1x32x128.size (k0_off40_inb k)).toLoadRect)
      (View.readAt (Elt Ideal) arg6.view (Rect.unit (s := S128x7168) (k0_off41 k 0#32) S32x128.size inb).toLoadRect X_arg6)
      (arg35.view.readCov (trip_k0_t1.sl.HW_arg35_1 (F := Ideal) arg31 arg33 X_arg31 X_arg33 k) (Rect.unit (s := S2x640x256) (k0_off42 k) S1x32x128.size (k0_off42_inb k)).toLoadRect)
      (View.readAt (Elt Ideal) arg4.view (Rect.unit (s := S128x7168) (k0_off41 k 0#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off41 k 0#32) S32x128.size inb).emb y) :=
  out_piece _ _ v144 k.val 0 2 (trips28 k) (by decide) (by decide) _ _ _ _ _ _ _ _ _
    (d_load arg1 arg29 arg34 X_arg1 X_arg29 k hp 0 0 2 (by decide) (by decide) (by decide) _ (k0_off33_eq k) (k0_off33_inb k))
    (fun r n => (s_load arg31 arg33 arg35 X_arg31 X_arg33 k hv 0 2 64 (by decide) (by decide) _ (k0_off34_eq k) (k0_off34_inb k) r n).trans rfl)
    (d_load arg1 arg29 arg34 X_arg1 X_arg29 k hp 1 0 2 (by decide) (by decide) (by decide) _ (k0_off35_eq k) (k0_off35_inb k))
    (fun r n => (s_load arg31 arg33 arg35 X_arg31 X_arg33 k hv 0 2 192 (by decide) (by decide) _ (k0_off36_eq k) (k0_off36_inb k) r n).trans rfl)
    (d_load arg1 arg29 arg34 X_arg1 X_arg29 k hp 2 0 2 (by decide) (by decide) (by decide) _ (k0_off37_eq k) (k0_off37_inb k))
    (fun r n => (s_load arg31 arg33 arg35 X_arg31 X_arg33 k hv 0 2 320 (by decide) (by decide) _ (k0_off38_eq k) (k0_off38_inb k) r n).trans rfl)
    (d_load arg1 arg29 arg34 X_arg1 X_arg29 k hp 3 0 2 (by decide) (by decide) (by decide) _ (k0_off39_eq k) (k0_off39_inb k))
    (fun r n => (s_load arg31 arg33 arg35 X_arg31 X_arg33 k hv 0 2 448 (by decide) (by decide) _ (k0_off40_eq k) (k0_off40_inb k) r n).trans rfl)
    (fun r n => (s_load arg31 arg33 arg35 X_arg31 X_arg33 k hv 0 2 576 (by decide) (by decide) _ (k0_off42_eq k) (k0_off42_inb k) r n).trans rfl)
    arg6 X_arg6 arg4 X_arg4 _ (k0_off41_eq k 0) inb y

theorem mer_02 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off41 k 0#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off33 k) S1x32x128.size (k0_off33_inb k)).toLoadRect)
      (arg35.view.readCov (trip_k0_t1.sl.HW_arg35_1 (F := Ideal) arg31 arg33 X_arg31 X_arg33 k) (Rect.unit (s := S2x640x256) (k0_off34 k) S1x32x128.size (k0_off34_inb k)).toLoadRect)
      (arg34.view.readCov (trip_k0_t1.sl.HW_arg34_4 (F := Ideal) arg1 arg29 X_arg1 X_arg29 k) (Rect.unit (s := S2x512x256) (k0_off35 k) S1x32x128.size (k0_off35_inb k)).toLoadRect)
      (arg35.view.readCov (trip_k0_t1.sl.HW_arg35_1 (F := Ideal) arg31 arg33 X_arg31 X_arg33 k) (Rect.unit (s := S2x640x256) (k0_off36 k) S1x32x128.size (k0_off36_inb k)).toLoadRect)
      (arg34.view.readCov (trip_k0_t1.sl.HW_arg34_4 (F := Ideal) arg1 arg29 X_arg1 X_arg29 k) (Rect.unit (s := S2x512x256) (k0_off37 k) S1x32x128.size (k0_off37_inb k)).toLoadRect)
      (arg35.view.readCov (trip_k0_t1.sl.HW_arg35_1 (F := Ideal) arg31 arg33 X_arg31 X_arg33 k) (Rect.unit (s := S2x640x256) (k0_off38 k) S1x32x128.size (k0_off38_inb k)).toLoadRect)
      (arg34.view.readCov (trip_k0_t1.sl.HW_arg34_4 (F := Ideal) arg1 arg29 X_arg1 X_arg29 k) (Rect.unit (s := S2x512x256) (k0_off39 k) S1x32x128.size (k0_off39_inb k)).toLoadRect)
      (arg35.view.readCov (trip_k0_t1.sl.HW_arg35_1 (F := Ideal) arg31 arg33 X_arg31 X_arg33 k) (Rect.unit (s := S2x640x256) (k0_off40 k) S1x32x128.size (k0_off40_inb k)).toLoadRect)
      (View.readAt (Elt Ideal) arg6.view (Rect.unit (s := S128x7168) (k0_off41 k 0#32) S32x128.size inb).toLoadRect X_arg6)
      (arg35.view.readCov (trip_k0_t1.sl.HW_arg35_1 (F := Ideal) arg31 arg33 X_arg31 X_arg33 k) (Rect.unit (s := S2x640x256) (k0_off42 k) S1x32x128.size (k0_off42_inb k)).toLoadRect)
      (View.readAt (Elt Ideal) arg4.view (Rect.unit (s := S128x7168) (k0_off41 k 0#32) S32x128.size inb).toLoadRect X_arg4)
      (View.readAt (Elt Ideal) arg5.view (Rect.unit (s := S128x7168) (k0_off41 k 0#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off41 k 0#32) S32x128.size inb).emb y) :=
  mer_piece _ _ v144 _ _ _ _ _ _ _ _ _ arg6 X_arg6 arg4 X_arg4 arg5 X_arg5 _ inb y
    (out_02 arg1 arg4 arg5 arg6 arg29 arg31 arg33 arg34 arg35 v144 X_arg1 X_arg4 X_arg5 X_arg6 X_arg29 X_arg31 X_arg33 k hp hv inb y)

theorem out_03 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off52 k 0#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off44 k) S1x32x128.size (k0_off44_inb k)).toLoadRect)
      (arg35.view.readCov (trip_k0_t1.sl.HW_arg35_1 (F := Ideal) arg31 arg33 X_arg31 X_arg33 k) (Rect.unit (s := S2x640x256) (k0_off45 k) S1x32x128.size (k0_off45_inb k)).toLoadRect)
      (arg34.view.readCov (trip_k0_t1.sl.HW_arg34_4 (F := Ideal) arg1 arg29 X_arg1 X_arg29 k) (Rect.unit (s := S2x512x256) (k0_off46 k) S1x32x128.size (k0_off46_inb k)).toLoadRect)
      (arg35.view.readCov (trip_k0_t1.sl.HW_arg35_1 (F := Ideal) arg31 arg33 X_arg31 X_arg33 k) (Rect.unit (s := S2x640x256) (k0_off47 k) S1x32x128.size (k0_off47_inb k)).toLoadRect)
      (arg34.view.readCov (trip_k0_t1.sl.HW_arg34_4 (F := Ideal) arg1 arg29 X_arg1 X_arg29 k) (Rect.unit (s := S2x512x256) (k0_off48 k) S1x32x128.size (k0_off48_inb k)).toLoadRect)
      (arg35.view.readCov (trip_k0_t1.sl.HW_arg35_1 (F := Ideal) arg31 arg33 X_arg31 X_arg33 k) (Rect.unit (s := S2x640x256) (k0_off49 k) S1x32x128.size (k0_off49_inb k)).toLoadRect)
      (arg34.view.readCov (trip_k0_t1.sl.HW_arg34_4 (F := Ideal) arg1 arg29 X_arg1 X_arg29 k) (Rect.unit (s := S2x512x256) (k0_off50 k) S1x32x128.size (k0_off50_inb k)).toLoadRect)
      (arg35.view.readCov (trip_k0_t1.sl.HW_arg35_1 (F := Ideal) arg31 arg33 X_arg31 X_arg33 k) (Rect.unit (s := S2x640x256) (k0_off51 k) S1x32x128.size (k0_off51_inb k)).toLoadRect)
      (View.readAt (Elt Ideal) arg6.view (Rect.unit (s := S128x7168) (k0_off52 k 0#32) S32x128.size inb).toLoadRect X_arg6)
      (arg35.view.readCov (trip_k0_t1.sl.HW_arg35_1 (F := Ideal) arg31 arg33 X_arg31 X_arg33 k) (Rect.unit (s := S2x640x256) (k0_off53 k) S1x32x128.size (k0_off53_inb k)).toLoadRect)
      (View.readAt (Elt Ideal) arg4.view (Rect.unit (s := S128x7168) (k0_off52 k 0#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off52 k 0#32) S32x128.size inb).emb y) :=
  out_piece _ _ v144 k.val 0 3 (trips28 k) (by decide) (by decide) _ _ _ _ _ _ _ _ _
    (d_load arg1 arg29 arg34 X_arg1 X_arg29 k hp 0 0 3 (by decide) (by decide) (by decide) _ (k0_off44_eq k) (k0_off44_inb k))
    (fun r n => (s_load arg31 arg33 arg35 X_arg31 X_arg33 k hv 0 3 96 (by decide) (by decide) _ (k0_off45_eq k) (k0_off45_inb k) r n).trans rfl)
    (d_load arg1 arg29 arg34 X_arg1 X_arg29 k hp 1 0 3 (by decide) (by decide) (by decide) _ (k0_off46_eq k) (k0_off46_inb k))
    (fun r n => (s_load arg31 arg33 arg35 X_arg31 X_arg33 k hv 0 3 224 (by decide) (by decide) _ (k0_off47_eq k) (k0_off47_inb k) r n).trans rfl)
    (d_load arg1 arg29 arg34 X_arg1 X_arg29 k hp 2 0 3 (by decide) (by decide) (by decide) _ (k0_off48_eq k) (k0_off48_inb k))
    (fun r n => (s_load arg31 arg33 arg35 X_arg31 X_arg33 k hv 0 3 352 (by decide) (by decide) _ (k0_off49_eq k) (k0_off49_inb k) r n).trans rfl)
    (d_load arg1 arg29 arg34 X_arg1 X_arg29 k hp 3 0 3 (by decide) (by decide) (by decide) _ (k0_off50_eq k) (k0_off50_inb k))
    (fun r n => (s_load arg31 arg33 arg35 X_arg31 X_arg33 k hv 0 3 480 (by decide) (by decide) _ (k0_off51_eq k) (k0_off51_inb k) r n).trans rfl)
    (fun r n => (s_load arg31 arg33 arg35 X_arg31 X_arg33 k hv 0 3 608 (by decide) (by decide) _ (k0_off53_eq k) (k0_off53_inb k) r n).trans rfl)
    arg6 X_arg6 arg4 X_arg4 _ (k0_off52_eq k 0) inb y

theorem mer_03 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off52 k 0#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off44 k) S1x32x128.size (k0_off44_inb k)).toLoadRect)
      (arg35.view.readCov (trip_k0_t1.sl.HW_arg35_1 (F := Ideal) arg31 arg33 X_arg31 X_arg33 k) (Rect.unit (s := S2x640x256) (k0_off45 k) S1x32x128.size (k0_off45_inb k)).toLoadRect)
      (arg34.view.readCov (trip_k0_t1.sl.HW_arg34_4 (F := Ideal) arg1 arg29 X_arg1 X_arg29 k) (Rect.unit (s := S2x512x256) (k0_off46 k) S1x32x128.size (k0_off46_inb k)).toLoadRect)
      (arg35.view.readCov (trip_k0_t1.sl.HW_arg35_1 (F := Ideal) arg31 arg33 X_arg31 X_arg33 k) (Rect.unit (s := S2x640x256) (k0_off47 k) S1x32x128.size (k0_off47_inb k)).toLoadRect)
      (arg34.view.readCov (trip_k0_t1.sl.HW_arg34_4 (F := Ideal) arg1 arg29 X_arg1 X_arg29 k) (Rect.unit (s := S2x512x256) (k0_off48 k) S1x32x128.size (k0_off48_inb k)).toLoadRect)
      (arg35.view.readCov (trip_k0_t1.sl.HW_arg35_1 (F := Ideal) arg31 arg33 X_arg31 X_arg33 k) (Rect.unit (s := S2x640x256) (k0_off49 k) S1x32x128.size (k0_off49_inb k)).toLoadRect)
      (arg34.view.readCov (trip_k0_t1.sl.HW_arg34_4 (F := Ideal) arg1 arg29 X_arg1 X_arg29 k) (Rect.unit (s := S2x512x256) (k0_off50 k) S1x32x128.size (k0_off50_inb k)).toLoadRect)
      (arg35.view.readCov (trip_k0_t1.sl.HW_arg35_1 (F := Ideal) arg31 arg33 X_arg31 X_arg33 k) (Rect.unit (s := S2x640x256) (k0_off51 k) S1x32x128.size (k0_off51_inb k)).toLoadRect)
      (View.readAt (Elt Ideal) arg6.view (Rect.unit (s := S128x7168) (k0_off52 k 0#32) S32x128.size inb).toLoadRect X_arg6)
      (arg35.view.readCov (trip_k0_t1.sl.HW_arg35_1 (F := Ideal) arg31 arg33 X_arg31 X_arg33 k) (Rect.unit (s := S2x640x256) (k0_off53 k) S1x32x128.size (k0_off53_inb k)).toLoadRect)
      (View.readAt (Elt Ideal) arg4.view (Rect.unit (s := S128x7168) (k0_off52 k 0#32) S32x128.size inb).toLoadRect X_arg4)
      (View.readAt (Elt Ideal) arg5.view (Rect.unit (s := S128x7168) (k0_off52 k 0#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off52 k 0#32) S32x128.size inb).emb y) :=
  mer_piece _ _ v144 _ _ _ _ _ _ _ _ _ arg6 X_arg6 arg4 X_arg4 arg5 X_arg5 _ inb y
    (out_03 arg1 arg4 arg5 arg6 arg29 arg31 arg33 arg34 arg35 v144 X_arg1 X_arg4 X_arg5 X_arg6 X_arg29 X_arg31 X_arg33 k hp hv inb y)

theorem out_10 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off19 k 1#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off56 k) S1x32x128.size (k0_off56_inb k)).toLoadRect)
      (arg35.view.readCov (trip_k0_t1.sl.HW_arg35_1 (F := Ideal) arg31 arg33 X_arg31 X_arg33 k) (Rect.unit (s := S2x640x256) (k0_off57 k) S1x32x128.size (k0_off57_inb k)).toLoadRect)
      (arg34.view.readCov (trip_k0_t1.sl.HW_arg34_4 (F := Ideal) arg1 arg29 X_arg1 X_arg29 k) (Rect.unit (s := S2x512x256) (k0_off58 k) S1x32x128.size (k0_off58_inb k)).toLoadRect)
      (arg35.view.readCov (trip_k0_t1.sl.HW_arg35_1 (F := Ideal) arg31 arg33 X_arg31 X_arg33 k) (Rect.unit (s := S2x640x256) (k0_off59 k) S1x32x128.size (k0_off59_inb k)).toLoadRect)
      (arg34.view.readCov (trip_k0_t1.sl.HW_arg34_4 (F := Ideal) arg1 arg29 X_arg1 X_arg29 k) (Rect.unit (s := S2x512x256) (k0_off60 k) S1x32x128.size (k0_off60_inb k)).toLoadRect)
      (arg35.view.readCov (trip_k0_t1.sl.HW_arg35_1 (F := Ideal) arg31 arg33 X_arg31 X_arg33 k) (Rect.unit (s := S2x640x256) (k0_off61 k) S1x32x128.size (k0_off61_inb k)).toLoadRect)
      (arg34.view.readCov (trip_k0_t1.sl.HW_arg34_4 (F := Ideal) arg1 arg29 X_arg1 X_arg29 k) (Rect.unit (s := S2x512x256) (k0_off62 k) S1x32x128.size (k0_off62_inb k)).toLoadRect)
      (arg35.view.readCov (trip_k0_t1.sl.HW_arg35_1 (F := Ideal) arg31 arg33 X_arg31 X_arg33 k) (Rect.unit (s := S2x640x256) (k0_off63 k) S1x32x128.size (k0_off63_inb k)).toLoadRect)
      (View.readAt (Elt Ideal) arg6.view (Rect.unit (s := S128x7168) (k0_off19 k 1#32) S32x128.size inb).toLoadRect X_arg6)
      (arg35.view.readCov (trip_k0_t1.sl.HW_arg35_1 (F := Ideal) arg31 arg33 X_arg31 X_arg33 k) (Rect.unit (s := S2x640x256) (k0_off64 k) S1x32x128.size (k0_off64_inb k)).toLoadRect)
      (View.readAt (Elt Ideal) arg4.view (Rect.unit (s := S128x7168) (k0_off19 k 1#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off19 k 1#32) S32x128.size inb).emb y) :=
  out_piece _ _ v144 k.val 1 0 (trips28 k) (by decide) (by decide) _ _ _ _ _ _ _ _ _
    (d_load arg1 arg29 arg34 X_arg1 X_arg29 k hp 0 1 0 (by decide) (by decide) (by decide) _ (k0_off56_eq k) (k0_off56_inb k))
    (fun r n => (s_load arg31 arg33 arg35 X_arg31 X_arg33 k hv 1 0 0 (by decide) (by decide) _ (k0_off57_eq k) (k0_off57_inb k) r n).trans rfl)
    (d_load arg1 arg29 arg34 X_arg1 X_arg29 k hp 1 1 0 (by decide) (by decide) (by decide) _ (k0_off58_eq k) (k0_off58_inb k))
    (fun r n => (s_load arg31 arg33 arg35 X_arg31 X_arg33 k hv 1 0 128 (by decide) (by decide) _ (k0_off59_eq k) (k0_off59_inb k) r n).trans rfl)
    (d_load arg1 arg29 arg34 X_arg1 X_arg29 k hp 2 1 0 (by decide) (by decide) (by decide) _ (k0_off60_eq k) (k0_off60_inb k))
    (fun r n => (s_load arg31 arg33 arg35 X_arg31 X_arg33 k hv 1 0 256 (by decide) (by decide) _ (k0_off61_eq k) (k0_off61_inb k) r n).trans rfl)
    (d_load arg1 arg29 arg34 X_arg1 X_arg29 k hp 3 1 0 (by decide) (by decide) (by decide) _ (k0_off62_eq k) (k0_off62_inb k))
    (fun r n => (s_load arg31 arg33 arg35 X_arg31 X_arg33 k hv 1 0 384 (by decide) (by decide) _ (k0_off63_eq k) (k0_off63_inb k) r n).trans rfl)
    (fun r n => (s_load arg31 arg33 arg35 X_arg31 X_arg33 k hv 1 0 512 (by decide) (by decide) _ (k0_off64_eq k) (k0_off64_inb k) r n).trans rfl)
    arg6 X_arg6 arg4 X_arg4 _ (k0_off19_eq k 1) inb y

theorem mer_10 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off19 k 1#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off56 k) S1x32x128.size (k0_off56_inb k)).toLoadRect)
      (arg35.view.readCov (trip_k0_t1.sl.HW_arg35_1 (F := Ideal) arg31 arg33 X_arg31 X_arg33 k) (Rect.unit (s := S2x640x256) (k0_off57 k) S1x32x128.size (k0_off57_inb k)).toLoadRect)
      (arg34.view.readCov (trip_k0_t1.sl.HW_arg34_4 (F := Ideal) arg1 arg29 X_arg1 X_arg29 k) (Rect.unit (s := S2x512x256) (k0_off58 k) S1x32x128.size (k0_off58_inb k)).toLoadRect)
      (arg35.view.readCov (trip_k0_t1.sl.HW_arg35_1 (F := Ideal) arg31 arg33 X_arg31 X_arg33 k) (Rect.unit (s := S2x640x256) (k0_off59 k) S1x32x128.size (k0_off59_inb k)).toLoadRect)
      (arg34.view.readCov (trip_k0_t1.sl.HW_arg34_4 (F := Ideal) arg1 arg29 X_arg1 X_arg29 k) (Rect.unit (s := S2x512x256) (k0_off60 k) S1x32x128.size (k0_off60_inb k)).toLoadRect)
      (arg35.view.readCov (trip_k0_t1.sl.HW_arg35_1 (F := Ideal) arg31 arg33 X_arg31 X_arg33 k) (Rect.unit (s := S2x640x256) (k0_off61 k) S1x32x128.size (k0_off61_inb k)).toLoadRect)
      (arg34.view.readCov (trip_k0_t1.sl.HW_arg34_4 (F := Ideal) arg1 arg29 X_arg1 X_arg29 k) (Rect.unit (s := S2x512x256) (k0_off62 k) S1x32x128.size (k0_off62_inb k)).toLoadRect)
      (arg35.view.readCov (trip_k0_t1.sl.HW_arg35_1 (F := Ideal) arg31 arg33 X_arg31 X_arg33 k) (Rect.unit (s := S2x640x256) (k0_off63 k) S1x32x128.size (k0_off63_inb k)).toLoadRect)
      (View.readAt (Elt Ideal) arg6.view (Rect.unit (s := S128x7168) (k0_off19 k 1#32) S32x128.size inb).toLoadRect X_arg6)
      (arg35.view.readCov (trip_k0_t1.sl.HW_arg35_1 (F := Ideal) arg31 arg33 X_arg31 X_arg33 k) (Rect.unit (s := S2x640x256) (k0_off64 k) S1x32x128.size (k0_off64_inb k)).toLoadRect)
      (View.readAt (Elt Ideal) arg4.view (Rect.unit (s := S128x7168) (k0_off19 k 1#32) S32x128.size inb).toLoadRect X_arg4)
      (View.readAt (Elt Ideal) arg5.view (Rect.unit (s := S128x7168) (k0_off19 k 1#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off19 k 1#32) S32x128.size inb).emb y) :=
  mer_piece _ _ v144 _ _ _ _ _ _ _ _ _ arg6 X_arg6 arg4 X_arg4 arg5 X_arg5 _ inb y
    (out_10 arg1 arg4 arg5 arg6 arg29 arg31 arg33 arg34 arg35 v144 X_arg1 X_arg4 X_arg5 X_arg6 X_arg29 X_arg31 X_arg33 k hp hv inb y)

theorem out_11 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off30 k 1#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off65 k) S1x32x128.size (k0_off65_inb k)).toLoadRect)
      (arg35.view.readCov (trip_k0_t1.sl.HW_arg35_1 (F := Ideal) arg31 arg33 X_arg31 X_arg33 k) (Rect.unit (s := S2x640x256) (k0_off66 k) S1x32x128.size (k0_off66_inb k)).toLoadRect)
      (arg34.view.readCov (trip_k0_t1.sl.HW_arg34_4 (F := Ideal) arg1 arg29 X_arg1 X_arg29 k) (Rect.unit (s := S2x512x256) (k0_off67 k) S1x32x128.size (k0_off67_inb k)).toLoadRect)
      (arg35.view.readCov (trip_k0_t1.sl.HW_arg35_1 (F := Ideal) arg31 arg33 X_arg31 X_arg33 k) (Rect.unit (s := S2x640x256) (k0_off68 k) S1x32x128.size (k0_off68_inb k)).toLoadRect)
      (arg34.view.readCov (trip_k0_t1.sl.HW_arg34_4 (F := Ideal) arg1 arg29 X_arg1 X_arg29 k) (Rect.unit (s := S2x512x256) (k0_off69 k) S1x32x128.size (k0_off69_inb k)).toLoadRect)
      (arg35.view.readCov (trip_k0_t1.sl.HW_arg35_1 (F := Ideal) arg31 arg33 X_arg31 X_arg33 k) (Rect.unit (s := S2x640x256) (k0_off70 k) S1x32x128.size (k0_off70_inb k)).toLoadRect)
      (arg34.view.readCov (trip_k0_t1.sl.HW_arg34_4 (F := Ideal) arg1 arg29 X_arg1 X_arg29 k) (Rect.unit (s := S2x512x256) (k0_off71 k) S1x32x128.size (k0_off71_inb k)).toLoadRect)
      (arg35.view.readCov (trip_k0_t1.sl.HW_arg35_1 (F := Ideal) arg31 arg33 X_arg31 X_arg33 k) (Rect.unit (s := S2x640x256) (k0_off72 k) S1x32x128.size (k0_off72_inb k)).toLoadRect)
      (View.readAt (Elt Ideal) arg6.view (Rect.unit (s := S128x7168) (k0_off30 k 1#32) S32x128.size inb).toLoadRect X_arg6)
      (arg35.view.readCov (trip_k0_t1.sl.HW_arg35_1 (F := Ideal) arg31 arg33 X_arg31 X_arg33 k) (Rect.unit (s := S2x640x256) (k0_off73 k) S1x32x128.size (k0_off73_inb k)).toLoadRect)
      (View.readAt (Elt Ideal) arg4.view (Rect.unit (s := S128x7168) (k0_off30 k 1#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off30 k 1#32) S32x128.size inb).emb y) :=
  out_piece _ _ v144 k.val 1 1 (trips28 k) (by decide) (by decide) _ _ _ _ _ _ _ _ _
    (d_load arg1 arg29 arg34 X_arg1 X_arg29 k hp 0 1 1 (by decide) (by decide) (by decide) _ (k0_off65_eq k) (k0_off65_inb k))
    (fun r n => (s_load arg31 arg33 arg35 X_arg31 X_arg33 k hv 1 1 32 (by decide) (by decide) _ (k0_off66_eq k) (k0_off66_inb k) r n).trans rfl)
    (d_load arg1 arg29 arg34 X_arg1 X_arg29 k hp 1 1 1 (by decide) (by decide) (by decide) _ (k0_off67_eq k) (k0_off67_inb k))
    (fun r n => (s_load arg31 arg33 arg35 X_arg31 X_arg33 k hv 1 1 160 (by decide) (by decide) _ (k0_off68_eq k) (k0_off68_inb k) r n).trans rfl)
    (d_load arg1 arg29 arg34 X_arg1 X_arg29 k hp 2 1 1 (by decide) (by decide) (by decide) _ (k0_off69_eq k) (k0_off69_inb k))
    (fun r n => (s_load arg31 arg33 arg35 X_arg31 X_arg33 k hv 1 1 288 (by decide) (by decide) _ (k0_off70_eq k) (k0_off70_inb k) r n).trans rfl)
    (d_load arg1 arg29 arg34 X_arg1 X_arg29 k hp 3 1 1 (by decide) (by decide) (by decide) _ (k0_off71_eq k) (k0_off71_inb k))
    (fun r n => (s_load arg31 arg33 arg35 X_arg31 X_arg33 k hv 1 1 416 (by decide) (by decide) _ (k0_off72_eq k) (k0_off72_inb k) r n).trans rfl)
    (fun r n => (s_load arg31 arg33 arg35 X_arg31 X_arg33 k hv 1 1 544 (by decide) (by decide) _ (k0_off73_eq k) (k0_off73_inb k) r n).trans rfl)
    arg6 X_arg6 arg4 X_arg4 _ (k0_off30_eq k 1) inb y

theorem mer_11 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off30 k 1#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off65 k) S1x32x128.size (k0_off65_inb k)).toLoadRect)
      (arg35.view.readCov (trip_k0_t1.sl.HW_arg35_1 (F := Ideal) arg31 arg33 X_arg31 X_arg33 k) (Rect.unit (s := S2x640x256) (k0_off66 k) S1x32x128.size (k0_off66_inb k)).toLoadRect)
      (arg34.view.readCov (trip_k0_t1.sl.HW_arg34_4 (F := Ideal) arg1 arg29 X_arg1 X_arg29 k) (Rect.unit (s := S2x512x256) (k0_off67 k) S1x32x128.size (k0_off67_inb k)).toLoadRect)
      (arg35.view.readCov (trip_k0_t1.sl.HW_arg35_1 (F := Ideal) arg31 arg33 X_arg31 X_arg33 k) (Rect.unit (s := S2x640x256) (k0_off68 k) S1x32x128.size (k0_off68_inb k)).toLoadRect)
      (arg34.view.readCov (trip_k0_t1.sl.HW_arg34_4 (F := Ideal) arg1 arg29 X_arg1 X_arg29 k) (Rect.unit (s := S2x512x256) (k0_off69 k) S1x32x128.size (k0_off69_inb k)).toLoadRect)
      (arg35.view.readCov (trip_k0_t1.sl.HW_arg35_1 (F := Ideal) arg31 arg33 X_arg31 X_arg33 k) (Rect.unit (s := S2x640x256) (k0_off70 k) S1x32x128.size (k0_off70_inb k)).toLoadRect)
      (arg34.view.readCov (trip_k0_t1.sl.HW_arg34_4 (F := Ideal) arg1 arg29 X_arg1 X_arg29 k) (Rect.unit (s := S2x512x256) (k0_off71 k) S1x32x128.size (k0_off71_inb k)).toLoadRect)
      (arg35.view.readCov (trip_k0_t1.sl.HW_arg35_1 (F := Ideal) arg31 arg33 X_arg31 X_arg33 k) (Rect.unit (s := S2x640x256) (k0_off72 k) S1x32x128.size (k0_off72_inb k)).toLoadRect)
      (View.readAt (Elt Ideal) arg6.view (Rect.unit (s := S128x7168) (k0_off30 k 1#32) S32x128.size inb).toLoadRect X_arg6)
      (arg35.view.readCov (trip_k0_t1.sl.HW_arg35_1 (F := Ideal) arg31 arg33 X_arg31 X_arg33 k) (Rect.unit (s := S2x640x256) (k0_off73 k) S1x32x128.size (k0_off73_inb k)).toLoadRect)
      (View.readAt (Elt Ideal) arg4.view (Rect.unit (s := S128x7168) (k0_off30 k 1#32) S32x128.size inb).toLoadRect X_arg4)
      (View.readAt (Elt Ideal) arg5.view (Rect.unit (s := S128x7168) (k0_off30 k 1#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off30 k 1#32) S32x128.size inb).emb y) :=
  mer_piece _ _ v144 _ _ _ _ _ _ _ _ _ arg6 X_arg6 arg4 X_arg4 arg5 X_arg5 _ inb y
    (out_11 arg1 arg4 arg5 arg6 arg29 arg31 arg33 arg34 arg35 v144 X_arg1 X_arg4 X_arg5 X_arg6 X_arg29 X_arg31 X_arg33 k hp hv inb y)

theorem out_12 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off41 k 1#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off74 k) S1x32x128.size (k0_off74_inb k)).toLoadRect)
      (arg35.view.readCov (trip_k0_t1.sl.HW_arg35_1 (F := Ideal) arg31 arg33 X_arg31 X_arg33 k) (Rect.unit (s := S2x640x256) (k0_off75 k) S1x32x128.size (k0_off75_inb k)).toLoadRect)
      (arg34.view.readCov (trip_k0_t1.sl.HW_arg34_4 (F := Ideal) arg1 arg29 X_arg1 X_arg29 k) (Rect.unit (s := S2x512x256) (k0_off76 k) S1x32x128.size (k0_off76_inb k)).toLoadRect)
      (arg35.view.readCov (trip_k0_t1.sl.HW_arg35_1 (F := Ideal) arg31 arg33 X_arg31 X_arg33 k) (Rect.unit (s := S2x640x256) (k0_off77 k) S1x32x128.size (k0_off77_inb k)).toLoadRect)
      (arg34.view.readCov (trip_k0_t1.sl.HW_arg34_4 (F := Ideal) arg1 arg29 X_arg1 X_arg29 k) (Rect.unit (s := S2x512x256) (k0_off78 k) S1x32x128.size (k0_off78_inb k)).toLoadRect)
      (arg35.view.readCov (trip_k0_t1.sl.HW_arg35_1 (F := Ideal) arg31 arg33 X_arg31 X_arg33 k) (Rect.unit (s := S2x640x256) (k0_off79 k) S1x32x128.size (k0_off79_inb k)).toLoadRect)
      (arg34.view.readCov (trip_k0_t1.sl.HW_arg34_4 (F := Ideal) arg1 arg29 X_arg1 X_arg29 k) (Rect.unit (s := S2x512x256) (k0_off80 k) S1x32x128.size (k0_off80_inb k)).toLoadRect)
      (arg35.view.readCov (trip_k0_t1.sl.HW_arg35_1 (F := Ideal) arg31 arg33 X_arg31 X_arg33 k) (Rect.unit (s := S2x640x256) (k0_off81 k) S1x32x128.size (k0_off81_inb k)).toLoadRect)
      (View.readAt (Elt Ideal) arg6.view (Rect.unit (s := S128x7168) (k0_off41 k 1#32) S32x128.size inb).toLoadRect X_arg6)
      (arg35.view.readCov (trip_k0_t1.sl.HW_arg35_1 (F := Ideal) arg31 arg33 X_arg31 X_arg33 k) (Rect.unit (s := S2x640x256) (k0_off82 k) S1x32x128.size (k0_off82_inb k)).toLoadRect)
      (View.readAt (Elt Ideal) arg4.view (Rect.unit (s := S128x7168) (k0_off41 k 1#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off41 k 1#32) S32x128.size inb).emb y) :=
  out_piece _ _ v144 k.val 1 2 (trips28 k) (by decide) (by decide) _ _ _ _ _ _ _ _ _
    (d_load arg1 arg29 arg34 X_arg1 X_arg29 k hp 0 1 2 (by decide) (by decide) (by decide) _ (k0_off74_eq k) (k0_off74_inb k))
    (fun r n => (s_load arg31 arg33 arg35 X_arg31 X_arg33 k hv 1 2 64 (by decide) (by decide) _ (k0_off75_eq k) (k0_off75_inb k) r n).trans rfl)
    (d_load arg1 arg29 arg34 X_arg1 X_arg29 k hp 1 1 2 (by decide) (by decide) (by decide) _ (k0_off76_eq k) (k0_off76_inb k))
    (fun r n => (s_load arg31 arg33 arg35 X_arg31 X_arg33 k hv 1 2 192 (by decide) (by decide) _ (k0_off77_eq k) (k0_off77_inb k) r n).trans rfl)
    (d_load arg1 arg29 arg34 X_arg1 X_arg29 k hp 2 1 2 (by decide) (by decide) (by decide) _ (k0_off78_eq k) (k0_off78_inb k))
    (fun r n => (s_load arg31 arg33 arg35 X_arg31 X_arg33 k hv 1 2 320 (by decide) (by decide) _ (k0_off79_eq k) (k0_off79_inb k) r n).trans rfl)
    (d_load arg1 arg29 arg34 X_arg1 X_arg29 k hp 3 1 2 (by decide) (by decide) (by decide) _ (k0_off80_eq k) (k0_off80_inb k))
    (fun r n => (s_load arg31 arg33 arg35 X_arg31 X_arg33 k hv 1 2 448 (by decide) (by decide) _ (k0_off81_eq k) (k0_off81_inb k) r n).trans rfl)
    (fun r n => (s_load arg31 arg33 arg35 X_arg31 X_arg33 k hv 1 2 576 (by decide) (by decide) _ (k0_off82_eq k) (k0_off82_inb k) r n).trans rfl)
    arg6 X_arg6 arg4 X_arg4 _ (k0_off41_eq k 1) inb y

theorem mer_12 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off41 k 1#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off74 k) S1x32x128.size (k0_off74_inb k)).toLoadRect)
      (arg35.view.readCov (trip_k0_t1.sl.HW_arg35_1 (F := Ideal) arg31 arg33 X_arg31 X_arg33 k) (Rect.unit (s := S2x640x256) (k0_off75 k) S1x32x128.size (k0_off75_inb k)).toLoadRect)
      (arg34.view.readCov (trip_k0_t1.sl.HW_arg34_4 (F := Ideal) arg1 arg29 X_arg1 X_arg29 k) (Rect.unit (s := S2x512x256) (k0_off76 k) S1x32x128.size (k0_off76_inb k)).toLoadRect)
      (arg35.view.readCov (trip_k0_t1.sl.HW_arg35_1 (F := Ideal) arg31 arg33 X_arg31 X_arg33 k) (Rect.unit (s := S2x640x256) (k0_off77 k) S1x32x128.size (k0_off77_inb k)).toLoadRect)
      (arg34.view.readCov (trip_k0_t1.sl.HW_arg34_4 (F := Ideal) arg1 arg29 X_arg1 X_arg29 k) (Rect.unit (s := S2x512x256) (k0_off78 k) S1x32x128.size (k0_off78_inb k)).toLoadRect)
      (arg35.view.readCov (trip_k0_t1.sl.HW_arg35_1 (F := Ideal) arg31 arg33 X_arg31 X_arg33 k) (Rect.unit (s := S2x640x256) (k0_off79 k) S1x32x128.size (k0_off79_inb k)).toLoadRect)
      (arg34.view.readCov (trip_k0_t1.sl.HW_arg34_4 (F := Ideal) arg1 arg29 X_arg1 X_arg29 k) (Rect.unit (s := S2x512x256) (k0_off80 k) S1x32x128.size (k0_off80_inb k)).toLoadRect)
      (arg35.view.readCov (trip_k0_t1.sl.HW_arg35_1 (F := Ideal) arg31 arg33 X_arg31 X_arg33 k) (Rect.unit (s := S2x640x256) (k0_off81 k) S1x32x128.size (k0_off81_inb k)).toLoadRect)
      (View.readAt (Elt Ideal) arg6.view (Rect.unit (s := S128x7168) (k0_off41 k 1#32) S32x128.size inb).toLoadRect X_arg6)
      (arg35.view.readCov (trip_k0_t1.sl.HW_arg35_1 (F := Ideal) arg31 arg33 X_arg31 X_arg33 k) (Rect.unit (s := S2x640x256) (k0_off82 k) S1x32x128.size (k0_off82_inb k)).toLoadRect)
      (View.readAt (Elt Ideal) arg4.view (Rect.unit (s := S128x7168) (k0_off41 k 1#32) S32x128.size inb).toLoadRect X_arg4)
      (View.readAt (Elt Ideal) arg5.view (Rect.unit (s := S128x7168) (k0_off41 k 1#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off41 k 1#32) S32x128.size inb).emb y) :=
  mer_piece _ _ v144 _ _ _ _ _ _ _ _ _ arg6 X_arg6 arg4 X_arg4 arg5 X_arg5 _ inb y
    (out_12 arg1 arg4 arg5 arg6 arg29 arg31 arg33 arg34 arg35 v144 X_arg1 X_arg4 X_arg5 X_arg6 X_arg29 X_arg31 X_arg33 k hp hv inb y)

theorem out_13 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off52 k 1#32) a + S32x128.size a ≤ S128x7168.size a) (y : S32x128.Idx) :
    oBlk v144
      (arg34.view.readCov (trip_k0_t1.sl.HW_arg34_4 (F := Ideal) arg1 arg29 X_arg1 X_arg29 k) (Rect.unit (s := S2x512x256) (k0_off83 k) S1x32x128.size (k0_off83_inb k)).toLoadRect)
      (arg35.view.readCov (trip_k0_t1.sl.HW_arg35_1 (F := Ideal) arg31 arg33 X_arg31 X_arg33 k) (Rect.unit (s := S2x640x256) (k0_off84 k) S1x32x128.size (k0_off84_inb k)).toLoadRect)
      (arg34.view.readCov (trip_k0_t1.sl.HW_arg34_4 (F := Ideal) arg1 arg29 X_arg1 X_arg29 k) (Rect.unit (s := S2x512x256) (k0_off85 k) S1x32x128.size (k0_off85_inb k)).toLoadRect)
      (arg35.view.readCov (trip_k0_t1.sl.HW_arg35_1 (F := Ideal) arg31 arg33 X_arg31 X_arg33 k) (Rect.unit (s := S2x640x256) (k0_off86 k) S1x32x128.size (k0_off86_inb k)).toLoadRect)
      (arg34.view.readCov (trip_k0_t1.sl.HW_arg34_4 (F := Ideal) arg1 arg29 X_arg1 X_arg29 k) (Rect.unit (s := S2x512x256) (k0_off87 k) S1x32x128.size (k0_off87_inb k)).toLoadRect)
      (arg35.view.readCov (trip_k0_t1.sl.HW_arg35_1 (F := Ideal) arg31 arg33 X_arg31 X_arg33 k) (Rect.unit (s := S2x640x256) (k0_off88 k) S1x32x128.size (k0_off88_inb k)).toLoadRect)
      (arg34.view.readCov (trip_k0_t1.sl.HW_arg34_4 (F := Ideal) arg1 arg29 X_arg1 X_arg29 k) (Rect.unit (s := S2x512x256) (k0_off89 k) S1x32x128.size (k0_off89_inb k)).toLoadRect)
      (arg35.view.readCov (trip_k0_t1.sl.HW_arg35_1 (F := Ideal) arg31 arg33 X_arg31 X_arg33 k) (Rect.unit (s := S2x640x256) (k0_off90 k) S1x32x128.size (k0_off90_inb k)).toLoadRect)
      (View.readAt (Elt Ideal) arg6.view (Rect.unit (s := S128x7168) (k0_off52 k 1#32) S32x128.size inb).toLoadRect X_arg6)
      (arg35.view.readCov (trip_k0_t1.sl.HW_arg35_1 (F := Ideal) arg31 arg33 X_arg31 X_arg33 k) (Rect.unit (s := S2x640x256) (k0_off91 k) S1x32x128.size (k0_off91_inb k)).toLoadRect)
      (View.readAt (Elt Ideal) arg4.view (Rect.unit (s := S128x7168) (k0_off52 k 1#32) S32x128.size inb).toLoadRect X_arg4) y
      = (outG (arg1.view.read (Elt Ideal) X_arg1) (limbLd arg33 X_arg33) (arg6.view.read (Elt Ideal) X_arg6) (arg4.view.read (Elt Ideal) X_arg4) v144) ((Rect.unit (s := S128x7168) (k0_off52 k 1#32) S32x128.size inb).emb y) :=
  out_piece _ _ v144 k.val 1 3 (trips28 k) (by decide) (by decide) _ _ _ _ _ _ _ _ _
    (d_load arg1 arg29 arg34 X_arg1 X_arg29 k hp 0 1 3 (by decide) (by decide) (by decide) _ (k0_off83_eq k) (k0_off83_inb k))
    (fun r n => (s_load arg31 arg33 arg35 X_arg31 X_arg33 k hv 1 3 96 (by decide) (by decide) _ (k0_off84_eq k) (k0_off84_inb k) r n).trans rfl)
    (d_load arg1 arg29 arg34 X_arg1 X_arg29 k hp 1 1 3 (by decide) (by decide) (by decide) _ (k0_off85_eq k) (k0_off85_inb k))
    (fun r n => (s_load arg31 arg33 arg35 X_arg31 X_arg33 k hv 1 3 224 (by decide) (by decide) _ (k0_off86_eq k) (k0_off86_inb k) r n).trans rfl)
    (d_load arg1 arg29 arg34 X_arg1 X_arg29 k hp 2 1 3 (by decide) (by decide) (by decide) _ (k0_off87_eq k) (k0_off87_inb k))
    (fun r n => (s_load arg31 arg33 arg35 X_arg31 X_arg33 k hv 1 3 352 (by decide) (by decide) _ (k0_off88_eq k) (k0_off88_inb k) r n).trans rfl)
    (d_load arg1 arg29 arg34 X_arg1 X_arg29 k hp 3 1 3 (by decide) (by decide) (by decide) _ (k0_off89_eq k) (k0_off89_inb k))
    (fun r n => (s_load arg31 arg33 arg35 X_arg31 X_arg33 k hv 1 3 480 (by decide) (by decide) _ (k0_off90_eq k) (k0_off90_inb k) r n).trans rfl)
    (fun r n => (s_load arg31 arg33 arg35 X_arg31 X_arg33 k hv 1 3 608 (by decide) (by decide) _ (k0_off91_eq k) (k0_off91_inb k) r n).trans rfl)
    arg6 X_arg6 arg4 X_arg4 _ (k0_off52_eq k 1) inb y

theorem mer_13 (arg1 : Memref sig .tc .vmem S4x128x3584 .i8) (arg4 : Memref sig .tc .vmem S128x7168 .f32) (arg5 : Memref sig .tc .vmem S128x7168 .bf16) (arg6 : Memref sig .tc .vmem S128x7168 .i8) (arg29 : Memref sig .tc .vmem S256x256 .fp8e4m3) (arg31 : Memref sig .tc .vmem S28x256x256 .bf16) (arg33 : Memref sig .tc .vmem S640x256 .bf16) (arg34 : Memref sig .tc .vmem S2x512x256 .f32) (arg35 : Memref sig .tc .vmem S2x640x256 .f32) (v144 : Elt Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty) (k : Fin k0_t1_loop.trips)
    (hp : IsPerm (permLd arg29 X_arg29)) (hv : IsSel k.val (selLd arg31 X_arg31 k))
    (inb : ∀ a, (k0_off52 k 1#32) a + S32x128.size a ≤ S128x7168.size a) (y : S32x128.Idx) :
    mBlk v144
      (arg34.view.readCov (trip_k0_t1.sl.HW_arg34_4 (F := Ideal) arg1 arg29 X_arg1 X_arg29 k) (Rect.unit (s := S2x512x256) (k0_off83 k) S1x32x128.size (k0_off83_inb k)).toLoadRect)
      (arg35.view.readCov (trip_k0_t1.sl.HW_arg35_1 (F := Ideal) arg31 arg33 X_arg31 X_arg33 k) (Rect.unit (s := S2x640x256) (k0_off84 k) S1x32x128.size (k0_off84_inb k)).toLoadRect)
      (arg34.view.readCov (trip_k0_t1.sl.HW_arg34_4 (F := Ideal) arg1 arg29 X_arg1 X_arg29 k) (Rect.unit (s := S2x512x256) (k0_off85 k) S1x32x128.size (k0_off85_inb k)).toLoadRect)
      (arg35.view.readCov (trip_k0_t1.sl.HW_arg35_1 (F := Ideal) arg31 arg33 X_arg31 X_arg33 k) (Rect.unit (s := S2x640x256) (k0_off86 k) S1x32x128.size (k0_off86_inb k)).toLoadRect)
      (arg34.view.readCov (trip_k0_t1.sl.HW_arg34_4 (F := Ideal) arg1 arg29 X_arg1 X_arg29 k) (Rect.unit (s := S2x512x256) (k0_off87 k) S1x32x128.size (k0_off87_inb k)).toLoadRect)
      (arg35.view.readCov (trip_k0_t1.sl.HW_arg35_1 (F := Ideal) arg31 arg33 X_arg31 X_arg33 k) (Rect.unit (s := S2x640x256) (k0_off88 k) S1x32x128.size (k0_off88_inb k)).toLoadRect)
      (arg34.view.readCov (trip_k0_t1.sl.HW_arg34_4 (F := Ideal) arg1 arg29 X_arg1 X_arg29 k) (Rect.unit (s := S2x512x256) (k0_off89 k) S1x32x128.size (k0_off89_inb k)).toLoadRect)
      (arg35.view.readCov (trip_k0_t1.sl.HW_arg35_1 (F := Ideal) arg31 arg33 X_arg31 X_arg33 k) (Rect.unit (s := S2x640x256) (k0_off90 k) S1x32x128.size (k0_off90_inb k)).toLoadRect)
      (View.readAt (Elt Ideal) arg6.view (Rect.unit (s := S128x7168) (k0_off52 k 1#32) S32x128.size inb).toLoadRect X_arg6)
      (arg35.view.readCov (trip_k0_t1.sl.HW_arg35_1 (F := Ideal) arg31 arg33 X_arg31 X_arg33 k) (Rect.unit (s := S2x640x256) (k0_off91 k) S1x32x128.size (k0_off91_inb k)).toLoadRect)
      (View.readAt (Elt Ideal) arg4.view (Rect.unit (s := S128x7168) (k0_off52 k 1#32) S32x128.size inb).toLoadRect X_arg4)
      (View.readAt (Elt Ideal) arg5.view (Rect.unit (s := S128x7168) (k0_off52 k 1#32) S32x128.size inb).toLoadRect X_arg5) y
      = (merG (arg1.view.read (Elt Ideal) X_arg1) (limbLd arg33 X_arg33) (arg6.view.read (Elt Ideal) X_arg6) (arg4.view.read (Elt Ideal) X_arg4) (arg5.view.read (Elt Ideal) X_arg5) v144) ((Rect.unit (s := S128x7168) (k0_off52 k 1#32) S32x128.size inb).emb y) :=
  mer_piece _ _ v144 _ _ _ _ _ _ _ _ _ arg6 X_arg6 arg4 X_arg4 arg5 X_arg5 _ inb y
    (out_13 arg1 arg4 arg5 arg6 arg29 arg31 arg33 arg34 arg35 v144 X_arg1 X_arg4 X_arg5 X_arg6 X_arg29 X_arg31 X_arg33 k hp hv inb y)

end Cert.KernelIdeal.Own

end
-- ==== Proof.ValueTripL.lean ====
module

public import proofs.«01_k».proof.Proof.ValueTrip

@[expose] public section

set_option maxRecDepth 16384
set_option maxHeartbeats 4000000

/-! The trip's lists of pieces hold the windows' values. -/

noncomputable section

namespace Cert.KernelIdeal.Own

open Cert.KernelIdeal Cert.KernelIdeal.Gen
open Idealize.ShloMosaic hiding ix1 ix2 ix3
open Idealize.ShloMosaic.ValueIdx

variable (𝒱 : Variants) (c : Dev nD) (bd : Option 𝒱.V) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole) (v144 : Elt Ideal .f32) (v146 : FVec Ideal S32x128 .f32) (v147 : FVec Ideal S32x128 .f32) (v148 : FVec Ideal S32x128 .f32) (v149 : FVec Ideal S32x128 .f32) (v150 : FVec Ideal S32x128 .f32) (v151 : FVec Ideal S32x128 .f32) (v152 : FVec Ideal S32x128 .f32) (v153 : FVec Ideal S32x128 .f32) (v154 : FVec Ideal S32x128 .f32) (v155 : FVec Ideal S32x128 .f32) (cst_74 : Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty)

theorem trip_out (k : Fin k0_t1_loop.trips) (hp : IsPerm (permLd arg29 X_arg29)) (hv : IsSel k.val (selLd arg31 X_arg31 k))
    (acc : FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k).2.1 acc, ∀ x, p.2 x = (outG (arg1.view.read (Elt Ideal) X_arg1) (limbLd arg33 X_arg33) (arg6.view.read (Elt Ideal) X_arg6) (arg4.view.read (Elt Ideal) X_arg4) v144) (p.1.emb x) := by
  unfold trip_k0_t1
  dsimp only
  refine List.forall_mem_cons.2 ⟨fun x => out_13 arg1 arg4 arg5 arg6 arg29 arg31 arg33 arg34 arg35 v144 X_arg1 X_arg4 X_arg5 X_arg6 X_arg29 X_arg31 X_arg33 k hp hv _ x, ?_⟩
  refine List.forall_mem_cons.2 ⟨fun x => out_12 arg1 arg4 arg5 arg6 arg29 arg31 arg33 arg34 arg35 v144 X_arg1 X_arg4 X_arg5 X_arg6 X_arg29 X_arg31 X_arg33 k hp hv _ x, ?_⟩
  refine List.forall_mem_cons.2 ⟨fun x => out_11 arg1 arg4 arg5 arg6 arg29 arg31 arg33 arg34 arg35 v144 X_arg1 X_arg4 X_arg5 X_arg6 X_arg29 X_arg31 X_arg33 k hp hv _ x, ?_⟩
  refine List.forall_mem_cons.2 ⟨fun x => out_10 arg1 arg4 arg5 arg6 arg29 arg31 arg33 arg34 arg35 v144 X_arg1 X_arg4 X_arg5 X_arg6 X_arg29 X_arg31 X_arg33 k hp hv _ x, ?_⟩
  refine List.forall_mem_cons.2 ⟨fun x => out_03 arg1 arg4 arg5 arg6 arg29 arg31 arg33 arg34 arg35 v144 X_arg1 X_arg4 X_arg5 X_arg6 X_arg29 X_arg31 X_arg33 k hp hv _ x, ?_⟩
  refine List.forall_mem_cons.2 ⟨fun x => out_02 arg1 arg4 arg5 arg6 arg29 arg31 arg33 arg34 arg35 v144 X_arg1 X_arg4 X_arg5 X_arg6 X_arg29 X_arg31 X_arg33 k hp hv _ x, ?_⟩
  refine List.forall_mem_cons.2 ⟨fun x => out_01 arg1 arg4 arg5 arg6 arg29 arg31 arg33 arg34 arg35 v144 X_arg1 X_arg4 X_arg5 X_arg6 X_arg29 X_arg31 X_arg33 k hp hv _ x, ?_⟩
  refine List.forall_mem_cons.2 ⟨fun x => out_00 arg1 arg4 arg5 arg6 arg29 arg31 arg33 arg34 arg35 v144 X_arg1 X_arg4 X_arg5 X_arg6 X_arg29 X_arg31 X_arg33 k hp hv _ x, ?_⟩
  exact fun p hp => absurd hp List.not_mem_nil

theorem trip_mer (k : Fin k0_t1_loop.trips) (hp : IsPerm (permLd arg29 X_arg29)) (hv : IsSel k.val (selLd arg31 X_arg31 k))
    (acc : FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k).2.2.1 acc, ∀ x, p.2 x = (merG (arg1.view.read (Elt Ideal) X_arg1) (limbLd arg33 X_arg33) (arg6.view.read (Elt Ideal) X_arg6) (arg4.view.read (Elt Ideal) X_arg4) (arg5.view.read (Elt Ideal) X_arg5) v144) (p.1.emb x) := by
  unfold trip_k0_t1
  dsimp only
  refine List.forall_mem_cons.2 ⟨fun x => mer_13 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_12 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_11 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_10 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_03 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_02 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_01 arg1 arg4 arg5 arg6 arg29 arg31 arg33 arg34 arg35 v144 X_arg1 X_arg4 X_arg5 X_arg6 X_arg29 X_arg31 X_arg33 k hp hv _ x, ?_⟩
  refine List.forall_mem_cons.2 ⟨fun x => mer_00 arg1 arg4 arg5 arg6 arg29 arg31 arg33 arg34 arg35 v144 X_arg1 X_arg4 X_arg5 X_arg6 X_arg29 X_arg31 X_arg33 k hp hv _ x, ?_⟩
  exact fun p hp => absurd hp List.not_mem_nil

end Cert.KernelIdeal.Own

end
-- ==== Proof.ValueLoop.lean ====
module

public import proofs.«01_k».proof.Proof.ValueTripL

@[expose] public section

set_option maxRecDepth 16384
set_option maxHeartbeats 4000000

/-! The two result windows after all trips of the main loop. -/

noncomputable section

namespace Cert.KernelIdeal.Own

open Cert.KernelIdeal Cert.KernelIdeal.Gen
open Idealize.ShloMosaic hiding ix1 ix2 ix3
open Idealize.ShloMosaic.ValueIdx

theorem k0_t1_loop_ge : 28 ≤ k0_t1_loop.trips := by decide +kernel

variable (𝒱 : Variants) (c : Dev nD) (bd : Option 𝒱.V) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole) (v144 : Elt Ideal .f32) (v146 : FVec Ideal S32x128 .f32) (v147 : FVec Ideal S32x128 .f32) (v148 : FVec Ideal S32x128 .f32) (v149 : FVec Ideal S32x128 .f32) (v150 : FVec Ideal S32x128 .f32) (v151 : FVec Ideal S32x128 .f32) (v152 : FVec Ideal S32x128 .f32) (v153 : FVec Ideal S32x128 .f32) (v154 : FVec Ideal S32x128 .f32) (v155 : FVec Ideal S32x128 .f32) (cst_74 : Ideal .f32) (X_arg1 : BufTy.Contents (Elt Ideal) arg1.view.ty) (X_arg4 : BufTy.Contents (Elt Ideal) arg4.view.ty) (X_arg5 : BufTy.Contents (Elt Ideal) arg5.view.ty) (X_arg6 : BufTy.Contents (Elt Ideal) arg6.view.ty) (X_arg29 : BufTy.Contents (Elt Ideal) arg29.view.ty) (X_arg31 : BufTy.Contents (Elt Ideal) arg31.view.ty) (X_arg33 : BufTy.Contents (Elt Ideal) arg33.view.ty)

theorem cover_out (k : Fin k0_t1_loop.trips) (acc : FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32) (y : S128x7168.Idx) (hy : (y 1).val / 256 = k.val) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k).2.1 acc, y ∈ p.1.set := by
  have key : ∀ (h q : ℕ) (o : Fin 2 → ℕ) (inb' : ∀ a, o a + S32x128.size a ≤ S128x7168.size a), o = ![32 * q, 256 * k.val + 128 * h] →
      (y 1).val % 256 / 128 = h → (y 0).val / 32 = q → y ∈ (Rect.unit (s := S128x7168) o S32x128.size inb').set := by
    intro h q o inb' ho h1 h2
    subst ho
    refine Rect.mem_set_unit.2 fun a => ?_
    match a with
    | ⟨0, _⟩ => show 32 * q ≤ (y 0).val ∧ (y 0).val < 32 * q + 32; omega
    | ⟨1, _⟩ => show 256 * k.val + 128 * h ≤ (y 1).val ∧ (y 1).val < 256 * k.val + 128 * h + 128; omega
  have y0 : (y 0).val < 128 := (y 0).isLt
  unfold trip_k0_t1
  dsimp only
  have hc : ((y 1).val % 256 / 128 = 1 ∧ (y 0).val / 32 = 3) ∨ ((y 1).val % 256 / 128 = 1 ∧ (y 0).val / 32 = 2) ∨ ((y 1).val % 256 / 128 = 1 ∧ (y 0).val / 32 = 1) ∨ ((y 1).val % 256 / 128 = 1 ∧ (y 0).val / 32 = 0) ∨ ((y 1).val % 256 / 128 = 0 ∧ (y 0).val / 32 = 3) ∨ ((y 1).val % 256 / 128 = 0 ∧ (y 0).val / 32 = 2) ∨ ((y 1).val % 256 / 128 = 0 ∧ (y 0).val / 32 = 1) ∨ ((y 1).val % 256 / 128 = 0 ∧ (y 0).val / 32 = 0) := by omega
  rcases hc with ⟨h1, h2⟩ | ⟨h1, h2⟩ | ⟨h1, h2⟩ | ⟨h1, h2⟩ | ⟨h1, h2⟩ | ⟨h1, h2⟩ | ⟨h1, h2⟩ | ⟨h1, h2⟩
  · exact ⟨_, List.mem_cons_self, key 1 3 _ (k0_off52_inb k 1) (k0_off52_eq k 1) (by omega) (by omega)⟩
  · exact ⟨_, List.mem_cons_of_mem _ (List.mem_cons_self), key 1 2 _ (k0_off41_inb k 1) (k0_off41_eq k 1) (by omega) (by omega)⟩
  · exact ⟨_, List.mem_cons_of_mem _ (List.mem_cons_of_mem _ (List.mem_cons_self)), key 1 1 _ (k0_off30_inb k 1) (k0_off30_eq k 1) (by omega) (by omega)⟩
  · exact ⟨_, List.mem_cons_of_mem _ (List.mem_cons_of_mem _ (List.mem_cons_of_mem _ (List.mem_cons_self))), key 1 0 _ (k0_off19_inb k 1) (k0_off19_eq k 1) (by omega) (by omega)⟩
  · exact ⟨_, List.mem_cons_of_mem _ (List.mem_cons_of_mem _ (List.mem_cons_of_mem _ (List.mem_cons_of_mem _ (List.mem_cons_self)))), key 0 3 _ (k0_off52_inb k 0) (k0_off52_eq k 0) (by omega) (by omega)⟩
  · exact ⟨_, List.mem_cons_of_mem _ (List.mem_cons_of_mem _ (List.mem_cons_of_mem _ (List.mem_cons_of_mem _ (List.mem_cons_of_mem _ (List.mem_cons_self))))), key 0 2 _ (k0_off41_inb k 0) (k0_off41_eq k 0) (by omega) (by omega)⟩
  · exact ⟨_, List.mem_cons_of_mem _ (List.mem_cons_of_mem _ (List.mem_cons_of_mem _ (List.mem_cons_of_mem _ (List.mem_cons_of_mem _ (List.mem_cons_of_mem _ (List.mem_cons_self)))))), key 0 1 _ (k0_off30_inb k 0) (k0_off30_eq k 0) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 0 _ (k0_off19_inb k 0) (k0_off19_eq k 0) (by omega) (by omega)⟩

theorem cover_mer (k : Fin k0_t1_loop.trips) (acc : FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32) (y : S128x7168.Idx) (hy : (y 1).val / 256 = k.val) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 k).2.2.1 acc, y ∈ p.1.set := by
  have key : ∀ (h q : ℕ) (o : Fin 2 → ℕ) (inb' : ∀ a, o a + S32x128.size a ≤ S128x7168.size a), o = ![32 * q, 256 * k.val + 128 * h] →
      (y 1).val % 256 / 128 = h → (y 0).val / 32 = q → y ∈ (Rect.unit (s := S128x7168) o S32x128.size inb').set := by
    intro h q o inb' ho h1 h2
    subst ho
    refine Rect.mem_set_unit.2 fun a => ?_
    match a with
    | ⟨0, _⟩ => show 32 * q ≤ (y 0).val ∧ (y 0).val < 32 * q + 32; omega
    | ⟨1, _⟩ => show 256 * k.val + 128 * h ≤ (y 1).val ∧ (y 1).val < 256 * k.val + 128 * h + 128; omega
  have y0 : (y 0).val < 128 := (y 0).isLt
  unfold trip_k0_t1
  dsimp only
  have hc : ((y 1).val % 256 / 128 = 1 ∧ (y 0).val / 32 = 3) ∨ ((y 1).val % 256 / 128 = 1 ∧ (y 0).val / 32 = 2) ∨ ((y 1).val % 256 / 128 = 1 ∧ (y 0).val / 32 = 1) ∨ ((y 1).val % 256 / 128 = 1 ∧ (y 0).val / 32 = 0) ∨ ((y 1).val % 256 / 128 = 0 ∧ (y 0).val / 32 = 3) ∨ ((y 1).val % 256 / 128 = 0 ∧ (y 0).val / 32 = 2) ∨ ((y 1).val % 256 / 128 = 0 ∧ (y 0).val / 32 = 1) ∨ ((y 1).val % 256 / 128 = 0 ∧ (y 0).val / 32 = 0) := by omega
  rcases hc with ⟨h1, h2⟩ | ⟨h1, h2⟩ | ⟨h1, h2⟩ | ⟨h1, h2⟩ | ⟨h1, h2⟩ | ⟨h1, h2⟩ | ⟨h1, h2⟩ | ⟨h1, h2⟩
  · exact ⟨_, List.mem_cons_self, key 1 3 _ (k0_off52_inb k 1) (k0_off52_eq k 1) (by omega) (by omega)⟩
  · exact ⟨_, List.mem_cons_of_mem _ (List.mem_cons_self), key 1 2 _ (k0_off41_inb k 1) (k0_off41_eq k 1) (by omega) (by omega)⟩
  · exact ⟨_, List.mem_cons_of_mem _ (List.mem_cons_of_mem _ (List.mem_cons_self)), key 1 1 _ (k0_off30_inb k 1) (k0_off30_eq k 1) (by omega) (by omega)⟩
  · exact ⟨_, List.mem_cons_of_mem _ (List.mem_cons_of_mem _ (List.mem_cons_of_mem _ (List.mem_cons_self))), key 1 0 _ (k0_off19_inb k 1) (k0_off19_eq k 1) (by omega) (by omega)⟩
  · exact ⟨_, List.mem_cons_of_mem _ (List.mem_cons_of_mem _ (List.mem_cons_of_mem _ (List.mem_cons_of_mem _ (List.mem_cons_self)))), key 0 3 _ (k0_off52_inb k 0) (k0_off52_eq k 0) (by omega) (by omega)⟩
  · exact ⟨_, List.mem_cons_of_mem _ (List.mem_cons_of_mem _ (List.mem_cons_of_mem _ (List.mem_cons_of_mem _ (List.mem_cons_of_mem _ (List.mem_cons_self))))), key 0 2 _ (k0_off41_inb k 0) (k0_off41_eq k 0) (by omega) (by omega)⟩
  · exact ⟨_, List.mem_cons_of_mem _ (List.mem_cons_of_mem _ (List.mem_cons_of_mem _ (List.mem_cons_of_mem _ (List.mem_cons_of_mem _ (List.mem_cons_of_mem _ (List.mem_cons_self)))))), key 0 1 _ (k0_off30_inb k 0) (k0_off30_eq k 0) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 0 _ (k0_off19_inb k 0) (k0_off19_eq k 0) (by omega) (by omega)⟩

theorem st_out (hp : IsPerm (permLd arg29 X_arg29)) (hv : ∀ k : Fin k0_t1_loop.trips, IsSel k.val (selLd arg31 X_arg31 k))
    (init : FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32) (n : ℕ) (hn : n ≤ 28) :
    (∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).2.1, ∀ x, p.2 x = (outG (arg1.view.read (Elt Ideal) X_arg1) (limbLd arg33 X_arg33) (arg6.view.read (Elt Ideal) X_arg6) (arg4.view.read (Elt Ideal) X_arg4) v144) (p.1.emb x))
      ∧ ∀ y : S128x7168.Idx, (y 1).val < 256 * n → ∃ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).2.1, y ∈ p.1.set := by
  induction n with
  | zero => exact ⟨fun p hp => absurd hp List.not_mem_nil, fun y hy => absurd hy (by omega)⟩
  | succ n ih =>
    obtain ⟨ih1, ih2⟩ := ih (by omega)
    have hk : n < k0_t1_loop.trips := Nat.lt_of_lt_of_le (by omega : n < 28) k0_t1_loop_ge
    have e : (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init (n + 1)).2.1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨n, hk⟩).2.1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).1 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).2.1 :=
      congrArg (fun z => z.2.1) (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init ⟨n, hk⟩)
    rw [e]
    refine ⟨fun p hp' => ?_, fun y hy => ?_⟩
    · rcases List.mem_append.1 hp' with h | h
      · exact trip_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨n, hk⟩ hp (hv ⟨n, hk⟩) _ p h
      · exact ih1 p h
    · by_cases hy' : (y 1).val < 256 * n
      · obtain ⟨p, h1, h2⟩ := ih2 y hy'
        exact ⟨p, List.mem_append.2 (Or.inr h1), h2⟩
      · obtain ⟨p, h1, h2⟩ := cover_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨n, hk⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).1 y (by show (y 1).val / 256 = n; omega)
        exact ⟨p, List.mem_append.2 (Or.inl h1), h2⟩

theorem st_mer (hp : IsPerm (permLd arg29 X_arg29)) (hv : ∀ k : Fin k0_t1_loop.trips, IsSel k.val (selLd arg31 X_arg31 k))
    (init : FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32) (n : ℕ) (hn : n ≤ 28) :
    (∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).2.2.1, ∀ x, p.2 x = (merG (arg1.view.read (Elt Ideal) X_arg1) (limbLd arg33 X_arg33) (arg6.view.read (Elt Ideal) X_arg6) (arg4.view.read (Elt Ideal) X_arg4) (arg5.view.read (Elt Ideal) X_arg5) v144) (p.1.emb x))
      ∧ ∀ y : S128x7168.Idx, (y 1).val < 256 * n → ∃ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).2.2.1, y ∈ p.1.set := by
  induction n with
  | zero => exact ⟨fun p hp => absurd hp List.not_mem_nil, fun y hy => absurd hy (by omega)⟩
  | succ n ih =>
    obtain ⟨ih1, ih2⟩ := ih (by omega)
    have hk : n < k0_t1_loop.trips := Nat.lt_of_lt_of_le (by omega : n < 28) k0_t1_loop_ge
    have e : (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init (n + 1)).2.2.1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨n, hk⟩).2.2.1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).1 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).2.2.1 :=
      congrArg (fun z => z.2.2.1) (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init ⟨n, hk⟩)
    rw [e]
    refine ⟨fun p hp' => ?_, fun y hy => ?_⟩
    · rcases List.mem_append.1 hp' with h | h
      · exact trip_mer 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨n, hk⟩ hp (hv ⟨n, hk⟩) _ p h
      · exact ih1 p h
    · by_cases hy' : (y 1).val < 256 * n
      · obtain ⟨p, h1, h2⟩ := ih2 y hy'
        exact ⟨p, List.mem_append.2 (Or.inr h1), h2⟩
      · obtain ⟨p, h1, h2⟩ := cover_mer 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 ⟨n, hk⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v144 v146 v147 v148 v149 v150 v151 v152 v153 v154 v155 cst_74 X_arg1 X_arg4 X_arg5 X_arg6 X_arg29 X_arg31 X_arg33 init n).1 y (by show (y 1).val / 256 = n; omega)
        exact ⟨p, List.mem_append.2 (Or.inl h1), h2⟩

end Cert.KernelIdeal.Own

end
-- ==== Proof.ValueLimbs.lean ====
module

public import proofs.«01_k».proof.Proof.ValueTile
public import proofs.«01_k».proof.Proof.RunKernelIdealA
public import proofs.«01_k».proof.Proof.RunKernelIdealB
public import proofs.«01_k».proof.Proof.RunKernelIdealC

@[expose] public section

set_option maxRecDepth 16384

/-! The columns of scales and their parts, as a grid point stores them and reads them back. -/

noncomputable section

namespace Cert.KernelIdeal.Own

open Cert.KernelIdeal Cert.KernelIdeal.Gen
open Idealize.ShloMosaic hiding ix1 ix2 ix3
open Idealize.ShloMosaic.ValueIdx

/-- The five stores of columns, the last one first. -/
def colsL (p0 p1 p2 p3 p4 : Vec Ideal S128x56 .f32) : List (View.Piece (Elt Ideal) S640x128 .f32) :=
  [⟨Rect.unit (s := S640x128) ![512, 0] S128x56.size inb_S640x128_S128x56_512_0, p4⟩,
   ⟨Rect.unit (s := S640x128) ![384, 0] S128x56.size inb_S640x128_S128x56_384_0, p3⟩,
   ⟨Rect.unit (s := S640x128) ![256, 0] S128x56.size inb_S640x128_S128x56_256_0, p2⟩,
   ⟨Rect.unit (s := S640x128) ![128, 0] S128x56.size inb_S640x128_S128x56_128_0, p1⟩,
   ⟨Rect.unit (s := S640x128) ![0, 0] S128x56.size inb_S640x128_S128x56_0_0, p0⟩]

/-- The ten stores of parts, the last one first. -/
def limbsL (v0 v1 v2 v3 v4 : Vec Ideal S128x128 .f32) : List (View.Piece (Elt Ideal) S640x256 .bf16) :=
  [⟨Rect.unit (s := S640x256) ![512, 128] S128x128.size inb_S640x256_S128x128_512_128, k0_pay370 (F := Ideal) v4⟩,
   ⟨Rect.unit (s := S640x256) ![512, 0] S128x128.size inb_S640x256_S128x128_512_0, k0_pay369 (F := Ideal) v4⟩,
   ⟨Rect.unit (s := S640x256) ![384, 128] S128x128.size inb_S640x256_S128x128_384_128, k0_pay370 (F := Ideal) v3⟩,
   ⟨Rect.unit (s := S640x256) ![384, 0] S128x128.size inb_S640x256_S128x128_384_0, k0_pay369 (F := Ideal) v3⟩,
   ⟨Rect.unit (s := S640x256) ![256, 128] S128x128.size inb_S640x256_S128x128_256_128, k0_pay370 (F := Ideal) v2⟩,
   ⟨Rect.unit (s := S640x256) ![256, 0] S128x128.size inb_S640x256_S128x128_256_0, k0_pay369 (F := Ideal) v2⟩,
   ⟨Rect.unit (s := S640x256) ![128, 128] S128x128.size inb_S640x256_S128x128_128_128, k0_pay370 (F := Ideal) v1⟩,
   ⟨Rect.unit (s := S640x256) ![128, 0] S128x128.size inb_S640x256_S128x128_128_0, k0_pay369 (F := Ideal) v1⟩,
   ⟨Rect.unit (s := S640x256) ![0, 128] S128x128.size inb_S640x256_S128x128_0_128, k0_pay370 (F := Ideal) v0⟩,
   ⟨Rect.unit (s := S640x256) ![0, 0] S128x128.size inb_S640x256_S128x128_0_0, k0_pay369 (F := Ideal) v0⟩]

/-- A payload of columns holds the columns from row `ρ`. -/
def IsCols (C : S640x128.Idx → EReal) (ρ : ℕ) (p : Vec Ideal S128x56 .f32) : Prop :=
  ∀ (r : Fin 128) (l : Fin 56) (i : S640x128.Idx), (i 0).val = ρ + r.val → (i 1).val = l.val → p (ix2 (n0 := 128) (n1 := 56) r l) = C i

theorem cols_piece (C : S640x128.Idx → EReal) (ρ : ℕ) (p : Vec Ideal S128x56 .f32) (h : IsCols C ρ p) (off : Fin 2 → ℕ) (hoff : off = ![ρ, 0])
    (inb : ∀ a, off a + S128x56.size a ≤ S640x128.size a) (x : S128x56.Idx) :
    p x = C ((Rect.unit (s := S640x128) off S128x56.size inb).emb x) := by
  obtain ⟨r, l, rfl⟩ : ∃ (r : Fin 128) (l : Fin 56), x = ix2 r l := ⟨x 0, x 1, ix2_ext _ _ _ rfl rfl⟩
  refine h r l _ ?_ ?_
  · refine (ValueKit.rect_emb_unit_val (s := S640x128) _ _ _ _ _).trans ?_
    subst hoff; rfl
  · refine (ValueKit.rect_emb_unit_val (s := S640x128) _ _ _ _ _).trans ?_
    subst hoff; show 0 + l.val = l.val; omega

theorem cols_mem (ρ : ℕ) (off : Fin 2 → ℕ) (hoff : off = ![ρ, 0]) (inb : ∀ a, off a + S128x56.size a ≤ S640x128.size a) (i : S640x128.Idx)
    (h0 : ρ ≤ (i 0).val) (h1 : (i 0).val < ρ + 128) (h2 : (i 1).val < 56) : i ∈ (Rect.unit (s := S640x128) off S128x56.size inb).set := by
  subst hoff
  refine Rect.mem_set_unit.2 fun a => ?_
  match a with
  | ⟨0, _⟩ => exact ⟨h0, h1⟩
  | ⟨1, _⟩ => show 0 ≤ (i 1).val ∧ (i 1).val < 0 + 56; omega

theorem cols_not_mem (ρ : ℕ) (off : Fin 2 → ℕ) (hoff : off = ![ρ, 0]) (inb : ∀ a, off a + S128x56.size a ≤ S640x128.size a) (i : S640x128.Idx)
    (h2 : 56 ≤ (i 1).val) : i ∉ (Rect.unit (s := S640x128) off S128x56.size inb).set := by
  subst hoff
  intro h
  have := (Rect.mem_set_unit.1 h) 1
  have e : (i 1).val < 0 + 56 := this.2
  omega

/-- The columns read back after the five stores, over contents that are zero in the lanes from 56. -/
theorem cols_read (C : S640x128.Idx → EReal) (hC : ∀ i, 56 ≤ (i 1).val → C i = 0) (v : View sig .tc .vmem S640x128 .f32)
    (Y : BufTy.Contents (Elt Ideal) v.ty) (hY : ∀ i : S640x128.Idx, 56 ≤ (i 1).val → v.read (Elt Ideal) Y i = (0 : EReal))
    (p0 p1 p2 p3 p4 : Vec Ideal S128x56 .f32)
    (h0 : IsCols C 0 p0) (h1 : IsCols C 128 p1) (h2 : IsCols C 256 p2) (h3 : IsCols C 384 p3) (h4 : IsCols C 512 p4) :
    v.read (Elt Ideal) (v.writes (Elt Ideal) Y (colsL p0 p1 p2 p3 p4)) = C := by
  funext i
  have hi : (i 0).val < 640 := (i 0).isLt
  by_cases hl : 56 ≤ (i 1).val
  · refine (View.read_writes_apply_of_forall_not_mem v Y i _ ?_).trans ((hY i hl).trans (hC i hl).symm)
    unfold colsL
    refine List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩
    · exact cols_not_mem 512 _ rfl inb_S640x128_S128x56_512_0 i hl
    · exact cols_not_mem 384 _ rfl inb_S640x128_S128x56_384_0 i hl
    · exact cols_not_mem 256 _ rfl inb_S640x128_S128x56_256_0 i hl
    · exact cols_not_mem 128 _ rfl inb_S640x128_S128x56_128_0 i hl
    · exact cols_not_mem 0 _ rfl inb_S640x128_S128x56_0_0 i hl
  · refine View.read_writes_apply_of_pieces v Y C _ ?_ i ?_
    · unfold colsL
      refine List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩
      · exact cols_piece C 512 p4 h4 _ rfl inb_S640x128_S128x56_512_0
      · exact cols_piece C 384 p3 h3 _ rfl inb_S640x128_S128x56_384_0
      · exact cols_piece C 256 p2 h2 _ rfl inb_S640x128_S128x56_256_0
      · exact cols_piece C 128 p1 h1 _ rfl inb_S640x128_S128x56_128_0
      · exact cols_piece C 0 p0 h0 _ rfl inb_S640x128_S128x56_0_0
    · unfold colsL
      by_cases c4 : 512 ≤ (i 0).val
      · exact ⟨_, .head _, cols_mem 512 _ rfl inb_S640x128_S128x56_512_0 i c4 (by omega) (by omega)⟩
      by_cases c3 : 384 ≤ (i 0).val
      · exact ⟨_, .tail _ (.head _), cols_mem 384 _ rfl inb_S640x128_S128x56_384_0 i c3 (by omega) (by omega)⟩
      by_cases c2 : 256 ≤ (i 0).val
      · exact ⟨_, .tail _ (.tail _ (.head _)), cols_mem 256 _ rfl inb_S640x128_S128x56_256_0 i c2 (by omega) (by omega)⟩
      by_cases c1 : 128 ≤ (i 0).val
      · exact ⟨_, .tail _ (.tail _ (.tail _ (.head _))), cols_mem 128 _ rfl inb_S640x128_S128x56_128_0 i c1 (by omega) (by omega)⟩
      · exact ⟨_, .tail _ (.tail _ (.tail _ (.tail _ (.head _)))), cols_mem 0 _ rfl inb_S640x128_S128x56_0_0 i (by omega) (by omega) (by omega)⟩

/-- A row block of the columns holds the columns from row `ρ`. -/
def IsBlk (C : S640x128.Idx → EReal) (ρ : ℕ) (v : Vec Ideal S128x128 .f32) : Prop :=
  ∀ (r l : Fin 128) (i : S640x128.Idx), (i 0).val = ρ + r.val → (i 1).val = l.val → v (ix2 (n0 := 128) (n1 := 128) r l) = C i

theorem limb_hi (C : S640x128.Idx → EReal) (G : S640x256.Idx → EReal) (hF : ∀ i, C i ≠ ⊤ ∧ C i ≠ ⊥)
    (hG : ∀ (i : S640x256.Idx) (j : S640x128.Idx), (j 0).val = (i 0).val → (j 1).val = (i 1).val → G i = C j)
    (ρ : ℕ) (hρ : ρ + 128 ≤ 640) (v : Vec Ideal S128x128 .f32) (h : IsBlk C ρ v) (off : Fin 2 → ℕ) (hoff : off = ![ρ, 0])
    (inb : ∀ a, off a + S128x128.size a ≤ S640x256.size a) (x : S128x128.Idx) :
    k0_pay369 (F := Ideal) v x = G ((Rect.unit (s := S640x256) off S128x128.size inb).emb x) := by
  obtain ⟨r, l, rfl⟩ : ∃ (r l : Fin 128), x = ix2 r l := ⟨x 0, x 1, ix2_ext _ _ _ rfl rfl⟩
  have hr := r.isLt
  have hfin : ∀ l : Fin 128, v (ix2 (n0 := 128) (n1 := 128) r l) ≠ ⊤ ∧ v (ix2 (n0 := 128) (n1 := 128) r l) ≠ ⊥ := fun l => by
    rw [h r l (ix2 (n0 := 640) (n1 := 128) ⟨ρ + r.val, by omega⟩ l) rfl rfl]; exact hF _
  refine (high_apply v r l (hfin _)).trans ?_
  rw [h r l (ix2 (n0 := 640) (n1 := 128) ⟨ρ + r.val, by omega⟩ l) rfl rfl]
  refine (hG _ _ ?_ ?_).symm
  · refine Eq.trans ?_ (ValueKit.rect_emb_unit_val (s := S640x256) _ _ _ _ _).symm
    subst hoff; rfl
  · refine Eq.trans ?_ (ValueKit.rect_emb_unit_val (s := S640x256) _ _ _ _ _).symm
    subst hoff; show l.val = 0 + l.val; omega

theorem limb_lo (C : S640x128.Idx → EReal) (G : S640x256.Idx → EReal) (hF : ∀ i, C i ≠ ⊤ ∧ C i ≠ ⊥)
    (hG : ∀ (i : S640x256.Idx), 128 ≤ (i 1).val → G i = 0)
    (ρ : ℕ) (hρ : ρ + 128 ≤ 640) (v : Vec Ideal S128x128 .f32) (h : IsBlk C ρ v) (off : Fin 2 → ℕ) (hoff : off = ![ρ, 128])
    (inb : ∀ a, off a + S128x128.size a ≤ S640x256.size a) (x : S128x128.Idx) :
    k0_pay370 (F := Ideal) v x = G ((Rect.unit (s := S640x256) off S128x128.size inb).emb x) := by
  obtain ⟨r, l, rfl⟩ : ∃ (r l : Fin 128), x = ix2 r l := ⟨x 0, x 1, ix2_ext _ _ _ rfl rfl⟩
  have hr := r.isLt
  refine (low_apply v r l ?_).trans ?_
  · rw [h r l (ix2 (n0 := 640) (n1 := 128) ⟨ρ + r.val, by omega⟩ l) rfl rfl]; exact hF _
  refine (hG _ ?_).symm
  refine le_trans ?_ (le_of_eq (ValueKit.rect_emb_unit_val (s := S640x256) _ _ _ _ _).symm)
  subst hoff; show 128 ≤ 128 + l.val; omega

theorem limb_mem (ρ c : ℕ) (off : Fin 2 → ℕ) (hoff : off = ![ρ, c]) (inb : ∀ a, off a + S128x128.size a ≤ S640x256.size a) (i : S640x256.Idx)
    (h0 : ρ ≤ (i 0).val) (h1 : (i 0).val < ρ + 128) (h2 : c ≤ (i 1).val) (h3 : (i 1).val < c + 128) :
    i ∈ (Rect.unit (s := S640x256) off S128x128.size inb).set := by
  subst hoff
  refine Rect.mem_set_unit.2 fun a => ?_
  match a with
  | ⟨0, _⟩ => exact ⟨h0, h1⟩
  | ⟨1, _⟩ => exact ⟨h2, h3⟩

/-- The parts read back after the ten stores. -/
theorem limbs_read (C : S640x128.Idx → EReal) (G : S640x256.Idx → EReal) (hF : ∀ i, C i ≠ ⊤ ∧ C i ≠ ⊥)
    (hG : ∀ (i : S640x256.Idx) (j : S640x128.Idx), (j 0).val = (i 0).val → (j 1).val = (i 1).val → G i = C j)
    (hG0 : ∀ (i : S640x256.Idx), 128 ≤ (i 1).val → G i = 0)
    (v : View sig .tc .vmem S640x256 .bf16) (Y : BufTy.Contents (Elt Ideal) v.ty)
    (v0 v1 v2 v3 v4 : Vec Ideal S128x128 .f32)
    (h0 : IsBlk C 0 v0) (h1 : IsBlk C 128 v1) (h2 : IsBlk C 256 v2) (h3 : IsBlk C 384 v3) (h4 : IsBlk C 512 v4) :
    v.read (Elt Ideal) (v.writes (Elt Ideal) Y (limbsL v0 v1 v2 v3 v4)) = G := by
  funext i
  have hi : (i 0).val < 640 := (i 0).isLt
  have hj : (i 1).val < 256 := (i 1).isLt
  refine View.read_writes_apply_of_pieces v Y G _ ?_ i ?_
  · unfold limbsL
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩⟩⟩
    · exact limb_lo C G hF hG0 512 (by omega) v4 h4 _ rfl inb_S640x256_S128x128_512_128
    · exact limb_hi C G hF hG 512 (by omega) v4 h4 _ rfl inb_S640x256_S128x128_512_0
    · exact limb_lo C G hF hG0 384 (by omega) v3 h3 _ rfl inb_S640x256_S128x128_384_128
    · exact limb_hi C G hF hG 384 (by omega) v3 h3 _ rfl inb_S640x256_S128x128_384_0
    · exact limb_lo C G hF hG0 256 (by omega) v2 h2 _ rfl inb_S640x256_S128x128_256_128
    · exact limb_hi C G hF hG 256 (by omega) v2 h2 _ rfl inb_S640x256_S128x128_256_0
    · exact limb_lo C G hF hG0 128 (by omega) v1 h1 _ rfl inb_S640x256_S128x128_128_128
    · exact limb_hi C G hF hG 128 (by omega) v1 h1 _ rfl inb_S640x256_S128x128_128_0
    · exact limb_lo C G hF hG0 0 (by omega) v0 h0 _ rfl inb_S640x256_S128x128_0_128
    · exact limb_hi C G hF hG 0 (by omega) v0 h0 _ rfl inb_S640x256_S128x128_0_0
  · unfold limbsL
    by_cases hl : 128 ≤ (i 1).val
    · by_cases c4 : 512 ≤ (i 0).val
      · exact ⟨_, .head _, limb_mem 512 128 _ rfl inb_S640x256_S128x128_512_128 i c4 (by omega) (by omega) (by omega)⟩
      by_cases c3 : 384 ≤ (i 0).val
      · exact ⟨_, .tail _ (.tail _ (.head _)), limb_mem 384 128 _ rfl inb_S640x256_S128x128_384_128 i c3 (by omega) (by omega) (by omega)⟩
      by_cases c2 : 256 ≤ (i 0).val
      · exact ⟨_, .tail _ (.tail _ (.tail _ (.tail _ (.head _)))), limb_mem 256 128 _ rfl inb_S640x256_S128x128_256_128 i c2 (by omega) (by omega) (by omega)⟩
      by_cases c1 : 128 ≤ (i 0).val
      · exact ⟨_, .tail _ (.tail _ (.tail _ (.tail _ (.tail _ (.tail _ (.head _)))))), limb_mem 128 128 _ rfl inb_S640x256_S128x128_128_128 i c1 (by omega) (by omega) (by omega)⟩
      exact ⟨_, .tail _ (.tail _ (.tail _ (.tail _ (.tail _ (.tail _ (.tail _ (.tail _ (.head _)))))))), limb_mem 0 128 _ rfl inb_S640x256_S128x128_0_128 i (by omega) (by omega) (by omega) (by omega)⟩
    · by_cases c4 : 512 ≤ (i 0).val
      · exact ⟨_, .tail _ (.head _), limb_mem 512 0 _ rfl inb_S640x256_S128x128_512_0 i c4 (by omega) (by omega) (by omega)⟩
      by_cases c3 : 384 ≤ (i 0).val
      · exact ⟨_, .tail _ (.tail _ (.tail _ (.head _))), limb_mem 384 0 _ rfl inb_S640x256_S128x128_384_0 i c3 (by omega) (by omega) (by omega)⟩
      by_cases c2 : 256 ≤ (i 0).val
      · exact ⟨_, .tail _ (.tail _ (.tail _ (.tail _ (.tail _ (.head _))))), limb_mem 256 0 _ rfl inb_S640x256_S128x128_256_0 i c2 (by omega) (by omega) (by omega)⟩
      by_cases c1 : 128 ≤ (i 0).val
      · exact ⟨_, .tail _ (.tail _ (.tail _ (.tail _ (.tail _ (.tail _ (.tail _ (.head _))))))), limb_mem 128 0 _ rfl inb_S640x256_S128x128_128_0 i c1 (by omega) (by omega) (by omega)⟩
      exact ⟨_, .tail _ (.tail _ (.tail _ (.tail _ (.tail _ (.tail _ (.tail _ (.tail _ (.tail _ (.head _))))))))), limb_mem 0 0 _ rfl inb_S640x256_S128x128_0_0 i (by omega) (by omega) (by omega) (by omega)⟩

theorem cols_zero (gs : Vec Ideal S4x128x56 .f32) (ww : Vec Ideal S4 .f32) (ms : Vec Ideal S128x56 .f32) (i : S640x128.Idx) (h : 56 ≤ (i 1).val) :
    colsG gs ww ms i = 0 := by
  unfold colsG; rw [dif_neg (by omega)]

theorem limbsG_lo (gs : Vec Ideal S4x128x56 .f32) (ww : Vec Ideal S4 .f32) (ms : Vec Ideal S128x56 .f32) (i : S640x256.Idx) (h : 128 ≤ (i 1).val) :
    limbsG gs ww ms i = 0 := by
  unfold limbsG; rw [dif_neg (by omega)]

theorem limbsG_hi (gs : Vec Ideal S4x128x56 .f32) (ww : Vec Ideal S4 .f32) (ms : Vec Ideal S128x56 .f32) (i : S640x256.Idx) (j : S640x128.Idx)
    (h0 : (j 0).val = (i 0).val) (h1 : (j 1).val = (i 1).val) : limbsG gs ww ms i = colsG gs ww ms j := by
  have hj : (j 1).val < 128 := (j 1).isLt
  unfold limbsG
  rw [dif_pos (by omega)]
  exact congrArg _ (ix2_ext j _ _ h0 h1).symm

/-- A worker's scales weighted are its columns. -/
theorem isCols_w (arg2 : Memref sig .tc .vmem S4x128x56 .f32) (X2 : BufTy.Contents (Elt Ideal) arg2.view.ty)
    (arg3 : Memref sig .tc .smem S4 .f32) (X3 : BufTy.Contents (Elt Ideal) arg3.view.ty) (ms : Vec Ideal S128x56 .f32)
    (w : ℕ) (hw : w < 4) (off : Fin 3 → ℕ) (hoff : off = ![w, 0, 0]) (off1 : Fin 1 → ℕ) (hoff1 : off1 = ![w])
    (inb : ∀ a, off a + S1x128x56.size a ≤ S4x128x56.size a) (inb1 : ∀ a, off1 a + S1.size a ≤ S4.size a) (z : S1.Idx) :
    IsCols (colsG (arg2.view.read (Elt Ideal) X2) (arg3.view.read (Elt Ideal) X3) ms) (128 * w)
      (k0_pay359 (F := Ideal) (View.readAt (Elt Ideal) arg2.view (Rect.unit (s := S4x128x56) off S1x128x56.size inb).toLoadRect X2)
        (View.readAt (Elt Ideal) arg3.view (Rect.unit (s := S4) off1 S1.size inb1).toLoadRect X3 z)) := by
  intro r l i h0 h1
  have hr := r.isLt
  have hl := l.isLt
  unfold k0_pay359 colsG
  rw [dif_pos (by omega), dif_pos (by omega)]
  refine (congrFun (shapeCast_self _ _) _).trans ?_
  refine congrArg₂ (fun a b : EReal => a * b) ?_ ?_
  · refine (shapeCast_1ab_ab_apply (a := 128) (b := 56) _ shapeCasts_S1x128x56_S128x56 r l).trans ?_
    refine congrArg (arg2.view.read (Elt Ideal) X2) ?_
    subst hoff
    refine ix3_ext _ _ _ _ ?_ ?_ ?_
    · refine (Rect.idx_unit_val (s := S4x128x56) _ _ _ _ _).trans ?_
      show w + 0 = (i 0).val / 128; omega
    · refine (Rect.idx_unit_val (s := S4x128x56) _ _ _ _ _).trans ?_
      show 0 + r.val = (i 0).val % 128; omega
    · refine (Rect.idx_unit_val (s := S4x128x56) _ _ _ _ _).trans ?_
      show 0 + l.val = (i 1).val; omega
  · refine congrArg (arg3.view.read (Elt Ideal) X3) ?_
    subst hoff1
    funext a
    match a with
    | ⟨0, _⟩ =>
      apply Fin.ext
      refine (Rect.idx_unit_val (s := S4) _ _ _ _ _).trans ?_
      have hz : (z 0).val < 1 := (z 0).isLt
      show w + (z 0).val = (i 0).val / 128; omega

/-- The momentum's scales are its columns. -/
theorem isCols_m (gs : Vec Ideal S4x128x56 .f32) (ww : Vec Ideal S4 .f32)
    (arg7 : Memref sig .tc .vmem S128x56 .f32) (X7 : BufTy.Contents (Elt Ideal) arg7.view.ty) :
    IsCols (colsG gs ww (arg7.view.read (Elt Ideal) X7)) 512
      (k0_pay365 (F := Ideal) (View.readAt (Elt Ideal) arg7.view (Rect.unit (s := S128x56) ![0, 0] S128x56.size inb_S128x56_S128x56_0_0).toLoadRect X7)) := by
  intro r l i h0 h1
  have hl := l.isLt
  unfold k0_pay365 colsG
  rw [dif_pos (by omega), dif_neg (by omega)]
  refine (congrFun (shapeCast_self _ _) _).trans ?_
  refine congrArg (arg7.view.read (Elt Ideal) X7) ?_
  refine ix2_ext _ _ _ ?_ ?_
  · refine (Rect.idx_unit_val (s := S128x56) _ _ _ _ _).trans ?_
    show 0 + r.val = (i 0).val - 512; omega
  · refine (Rect.idx_unit_val (s := S128x56) _ _ _ _ _).trans ?_
    show 0 + l.val = (i 1).val; omega

/-- A load of a row block. -/
theorem isBlk_load (C : S640x128.Idx → EReal) (v : View sig .tc .vmem S640x128 .f32) (Y : BufTy.Contents (Elt Ideal) v.ty)
    (h : v.read (Elt Ideal) Y = C) (ρ : ℕ) (off : Fin 2 → ℕ) (hoff : off = ![ρ, 0]) (inb : ∀ a, off a + S128x128.size a ≤ S640x128.size a) :
    IsBlk C ρ (View.readAt (Elt Ideal) v (Rect.unit (s := S640x128) off S128x128.size inb).toLoadRect Y) := by
  intro r l i h0 h1
  subst hoff
  subst h
  refine congrArg (v.read (Elt Ideal) Y) ?_
  refine (ix2_ext _ (i 0) (i 1) ?_ ?_).trans (ix2_ext i _ _ rfl rfl).symm
  · refine (Rect.idx_unit_val (s := S640x128) _ _ _ _ _).trans ?_
    show ρ + r.val = (i 0).val; omega
  · refine (Rect.idx_unit_val (s := S640x128) _ _ _ _ _).trans ?_
    show 0 + l.val = (i 1).val; omega

/-- A load of everything is what is read. -/
theorem readAt_whole2 {a b : ℕ} {e : EltTy} (v : View sig .tc .vmem (⟨2, ![a, b]⟩ : Shape) e) (Y : BufTy.Contents (Elt Ideal) v.ty)
    (off : Fin 2 → ℕ) (hoff : off = ![0, 0]) (inb : ∀ d, off d + (![a, b] : Fin 2 → ℕ) d ≤ (⟨2, ![a, b]⟩ : Shape).size d) :
    View.readAt (Elt Ideal) v (Rect.unit (s := ⟨2, ![a, b]⟩) off ![a, b] inb).toLoadRect Y = v.read (Elt Ideal) Y := by
  funext i
  subst hoff
  refine congrArg (v.read (Elt Ideal) Y) ?_
  refine (ix2_ext _ (i 0) (i 1) ?_ ?_).trans (ix2_ext i _ _ rfl rfl).symm
  · refine (Rect.idx_unit_val (s := ⟨2, ![a, b]⟩) _ _ _ _ _).trans ?_
    show 0 + (i 0).val = (i 0).val; omega
  · refine (Rect.idx_unit_val (s := ⟨2, ![a, b]⟩) _ _ _ _ _).trans ?_
    show 0 + (i 1).val = (i 1).val; omega

variable (c : Dev nD) (arg2 : Memref sig .tc .vmem S4x128x56 .f32) (harg2 : arg2.IsWhole) (arg3 : Memref sig .tc .smem S4 .f32) (harg3 : arg3.IsWhole)
  (arg7 : Memref sig .tc .vmem S128x56 .f32) (harg7 : arg7.IsWhole) (arg32 : Memref sig .tc .vmem S640x128 .f32) (harg32 : arg32.IsWhole)
  (arg33 : Memref sig .tc .vmem S640x256 .bf16)
  (x1 : Vec Ideal S4x128x56 .f32) (x2 : Vec Ideal S4 .f32) (x6 : Vec Ideal S128x56 .f32) (s3 : Vec Ideal S640x128 .f32)

/-- The five stores of a grid point. -/
def colsR : List (View.Piece (Elt Ideal) S640x128 .f32) :=
  colsL (k0_pay359 (F := Ideal) (View.readAt (Elt Ideal) arg2.view (Rect.unit (s := S4x128x56) ![0, 0, 0] S1x128x56.size inb_S4x128x56_S1x128x56_0_0_0).toLoadRect (harg2.unread x1))
      (View.readAt (Elt Ideal) arg3.view (Rect.unit (s := S4) ![0] S1.size inb_S4_S1_0).toLoadRect (harg3.unread x2) (Shape.Idx.first (by decide))))
    (k0_pay359 (F := Ideal) (View.readAt (Elt Ideal) arg2.view (Rect.unit (s := S4x128x56) ![1, 0, 0] S1x128x56.size inb_S4x128x56_S1x128x56_1_0_0).toLoadRect (harg2.unread x1))
      (View.readAt (Elt Ideal) arg3.view (Rect.unit (s := S4) ![1] S1.size inb_S4_S1_1).toLoadRect (harg3.unread x2) (Shape.Idx.first (by decide))))
    (k0_pay359 (F := Ideal) (View.readAt (Elt Ideal) arg2.view (Rect.unit (s := S4x128x56) ![2, 0, 0] S1x128x56.size inb_S4x128x56_S1x128x56_2_0_0).toLoadRect (harg2.unread x1))
      (View.readAt (Elt Ideal) arg3.view (Rect.unit (s := S4) ![2] S1.size inb_S4_S1_2).toLoadRect (harg3.unread x2) (Shape.Idx.first (by decide))))
    (k0_pay359 (F := Ideal) (View.readAt (Elt Ideal) arg2.view (Rect.unit (s := S4x128x56) ![3, 0, 0] S1x128x56.size inb_S4x128x56_S1x128x56_3_0_0).toLoadRect (harg2.unread x1))
      (View.readAt (Elt Ideal) arg3.view (Rect.unit (s := S4) ![3] S1.size inb_S4_S1_3).toLoadRect (harg3.unread x2) (Shape.Idx.first (by decide))))
    (k0_pay365 (F := Ideal) (View.readAt (Elt Ideal) arg7.view (Rect.unit (s := S128x56) ![0, 0] S128x56.size inb_S128x56_S128x56_0_0).toLoadRect (harg7.unread x6)))

theorem colsR_read (Y : BufTy.Contents (Elt Ideal) arg32.view.ty) (hY : ∀ i : S640x128.Idx, 56 ≤ (i 1).val → arg32.view.read (Elt Ideal) Y i = (0 : EReal)) :
    arg32.view.read (Elt Ideal) (arg32.view.writes (Elt Ideal) Y (colsR arg2 harg2 arg3 harg3 arg7 harg7 x1 x2 x6)) = colsG x1 x2 x6 := by
  have e2 : arg2.view.read (Elt Ideal) (harg2.unread x1) = x1 := harg2.read_unread _
  have e3 : arg3.view.read (Elt Ideal) (harg3.unread x2) = x2 := harg3.read_unread _
  have e7 : arg7.view.read (Elt Ideal) (harg7.unread x6) = x6 := harg7.read_unread _
  have hw := isCols_w arg2 (harg2.unread x1) arg3 (harg3.unread x2) x6
  have hm := isCols_m x1 x2 arg7 (harg7.unread x6)
  rw [e2, e3] at hw
  rw [e7] at hm
  exact cols_read (colsG x1 x2 x6) (cols_zero x1 x2 x6) arg32.view Y hY _ _ _ _ _
    (hw 0 (by omega) _ rfl _ rfl _ _ _) (hw 1 (by omega) _ rfl _ rfl _ _ _) (hw 2 (by omega) _ rfl _ rfl _ _ _) (hw 3 (by omega) _ rfl _ rfl _ _ _) hm

/-- The ten stores of a grid point over columns `Z`. -/
def limbsR (Z : BufTy.Contents (Elt Ideal) arg32.view.ty) : List (View.Piece (Elt Ideal) S640x256 .bf16) :=
  limbsL (View.readAt (Elt Ideal) arg32.view (Rect.unit (s := S640x128) ![0, 0] S128x128.size inb_S640x128_S128x128_0_0).toLoadRect Z)
    (View.readAt (Elt Ideal) arg32.view (Rect.unit (s := S640x128) ![128, 0] S128x128.size inb_S640x128_S128x128_128_0).toLoadRect Z)
    (View.readAt (Elt Ideal) arg32.view (Rect.unit (s := S640x128) ![256, 0] S128x128.size inb_S640x128_S128x128_256_0).toLoadRect Z)
    (View.readAt (Elt Ideal) arg32.view (Rect.unit (s := S640x128) ![384, 0] S128x128.size inb_S640x128_S128x128_384_0).toLoadRect Z)
    (View.readAt (Elt Ideal) arg32.view (Rect.unit (s := S640x128) ![512, 0] S128x128.size inb_S640x128_S128x128_512_0).toLoadRect Z)

theorem limbsR_read (hf : FinIn x1 x2 x6) (Z : BufTy.Contents (Elt Ideal) arg32.view.ty) (hZ : arg32.view.read (Elt Ideal) Z = colsG x1 x2 x6)
    (Y : BufTy.Contents (Elt Ideal) arg33.view.ty) :
    arg33.view.read (Elt Ideal) (arg33.view.writes (Elt Ideal) Y (limbsR arg32 Z)) = limbsG x1 x2 x6 :=
  limbs_read (colsG x1 x2 x6) (limbsG x1 x2 x6) (colsG_fin hf) (limbsG_hi x1 x2 x6) (limbsG_lo x1 x2 x6) arg33.view Y _ _ _ _ _
    (isBlk_load _ _ _ hZ 0 _ rfl _) (isBlk_load _ _ _ hZ 128 _ rfl _) (isBlk_load _ _ _ hZ 256 _ rfl _) (isBlk_load _ _ _ hZ 384 _ rfl _)
    (isBlk_load _ _ _ hZ 512 _ rfl _)

theorem zero_read (Y : BufTy.Contents (Elt Ideal) arg32.view.ty) (i : S640x128.Idx) :
    arg32.view.read (Elt Ideal) (arg32.view.writes (Elt Ideal) Y
      [⟨Rect.unit (s := S640x128) ![0, 0] S640x128.size inb_S640x128_S640x128_0_0, k0_pay116 (F := Ideal)⟩]) i = (0 : EReal) := by
  refine View.read_writes_apply_of_pieces arg32.view Y (fun _ => (0 : EReal)) _ ?_ i ⟨_, .head _, ?_⟩
  · refine List.forall_mem_cons.2 ⟨fun x => ?_, fun p hp => absurd hp List.not_mem_nil⟩
    show k0_pay116 (F := Ideal) x = (0 : EReal)
    unfold k0_pay116
    refine (congrFun (shapeCast_self _ _) _).trans ?_
    exact Ideal.ofBits_zero_f32
  · refine (Rect.mem_set_unit (inb := inb_S640x128_S640x128_0_0)).2 fun a => ?_
    have h0 : (i 0).val < 640 := (i 0).isLt
    have h1 : (i 1).val < 128 := (i 1).isLt
    match a with
    | ⟨0, _⟩ => show 0 ≤ (i 0).val ∧ (i 0).val < 0 + 640; omega
    | ⟨1, _⟩ => show 0 ≤ (i 1).val ∧ (i 1).val < 0 + 128; omega

theorem cols_B (hs : ∀ i : S640x128.Idx, 56 ≤ (i 1).val → s3 i = (0 : EReal)) :
    arg32.view.read (Elt Ideal) (arg32.view.writes (Elt Ideal) (harg32.unread s3) (runB.sl.HS3_5 (F := Ideal) c arg2 harg2 arg3 harg3 arg7 harg7 x1 x2 x6))
      = colsG x1 x2 x6 :=
  colsR_read arg2 harg2 arg3 harg3 arg7 harg7 arg32 x1 x2 x6 _ (fun i hi => (congrFun (harg32.read_unread s3) i).trans (hs i hi))

theorem limbs_B (hf : FinIn x1 x2 x6) (hs : ∀ i : S640x128.Idx, 56 ≤ (i 1).val → s3 i = (0 : EReal)) (Y : BufTy.Contents (Elt Ideal) arg33.view.ty) :
    arg33.view.read (Elt Ideal) (arg33.view.writes (Elt Ideal) Y (runB.sl.HS4_10 (F := Ideal) c arg2 harg2 arg3 harg3 arg7 harg7 arg32 harg32 x1 x2 x6 s3))
      = limbsG x1 x2 x6 :=
  limbsR_read arg32 arg33 x1 x2 x6 hf _ (cols_B c arg2 harg2 arg3 harg3 arg7 harg7 arg32 harg32 x1 x2 x6 s3 hs) Y

theorem cols_C (hs : ∀ i : S640x128.Idx, 56 ≤ (i 1).val → s3 i = (0 : EReal)) :
    arg32.view.read (Elt Ideal) (arg32.view.writes (Elt Ideal) (harg32.unread s3) (runC.sl.HS3_5 (F := Ideal) c arg2 harg2 arg3 harg3 arg7 harg7 x1 x2 x6))
      = colsG x1 x2 x6 :=
  colsR_read arg2 harg2 arg3 harg3 arg7 harg7 arg32 x1 x2 x6 _ (fun i hi => (congrFun (harg32.read_unread s3) i).trans (hs i hi))

theorem limbs_C (hf : FinIn x1 x2 x6) (hs : ∀ i : S640x128.Idx, 56 ≤ (i 1).val → s3 i = (0 : EReal)) (Y : BufTy.Contents (Elt Ideal) arg33.view.ty) :
    arg33.view.read (Elt Ideal) (arg33.view.writes (Elt Ideal) Y (runC.sl.HS4_10 (F := Ideal) c arg2 harg2 arg3 harg3 arg7 harg7 arg32 harg32 x1 x2 x6 s3))
      = limbsG x1 x2 x6 :=
  limbsR_read arg32 arg33 x1 x2 x6 hf _ (cols_C c arg2 harg2 arg3 harg3 arg7 harg7 arg32 harg32 x1 x2 x6 s3 hs) Y

theorem cols_A (Y : BufTy.Contents (Elt Ideal) arg32.view.ty) :
    arg32.view.read (Elt Ideal) (arg32.view.writes (Elt Ideal) Y (runA.sl.HS3_6 (F := Ideal) c arg2 harg2 arg3 harg3 arg7 harg7 x1 x2 x6))
      = colsG x1 x2 x6 :=
  colsR_read arg2 harg2 arg3 harg3 arg7 harg7 arg32 x1 x2 x6 _ (fun i hi => zero_read arg32 Y i)

theorem limbs_A (hf : FinIn x1 x2 x6) (Y : BufTy.Contents (Elt Ideal) arg33.view.ty) :
    arg33.view.read (Elt Ideal) (arg33.view.writes (Elt Ideal) Y (runA.sl.HS4_10 (F := Ideal) c arg2 harg2 arg3 harg3 arg7 harg7 arg32 x1 x2 x6))
      = limbsG x1 x2 x6 :=
  limbsR_read arg32 arg33 x1 x2 x6 hf _ (cols_A c arg2 harg2 arg3 harg3 arg7 harg7 arg32 x1 x2 x6 arg32.view.junk) Y

end Cert.KernelIdeal.Own

end
-- ==== Proof.ValueInit.lean ====
module

public import proofs.«01_k».proof.Proof.ValueMath

@[expose] public section

set_option maxRecDepth 16384

/-! The permutation and the selections the first grid point prepares, read at an index. -/

noncomputable section

namespace Cert.KernelIdeal.Own

open Cert.KernelIdeal Cert.KernelIdeal.Gen
open Idealize.ShloMosaic Idealize.ShloMosaic.ValueIdx

/-- The mask of the selection that starts at block `base`. -/
def selG (base : BitVec 32) : IVec S256x256 1 :=
  have v718 : IVec S256x256 32 := iota .tc S256x256 32 [0] iota_S256x256_d0_w32
  have v719 : IVec S256x256 32 := iota .tc S256x256 32 [1] iota_S256x256_d1_w32
  let v773 : BitVec 1 := Scalar.cmpi .eq 64#32 0#32
  let v774 : BitVec 32 := Scalar.select v773 1#32 64#32
  have v775 : IVec S256x256 32 := broadcast S256x256 v774
  have v776 : IVec S256x256 32 := remsi v718 v775
  have v777 : IVec S256x256 32 := broadcast S256x256 0#32
  have v778 : IVec S256x256 1 := cmpi .ne v776 v777
  have v779 : IVec S256x256 32 := broadcast S256x256 0#32
  have v780 : IVec S256x256 1 := cmpi .slt v776 v779
  let v781 : BitVec 1 := Scalar.cmpi .slt v774 0#32
  have v782 : IVec S256x256 1 := broadcast S256x256 v781
  have v783 : IVec S256x256 1 := broadcastTo S256x256 v782 broadcasts_S256x256_S256x256
  have v784 : IVec S256x256 1 := xori v780 v783
  have v785 : IVec S256x256 1 := andi v784 v778
  have v786 : IVec S256x256 32 := broadcast S256x256 v774
  have v787 : IVec S256x256 32 := addi v776 v786
  have v788 : IVec S256x256 32 := select v785 v787 v776
  have v789 : IVec S256x256 32 := broadcast S256x256 128#32
  have v790 : IVec S256x256 32 := divsi v719 v789
  have v791 : IVec S256x256 32 := broadcast S256x256 0#32
  have v792 : IVec S256x256 1 := cmpi .sgt v719 v791
  have v793 : IVec S256x256 32 := extui 32 v792 natLt_1_32
  have v794 : IVec S256x256 32 := broadcast S256x256 0#32
  have v795 : IVec S256x256 1 := cmpi .slt v719 v794
  have v796 : IVec S256x256 32 := extui 32 v795 natLt_1_32
  have v797 : IVec S256x256 32 := subi v793 v796
  let v798 : BitVec 1 := Scalar.cmpi .sgt 128#32 0#32
  let v799 : BitVec 32 := Scalar.extui v798
  let v800 : BitVec 1 := Scalar.cmpi .slt 128#32 0#32
  let v801 : BitVec 32 := Scalar.extui v800
  let v802 : BitVec 32 := Scalar.subi v799 v801
  have v803 : IVec S256x256 32 := broadcast S256x256 v802
  have v804 : IVec S256x256 1 := cmpi .ne v797 v803
  have v805 : IVec S256x256 32 := broadcast S256x256 128#32
  have v806 : IVec S256x256 32 := remsi v719 v805
  have v807 : IVec S256x256 32 := broadcast S256x256 0#32
  have v808 : IVec S256x256 1 := cmpi .ne v806 v807
  have v809 : IVec S256x256 1 := andi v804 v808
  have v810 : IVec S256x256 32 := broadcast S256x256 1#32
  have v811 : IVec S256x256 32 := subi v790 v810
  have v812 : IVec S256x256 32 := select v809 v811 v790
  have v813 : IVec S256x256 32 := broadcast S256x256 base
  have v814 : IVec S256x256 32 := addi v813 v812
  have v815 : IVec S256x256 1 := cmpi .eq v788 v814
  have v816 : IVec S256x256 32 := broadcast S256x256 192#32
  have v817 : IVec S256x256 1 := cmpi .slt v718 v816
  have v818 : IVec S256x256 1 := andi v815 v817
  v818

/-- The row number modulo 64, as the program computes it. -/
def selRow (v718 : BitVec 32) : BitVec 32 :=
  let v773 : BitVec 1 := Scalar.cmpi .eq 64#32 0#32
  let v774 : BitVec 32 := Scalar.select v773 1#32 64#32
  have v775 : BitVec 32 := v774
  have v776 : BitVec 32 := IntOp.remsi .vector v718 v775
  have v777 : BitVec 32 := 0#32
  have v778 : BitVec 1 := IntOp.cmpi .ne v776 v777
  have v779 : BitVec 32 := 0#32
  have v780 : BitVec 1 := IntOp.cmpi .slt v776 v779
  let v781 : BitVec 1 := Scalar.cmpi .slt v774 0#32
  have v782 : BitVec 1 := v781
  have v783 : BitVec 1 := v782
  have v784 : BitVec 1 := IntOp.xori v780 v783
  have v785 : BitVec 1 := IntOp.andi v784 v778
  have v786 : BitVec 32 := v774
  have v787 : BitVec 32 := IntOp.addi v776 v786
  have v788 : BitVec 32 := Scalar.select v785 v787 v776
  v788

/-- The column number divided by 128, as the program computes it. -/
def selCol (v719 : BitVec 32) : BitVec 32 :=
  have v789 : BitVec 32 := 128#32
  have v790 : BitVec 32 := IntOp.divsi .vector v719 v789
  have v791 : BitVec 32 := 0#32
  have v792 : BitVec 1 := IntOp.cmpi .sgt v719 v791
  have v793 : BitVec 32 := (v792).setWidth 32
  have v794 : BitVec 32 := 0#32
  have v795 : BitVec 1 := IntOp.cmpi .slt v719 v794
  have v796 : BitVec 32 := (v795).setWidth 32
  have v797 : BitVec 32 := IntOp.subi v793 v796
  let v798 : BitVec 1 := Scalar.cmpi .sgt 128#32 0#32
  let v799 : BitVec 32 := Scalar.extui v798
  let v800 : BitVec 1 := Scalar.cmpi .slt 128#32 0#32
  let v801 : BitVec 32 := Scalar.extui v800
  let v802 : BitVec 32 := Scalar.subi v799 v801
  have v803 : BitVec 32 := v802
  have v804 : BitVec 1 := IntOp.cmpi .ne v797 v803
  have v805 : BitVec 32 := 128#32
  have v806 : BitVec 32 := IntOp.remsi .vector v719 v805
  have v807 : BitVec 32 := 0#32
  have v808 : BitVec 1 := IntOp.cmpi .ne v806 v807
  have v809 : BitVec 1 := IntOp.andi v804 v808
  have v810 : BitVec 32 := 1#32
  have v811 : BitVec 32 := IntOp.subi v790 v810
  have v812 : BitVec 32 := Scalar.select v809 v811 v790
  v812

/-- The row a column is taken from, as the program computes it. -/
def permRow (v644 : BitVec 32) : BitVec 32 :=
  have v646 : BitVec 32 := 128#32
  have v647 : BitVec 1 := IntOp.cmpi .slt v644 v646
  have v648 : BitVec 32 := 2#32
  have v649 : BitVec 32 := IntOp.muli v648 v644
  have v650 : BitVec 32 := 128#32
  have v651 : BitVec 32 := IntOp.subi v644 v650
  have v652 : BitVec 32 := 2#32
  have v653 : BitVec 32 := IntOp.muli v652 v651
  have v654 : BitVec 32 := 1#32
  have v655 : BitVec 32 := IntOp.addi v653 v654
  have v656 : BitVec 32 := Scalar.select v647 v649 v655
  v656

theorem selRow_eq : ∀ k : Fin 256, selRow (BitVec.ofNat 32 k.val) = BitVec.ofNat 32 (k.val % 64) := by decide +kernel
theorem selCol_eq : ∀ n : Fin 256, selCol (BitVec.ofNat 32 n.val) = BitVec.ofNat 32 (n.val / 128) := by decide +kernel
theorem permRow_eq : ∀ k : Fin 256, permRow (BitVec.ofNat 32 k.val) = BitVec.ofNat 32 (srcOf k.val) := by decide +kernel
theorem slt192_eq : ∀ k : Fin 256, IntOp.cmpi .slt (BitVec.ofNat 32 k.val) 192#32 = if k.val < 192 then 1#1 else 0#1 := by decide +kernel

theorem cmpi_eq_ofNat (a b : ℕ) (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases h : a = b
  · subst h; rw [if_pos rfl]; simp [IntOp.cmpi]
  · rw [if_neg h]
    simp only [IntOp.cmpi]
    rw [beq_eq_false_iff_ne.mpr (fun e => h (this.mp e))]
    rfl

theorem iota_row (k n : Fin 256) : iota .tc S256x256 32 [0] iota_S256x256_d0_w32 (ix2 (n0 := 256) (n1 := 256) k n) = BitVec.ofNat 32 k.val := by
  show BitVec.ofNat 32 (0 * 256 + k.val) = _
  rw [Nat.zero_mul, Nat.zero_add]
theorem iota_col (k n : Fin 256) : iota .tc S256x256 32 [1] iota_S256x256_d1_w32 (ix2 (n0 := 256) (n1 := 256) k n) = BitVec.ofNat 32 n.val := by
  show BitVec.ofNat 32 (0 * 256 + n.val) = _
  rw [Nat.zero_mul, Nat.zero_add]

theorem selG_apply (base : BitVec 32) (k n : Fin 256) :
    selG base (ix2 (n0 := 256) (n1 := 256) k n)
      = IntOp.andi (IntOp.cmpi .eq (selRow (BitVec.ofNat 32 k.val)) (IntOp.addi base (selCol (BitVec.ofNat 32 n.val))))
          (IntOp.cmpi .slt (BitVec.ofNat 32 k.val) 192#32) := by
  have e : selG base (ix2 (n0 := 256) (n1 := 256) k n)
      = IntOp.andi (IntOp.cmpi .eq (selRow (iota .tc S256x256 32 [0] iota_S256x256_d0_w32 (ix2 (n0 := 256) (n1 := 256) k n)))
            (IntOp.addi base (selCol (iota .tc S256x256 32 [1] iota_S256x256_d1_w32 (ix2 (n0 := 256) (n1 := 256) k n)))))
          (IntOp.cmpi .slt (iota .tc S256x256 32 [0] iota_S256x256_d0_w32 (ix2 (n0 := 256) (n1 := 256) k n)) 192#32) := rfl
  rw [e, iota_row, iota_col]

theorem one_f32 : Ideal.ofBits .f32 0x3F800000#32 = 1 := by
  simp [Ideal.ofBits, Ideal.ieee]
  rw [← EReal.coe_mul]; norm_num

/-- A selection prepared from its mask is one. -/
theorem isSel_of (c : ℕ) (hc : c < 28) (X : FVec Ideal S1x256x256 .bf16)
    (h : X = k0_pay17 (F := Ideal) (selG (BitVec.ofNat 32 (2 * c))) (Scalar.ofBits (F := Ideal) .f32 0x3F800000#32)) : IsSel c X := by
  intro k n
  rw [h]
  unfold k0_pay17
  refine (shapeCast_ab_1ab_apply (a := 256) (b := 256) _ shapeCasts_S256x256_S1x256x256 0 k n).trans ?_
  show Scalar.select (selG (BitVec.ofNat 32 (2 * c)) (ix2 (n0 := 256) (n1 := 256) k n)) (Ideal.ofBits .f32 0x3F800000#32) (Ideal.ofBits .f32 0x00000000#32) = _
  rw [selG_apply, selRow_eq, selCol_eq, slt192_eq, one_f32, Ideal.ofBits_zero_f32]
  have e : IntOp.addi (BitVec.ofNat 32 (2 * c)) (BitVec.ofNat 32 (n.val / 128)) = BitVec.ofNat 32 (2 * c + n.val / 128) := (BitVec.ofNat_add _ _).symm
  rw [e, cmpi_eq_ofNat _ _ (by omega) (by omega)]
  by_cases h1 : k.val % 64 = 2 * c + n.val / 128 <;> by_cases h2 : k.val < 192 <;> simp [h1, h2, IntOp.andi, Scalar.select]

/-- The permutation the first grid point prepares. -/
theorem isPerm_pay8 : IsPerm (k0_pay8 (F := Ideal)) := by
  intro k n
  have e : k0_pay8 (F := Ideal) (ix2 (n0 := 256) (n1 := 256) k n)
      = FloatOps.sitofp (F := Ideal) .f32 ((IntOp.cmpi .eq (permRow (iota .tc S256x256 32 [0] iota_S256x256_d0_w32 (ix2 (n0 := 256) (n1 := 256) k n)))
          (iota .tc S256x256 32 [1] iota_S256x256_d1_w32 (ix2 (n0 := 256) (n1 := 256) k n))).setWidth 32) := by
    unfold k0_pay8
    rw [shapeCast_self]
    rfl
  rw [e, iota_row, iota_col, permRow_eq, cmpi_eq_ofNat _ _ (by unfold srcOf; split_ifs <;> omega) (by omega)]
  by_cases h : srcOf k.val = n.val
  · rw [if_pos h, if_pos h]; show (((((1#1).setWidth 32 : BitVec 32).toInt : ℤ) : ℝ) : EReal) = 1; rw [show ((1#1).setWidth 32 : BitVec 32).toInt = 1 by decide]; norm_num
  · rw [if_neg h, if_neg h]; show (((((0#1).setWidth 32 : BitVec 32).toInt : ℤ) : ℝ) : EReal) = 0; rw [show ((0#1).setWidth 32 : BitVec 32).toInt = 0 by decide]; norm_num

end Cert.KernelIdeal.Own

end
-- ==== Proof.ValueSel.lean ====
module

public import proofs.«01_k».proof.Proof.ValueInit
public import proofs.«01_k».proof.Proof.ValueTrip
public import proofs.«01_k».proof.Proof.RunKernelIdealA

@[expose] public section

set_option maxRecDepth 16384

/-! The selections the first grid point prepares, each one where it is stored. -/

noncomputable section

namespace Cert.KernelIdeal.Own

open Cert.KernelIdeal Cert.KernelIdeal.Gen
open Idealize.ShloMosaic hiding ix1 ix2 ix3
open Idealize.ShloMosaic.ValueIdx

/-- What the selections hold, all of them. -/
def selAll : S28x256x256.Idx → EReal := fun i =>
  if (i 1).val % 64 = 2 * (i 0).val + (i 2).val / 128 ∧ (i 1).val < 192 then 1 else 0

theorem sel_piece (c : ℕ) (hc : c < 28) (X : FVec Ideal S1x256x256 .bf16) (off : Fin 3 → ℕ) (hoff : off = ![c, 0, 0])
    (inb : ∀ a, off a + S1x256x256.size a ≤ S28x256x256.size a)
    (h : X = k0_pay17 (F := Ideal) (selG (BitVec.ofNat 32 (2 * c))) (Scalar.ofBits (F := Ideal) .f32 0x3F800000#32)) (x : S1x256x256.Idx) :
    X x = selAll ((Rect.unit (s := S28x256x256) off S1x256x256.size inb).emb x) := by
  obtain ⟨a, k, n, rfl⟩ : ∃ (a : Fin 1) (k n : Fin 256), x = ix3 a k n := ⟨x 0, x 1, x 2, ix3_ext _ _ _ _ rfl rfl rfl⟩
  obtain rfl : a = 0 := Subsingleton.elim _ _
  refine (isSel_of c hc X h k n).trans ?_
  subst hoff
  have e0 : ((Rect.unit (s := S28x256x256) ![c, 0, 0] S1x256x256.size inb).emb (ix3 (n0 := 1) (n1 := 256) (n2 := 256) 0 k n) 0).val = c + 0 :=
    ValueKit.rect_emb_unit_val (s := S28x256x256) _ _ _ _ _
  have e1 : ((Rect.unit (s := S28x256x256) ![c, 0, 0] S1x256x256.size inb).emb (ix3 (n0 := 1) (n1 := 256) (n2 := 256) 0 k n) 1).val = 0 + k.val :=
    ValueKit.rect_emb_unit_val (s := S28x256x256) _ _ _ _ _
  have e2 : ((Rect.unit (s := S28x256x256) ![c, 0, 0] S1x256x256.size inb).emb (ix3 (n0 := 1) (n1 := 256) (n2 := 256) 0 k n) 2).val = 0 + n.val :=
    ValueKit.rect_emb_unit_val (s := S28x256x256) _ _ _ _ _
  unfold selAll
  rw [e0, e1, e2, Nat.add_zero, Nat.zero_add, Nat.zero_add]

theorem sel_mem (c : ℕ) (off : Fin 3 → ℕ) (hoff : off = ![c, 0, 0]) (inb : ∀ a, off a + S1x256x256.size a ≤ S28x256x256.size a) (i : S28x256x256.Idx)
    (h : (i 0).val = c) : i ∈ (Rect.unit (s := S28x256x256) off S1x256x256.size inb).set := by
  subst hoff
  have h1 : (i 1).val < 256 := (i 1).isLt
  have h2 : (i 2).val < 256 := (i 2).isLt
  refine (Rect.mem_set_unit (inb := inb)).2 fun a => ?_
  match a with
  | ⟨0, _⟩ => show c ≤ (i 0).val ∧ (i 0).val < c + 1; omega
  | ⟨1, _⟩ => show 0 ≤ (i 1).val ∧ (i 1).val < 0 + 256; omega
  | ⟨2, _⟩ => show 0 ≤ (i 2).val ∧ (i 2).val < 0 + 256; omega

/-- A selection loaded is the one of its trip. -/
theorem isSel_load (arg31 : Memref sig .tc .vmem S28x256x256 .bf16) (X : BufTy.Contents (Elt Ideal) arg31.view.ty)
    (h : arg31.view.read (Elt Ideal) X = selAll) (k : Fin k0_t1_loop.trips) : IsSel k.val (selLd arg31 X k) := by
  intro r n
  have hk := trips28 k
  have e : selLd arg31 X k (ix3 (n0 := 1) (n1 := 256) (n2 := 256) 0 r n)
      = selAll ((Rect.unit (s := S28x256x256) (k0_off9 k) S1x256x256.size (k0_off9_inb k)).toLoadRect.idx (ix3 (n0 := 1) (n1 := 256) (n2 := 256) 0 r n)) :=
    congrFun h _
  rw [e]
  have ho : k0_off9 k = ![k.val, 0, 0] := (k0_off9_eq k).trans rfl
  have e0 : ((Rect.unit (s := S28x256x256) (k0_off9 k) S1x256x256.size (k0_off9_inb k)).toLoadRect.idx (ix3 (n0 := 1) (n1 := 256) (n2 := 256) 0 r n) 0).val = k.val := by
    refine (Rect.idx_unit_val (s := S28x256x256) _ _ _ _ _).trans ?_
    rw [congrFun ho 0]; rfl
  have e1 : ((Rect.unit (s := S28x256x256) (k0_off9 k) S1x256x256.size (k0_off9_inb k)).toLoadRect.idx (ix3 (n0 := 1) (n1 := 256) (n2 := 256) 0 r n) 1).val = r.val := by
    refine (Rect.idx_unit_val (s := S28x256x256) _ _ _ _ _).trans ?_
    rw [congrFun ho 1]; exact Nat.zero_add _
  have e2 : ((Rect.unit (s := S28x256x256) (k0_off9 k) S1x256x256.size (k0_off9_inb k)).toLoadRect.idx (ix3 (n0 := 1) (n1 := 256) (n2 := 256) 0 r n) 2).val = n.val := by
    refine (Rect.idx_unit_val (s := S28x256x256) _ _ _ _ _).trans ?_
    rw [congrFun ho 2]; exact Nat.zero_add _
  unfold selAll
  rw [e0, e1, e2]

theorem sel_eq0 (x : S1x256x256.Idx) : ((runA.sl.HS2_28 (F := Ideal)).get ⟨27, by decide⟩).2 x = selAll (((runA.sl.HS2_28 (F := Ideal)).get ⟨27, by decide⟩).1.emb x) :=
  sel_piece 0 (by omega) _ _ rfl inb_S28x256x256_S1x256x256_0_0_0 rfl x

theorem sel_eq1 (x : S1x256x256.Idx) : ((runA.sl.HS2_28 (F := Ideal)).get ⟨26, by decide⟩).2 x = selAll (((runA.sl.HS2_28 (F := Ideal)).get ⟨26, by decide⟩).1.emb x) :=
  sel_piece 1 (by omega) _ _ rfl inb_S28x256x256_S1x256x256_1_0_0 rfl x

theorem sel_eq2 (x : S1x256x256.Idx) : ((runA.sl.HS2_28 (F := Ideal)).get ⟨25, by decide⟩).2 x = selAll (((runA.sl.HS2_28 (F := Ideal)).get ⟨25, by decide⟩).1.emb x) :=
  sel_piece 2 (by omega) _ _ rfl inb_S28x256x256_S1x256x256_2_0_0 rfl x

theorem sel_eq3 (x : S1x256x256.Idx) : ((runA.sl.HS2_28 (F := Ideal)).get ⟨24, by decide⟩).2 x = selAll (((runA.sl.HS2_28 (F := Ideal)).get ⟨24, by decide⟩).1.emb x) :=
  sel_piece 3 (by omega) _ _ rfl inb_S28x256x256_S1x256x256_3_0_0 rfl x

theorem sel_eq4 (x : S1x256x256.Idx) : ((runA.sl.HS2_28 (F := Ideal)).get ⟨23, by decide⟩).2 x = selAll (((runA.sl.HS2_28 (F := Ideal)).get ⟨23, by decide⟩).1.emb x) :=
  sel_piece 4 (by omega) _ _ rfl inb_S28x256x256_S1x256x256_4_0_0 rfl x

theorem sel_eq5 (x : S1x256x256.Idx) : ((runA.sl.HS2_28 (F := Ideal)).get ⟨22, by decide⟩).2 x = selAll (((runA.sl.HS2_28 (F := Ideal)).get ⟨22, by decide⟩).1.emb x) :=
  sel_piece 5 (by omega) _ _ rfl inb_S28x256x256_S1x256x256_5_0_0 rfl x

theorem sel_eq6 (x : S1x256x256.Idx) : ((runA.sl.HS2_28 (F := Ideal)).get ⟨21, by decide⟩).2 x = selAll (((runA.sl.HS2_28 (F := Ideal)).get ⟨21, by decide⟩).1.emb x) :=
  sel_piece 6 (by omega) _ _ rfl inb_S28x256x256_S1x256x256_6_0_0 rfl x

theorem sel_eq7 (x : S1x256x256.Idx) : ((runA.sl.HS2_28 (F := Ideal)).get ⟨20, by decide⟩).2 x = selAll (((runA.sl.HS2_28 (F := Ideal)).get ⟨20, by decide⟩).1.emb x) :=
  sel_piece 7 (by omega) _ _ rfl inb_S28x256x256_S1x256x256_7_0_0 rfl x

theorem sel_eq8 (x : S1x256x256.Idx) : ((runA.sl.HS2_28 (F := Ideal)).get ⟨19, by decide⟩).2 x = selAll (((runA.sl.HS2_28 (F := Ideal)).get ⟨19, by decide⟩).1.emb x) :=
  sel_piece 8 (by omega) _ _ rfl inb_S28x256x256_S1x256x256_8_0_0 rfl x

theorem sel_eq9 (x : S1x256x256.Idx) : ((runA.sl.HS2_28 (F := Ideal)).get ⟨18, by decide⟩).2 x = selAll (((runA.sl.HS2_28 (F := Ideal)).get ⟨18, by decide⟩).1.emb x) :=
  sel_piece 9 (by omega) _ _ rfl inb_S28x256x256_S1x256x256_9_0_0 rfl x

theorem sel_eq10 (x : S1x256x256.Idx) : ((runA.sl.HS2_28 (F := Ideal)).get ⟨17, by decide⟩).2 x = selAll (((runA.sl.HS2_28 (F := Ideal)).get ⟨17, by decide⟩).1.emb x) :=
  sel_piece 10 (by omega) _ _ rfl inb_S28x256x256_S1x256x256_10_0_0 rfl x

theorem sel_eq11 (x : S1x256x256.Idx) : ((runA.sl.HS2_28 (F := Ideal)).get ⟨16, by decide⟩).2 x = selAll (((runA.sl.HS2_28 (F := Ideal)).get ⟨16, by decide⟩).1.emb x) :=
  sel_piece 11 (by omega) _ _ rfl inb_S28x256x256_S1x256x256_11_0_0 rfl x

theorem sel_eq12 (x : S1x256x256.Idx) : ((runA.sl.HS2_28 (F := Ideal)).get ⟨15, by decide⟩).2 x = selAll (((runA.sl.HS2_28 (F := Ideal)).get ⟨15, by decide⟩).1.emb x) :=
  sel_piece 12 (by omega) _ _ rfl inb_S28x256x256_S1x256x256_12_0_0 rfl x

theorem sel_eq13 (x : S1x256x256.Idx) : ((runA.sl.HS2_28 (F := Ideal)).get ⟨14, by decide⟩).2 x = selAll (((runA.sl.HS2_28 (F := Ideal)).get ⟨14, by decide⟩).1.emb x) :=
  sel_piece 13 (by omega) _ _ rfl inb_S28x256x256_S1x256x256_13_0_0 rfl x

theorem sel_eq14 (x : S1x256x256.Idx) : ((runA.sl.HS2_28 (F := Ideal)).get ⟨13, by decide⟩).2 x = selAll (((runA.sl.HS2_28 (F := Ideal)).get ⟨13, by decide⟩).1.emb x) :=
  sel_piece 14 (by omega) _ _ rfl inb_S28x256x256_S1x256x256_14_0_0 rfl x

theorem sel_eq15 (x : S1x256x256.Idx) : ((runA.sl.HS2_28 (F := Ideal)).get ⟨12, by decide⟩).2 x = selAll (((runA.sl.HS2_28 (F := Ideal)).get ⟨12, by decide⟩).1.emb x) :=
  sel_piece 15 (by omega) _ _ rfl inb_S28x256x256_S1x256x256_15_0_0 rfl x

theorem sel_eq16 (x : S1x256x256.Idx) : ((runA.sl.HS2_28 (F := Ideal)).get ⟨11, by decide⟩).2 x = selAll (((runA.sl.HS2_28 (F := Ideal)).get ⟨11, by decide⟩).1.emb x) :=
  sel_piece 16 (by omega) _ _ rfl inb_S28x256x256_S1x256x256_16_0_0 rfl x

theorem sel_eq17 (x : S1x256x256.Idx) : ((runA.sl.HS2_28 (F := Ideal)).get ⟨10, by decide⟩).2 x = selAll (((runA.sl.HS2_28 (F := Ideal)).get ⟨10, by decide⟩).1.emb x) :=
  sel_piece 17 (by omega) _ _ rfl inb_S28x256x256_S1x256x256_17_0_0 rfl x

theorem sel_eq18 (x : S1x256x256.Idx) : ((runA.sl.HS2_28 (F := Ideal)).get ⟨9, by decide⟩).2 x = selAll (((runA.sl.HS2_28 (F := Ideal)).get ⟨9, by decide⟩).1.emb x) :=
  sel_piece 18 (by omega) _ _ rfl inb_S28x256x256_S1x256x256_18_0_0 rfl x

theorem sel_eq19 (x : S1x256x256.Idx) : ((runA.sl.HS2_28 (F := Ideal)).get ⟨8, by decide⟩).2 x = selAll (((runA.sl.HS2_28 (F := Ideal)).get ⟨8, by decide⟩).1.emb x) :=
  sel_piece 19 (by omega) _ _ rfl inb_S28x256x256_S1x256x256_19_0_0 rfl x

theorem sel_eq20 (x : S1x256x256.Idx) : ((runA.sl.HS2_28 (F := Ideal)).get ⟨7, by decide⟩).2 x = selAll (((runA.sl.HS2_28 (F := Ideal)).get ⟨7, by decide⟩).1.emb x) :=
  sel_piece 20 (by omega) _ _ rfl inb_S28x256x256_S1x256x256_20_0_0 rfl x

theorem sel_eq21 (x : S1x256x256.Idx) : ((runA.sl.HS2_28 (F := Ideal)).get ⟨6, by decide⟩).2 x = selAll (((runA.sl.HS2_28 (F := Ideal)).get ⟨6, by decide⟩).1.emb x) :=
  sel_piece 21 (by omega) _ _ rfl inb_S28x256x256_S1x256x256_21_0_0 rfl x

theorem sel_eq22 (x : S1x256x256.Idx) : ((runA.sl.HS2_28 (F := Ideal)).get ⟨5, by decide⟩).2 x = selAll (((runA.sl.HS2_28 (F := Ideal)).get ⟨5, by decide⟩).1.emb x) :=
  sel_piece 22 (by omega) _ _ rfl inb_S28x256x256_S1x256x256_22_0_0 rfl x

theorem sel_eq23 (x : S1x256x256.Idx) : ((runA.sl.HS2_28 (F := Ideal)).get ⟨4, by decide⟩).2 x = selAll (((runA.sl.HS2_28 (F := Ideal)).get ⟨4, by decide⟩).1.emb x) :=
  sel_piece 23 (by omega) _ _ rfl inb_S28x256x256_S1x256x256_23_0_0 rfl x

theorem sel_eq24 (x : S1x256x256.Idx) : ((runA.sl.HS2_28 (F := Ideal)).get ⟨3, by decide⟩).2 x = selAll (((runA.sl.HS2_28 (F := Ideal)).get ⟨3, by decide⟩).1.emb x) :=
  sel_piece 24 (by omega) _ _ rfl inb_S28x256x256_S1x256x256_24_0_0 rfl x

theorem sel_eq25 (x : S1x256x256.Idx) : ((runA.sl.HS2_28 (F := Ideal)).get ⟨2, by decide⟩).2 x = selAll (((runA.sl.HS2_28 (F := Ideal)).get ⟨2, by decide⟩).1.emb x) :=
  sel_piece 25 (by omega) _ _ rfl inb_S28x256x256_S1x256x256_25_0_0 rfl x

theorem sel_eq26 (x : S1x256x256.Idx) : ((runA.sl.HS2_28 (F := Ideal)).get ⟨1, by decide⟩).2 x = selAll (((runA.sl.HS2_28 (F := Ideal)).get ⟨1, by decide⟩).1.emb x) :=
  sel_piece 26 (by omega) _ _ rfl inb_S28x256x256_S1x256x256_26_0_0 rfl x

theorem sel_eq27 (x : S1x256x256.Idx) : ((runA.sl.HS2_28 (F := Ideal)).get ⟨0, by decide⟩).2 x = selAll (((runA.sl.HS2_28 (F := Ideal)).get ⟨0, by decide⟩).1.emb x) :=
  sel_piece 27 (by omega) _ _ rfl inb_S28x256x256_S1x256x256_27_0_0 rfl x

theorem sel_pieces : ∀ p ∈ runA.sl.HS2_28 (F := Ideal), ∀ x, p.2 x = selAll (p.1.emb x) := by
  unfold runA.sl.HS2_28
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩⟩⟩⟩⟩⟩⟩⟩⟩⟩⟩⟩⟩⟩⟩⟩⟩⟩⟩⟩⟩⟩⟩
  · exact sel_eq27
  · exact sel_eq26
  · exact sel_eq25
  · exact sel_eq24
  · exact sel_eq23
  · exact sel_eq22
  · exact sel_eq21
  · exact sel_eq20
  · exact sel_eq19
  · exact sel_eq18
  · exact sel_eq17
  · exact sel_eq16
  · exact sel_eq15
  · exact sel_eq14
  · exact sel_eq13
  · exact sel_eq12
  · exact sel_eq11
  · exact sel_eq10
  · exact sel_eq9
  · exact sel_eq8
  · exact sel_eq7
  · exact sel_eq6
  · exact sel_eq5
  · exact sel_eq4
  · exact sel_eq3
  · exact sel_eq2
  · exact sel_eq1
  · exact sel_eq0

theorem sel_cover (i : S28x256x256.Idx) : ∃ p ∈ runA.sl.HS2_28 (F := Ideal), i ∈ p.1.set := by
  have h0 : (i 0).val < 28 := (i 0).isLt
  have key : ∀ c, c < 28 → (i 0).val = c → ∃ p ∈ runA.sl.HS2_28 (F := Ideal), i ∈ p.1.set := by
    intro c hc h
    have hl : (runA.sl.HS2_28 (F := Ideal)).length = 28 := rfl
    refine ⟨_, List.getElem_mem (n := 27 - c) (by omega), ?_⟩
    interval_cases c
    · exact sel_mem 0 _ rfl inb_S28x256x256_S1x256x256_0_0_0 i h
    · exact sel_mem 1 _ rfl inb_S28x256x256_S1x256x256_1_0_0 i h
    · exact sel_mem 2 _ rfl inb_S28x256x256_S1x256x256_2_0_0 i h
    · exact sel_mem 3 _ rfl inb_S28x256x256_S1x256x256_3_0_0 i h
    · exact sel_mem 4 _ rfl inb_S28x256x256_S1x256x256_4_0_0 i h
    · exact sel_mem 5 _ rfl inb_S28x256x256_S1x256x256_5_0_0 i h
    · exact sel_mem 6 _ rfl inb_S28x256x256_S1x256x256_6_0_0 i h
    · exact sel_mem 7 _ rfl inb_S28x256x256_S1x256x256_7_0_0 i h
    · exact sel_mem 8 _ rfl inb_S28x256x256_S1x256x256_8_0_0 i h
    · exact sel_mem 9 _ rfl inb_S28x256x256_S1x256x256_9_0_0 i h
    · exact sel_mem 10 _ rfl inb_S28x256x256_S1x256x256_10_0_0 i h
    · exact sel_mem 11 _ rfl inb_S28x256x256_S1x256x256_11_0_0 i h
    · exact sel_mem 12 _ rfl inb_S28x256x256_S1x256x256_12_0_0 i h
    · exact sel_mem 13 _ rfl inb_S28x256x256_S1x256x256_13_0_0 i h
    · exact sel_mem 14 _ rfl inb_S28x256x256_S1x256x256_14_0_0 i h
    · exact sel_mem 15 _ rfl inb_S28x256x256_S1x256x256_15_0_0 i h
    · exact sel_mem 16 _ rfl inb_S28x256x256_S1x256x256_16_0_0 i h
    · exact sel_mem 17 _ rfl inb_S28x256x256_S1x256x256_17_0_0 i h
    · exact sel_mem 18 _ rfl inb_S28x256x256_S1x256x256_18_0_0 i h
    · exact sel_mem 19 _ rfl inb_S28x256x256_S1x256x256_19_0_0 i h
    · exact sel_mem 20 _ rfl inb_S28x256x256_S1x256x256_20_0_0 i h
    · exact sel_mem 21 _ rfl inb_S28x256x256_S1x256x256_21_0_0 i h
    · exact sel_mem 22 _ rfl inb_S28x256x256_S1x256x256_22_0_0 i h
    · exact sel_mem 23 _ rfl inb_S28x256x256_S1x256x256_23_0_0 i h
    · exact sel_mem 24 _ rfl inb_S28x256x256_S1x256x256_24_0_0 i h
    · exact sel_mem 25 _ rfl inb_S28x256x256_S1x256x256_25_0_0 i h
    · exact sel_mem 26 _ rfl inb_S28x256x256_S1x256x256_26_0_0 i h
    · exact sel_mem 27 _ rfl inb_S28x256x256_S1x256x256_27_0_0 i h
  exact key _ h0 rfl

/-- The selections read back after the first grid point's stores. -/
theorem sel_A (arg31 : Memref sig .tc .vmem S28x256x256 .bf16) (Y : BufTy.Contents (Elt Ideal) arg31.view.ty) :
    arg31.view.read (Elt Ideal) (arg31.view.writes (Elt Ideal) Y (runA.sl.HS2_28 (F := Ideal))) = selAll := by
  funext i
  exact View.read_writes_apply_of_pieces arg31.view Y selAll _ sel_pieces i (sel_cover i)

/-- The permutation read back after the first grid point's store. -/
theorem perm_A (arg29 : Memref sig .tc .vmem S256x256 .fp8e4m3) (Y : BufTy.Contents (Elt Ideal) arg29.view.ty) :
    IsPerm (arg29.view.read (Elt Ideal) (arg29.view.writes (Elt Ideal) Y (runA.sl.HS0_1 (F := Ideal)))) := by
  have e : arg29.view.read (Elt Ideal) (arg29.view.writes (Elt Ideal) Y (runA.sl.HS0_1 (F := Ideal))) = k0_pay8 (F := Ideal) := by
    funext i
    refine View.read_writes_apply_of_pieces arg29.view Y (k0_pay8 (F := Ideal)) _ ?_ i ⟨_, .head _, ?_⟩
    · refine List.forall_mem_cons.2 ⟨fun x => ?_, fun p hp => absurd hp List.not_mem_nil⟩
      refine congrArg (k0_pay8 (F := Ideal)) ?_
      refine (ix2_ext x (x 0) (x 1) rfl rfl).trans (ix2_ext _ _ _ ?_ ?_).symm
      · refine (ValueKit.rect_emb_unit_val (s := S256x256) _ _ inb_S256x256_S256x256_0_0 _ _).trans ?_
        show 0 + (x 0).val = (x 0).val; omega
      · refine (ValueKit.rect_emb_unit_val (s := S256x256) _ _ inb_S256x256_S256x256_0_0 _ _).trans ?_
        show 0 + (x 1).val = (x 1).val; omega
    · refine (Rect.mem_set_unit (inb := inb_S256x256_S256x256_0_0)).2 fun a => ?_
      have h0 : (i 0).val < 256 := (i 0).isLt
      have h1 : (i 1).val < 256 := (i 1).isLt
      match a with
      | ⟨0, _⟩ => show 0 ≤ (i 0).val ∧ (i 0).val < 0 + 256; omega
      | ⟨1, _⟩ => show 0 ≤ (i 1).val ∧ (i 1).val < 0 + 256; omega
  rw [e]
  exact isPerm_pay8

end Cert.KernelIdeal.Own

end
-- ==== Proof.ValueRun.lean ====
module

public import proofs.«01_k».proof.Proof.ValueLoop
public import proofs.«01_k».proof.Proof.ValueLimbs
public import proofs.«01_k».proof.Proof.ValueSel

@[expose] public section

set_option maxRecDepth 16384
set_option maxHeartbeats 4000000

/-! What a grid point leaves in the two result windows and in the scratch it carries, whichever case it is. -/

noncomputable section

namespace Cert.KernelIdeal.Own

open Cert.KernelIdeal Cert.KernelIdeal.Gen
open Idealize.ShloMosaic hiding ix1 ix2 ix3
open Idealize.ShloMosaic.ValueIdx

theorem trips_main : Scf.trips 0#32 (Scalar.addi 0#32 28#32) 1#32 = 28 := by decide +kernel

/-- The learning rate. -/
def lrOf (x7 : Vec Ideal S1 .f32) : EReal := x7 (ix1 (n := 1) 0)

theorem lr_load (arg8 : Memref sig .tc .smem S1 .f32) (harg8 : arg8.IsWhole) (x7 : Vec Ideal S1 .f32) (off : Fin 1 → ℕ)
    (inb : ∀ a, off a + S1.size a ≤ S1.size a) (z : S1.Idx) :
    View.readAt (Elt Ideal) arg8.view (Rect.unit (s := S1) off S1.size inb).toLoadRect (harg8.unread x7) z = lrOf x7 := by
  refine (congrFun (harg8.read_unread x7) _).trans ?_
  refine congrArg x7 ?_
  funext a
  match a with
  | ⟨0, _⟩ =>
    apply Fin.ext
    have := ((Rect.unit (s := S1) off S1.size inb).toLoadRect.idx z 0).isLt
    have h : ((Rect.unit (s := S1) off S1.size inb).toLoadRect.idx z 0).val < 1 := this
    show ((Rect.unit (s := S1) off S1.size inb).toLoadRect.idx z 0).val = 0
    omega

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)
  (x0 : Vec Ideal S4x128x3584 .i8) (x1 : Vec Ideal S4x128x56 .f32) (x2 : Vec Ideal S4 .f32) (x3 : Vec Ideal S128x7168 .f32) (x4 : Vec Ideal S128x7168 .bf16) (x5 : Vec Ideal S128x7168 .i8) (x6 : Vec Ideal S128x56 .f32) (x7 : Vec Ideal S1 .f32) (x8 : Vec Ideal S1x1x128 .i32) (x9 : Vec Ideal S128x7040 .f32) (x10 : Vec Ideal S128x7040 .bf16) (x11 : Vec Ideal S1x1x128 .i32) (y12 : Vec Ideal S128x7168 .f32) (y13 : Vec Ideal S128x7168 .f32) (y14 : Vec Ideal S128x7168 .i8) (y15 : Vec Ideal S128x56 .f32) (y16 : Vec Ideal S128x7168 .fp8e4m3) (y17 : Vec Ideal S1x1x56 .f32) (y18 : Vec Ideal S128x3520 .i8) (y19 : Vec Ideal S128x55 .f32) (y20 : Vec Ideal S1x1x128 .f32) (y21 : Vec Ideal S1x1x128 .f32) (y22 : Vec Ideal S1x1x128 .f32) (y23 : Vec Ideal S1x1x128 .f32) (y24 : Vec Ideal S11 .f32) (y25 : Vec Ideal S11 .f32) (y26 : Vec Ideal S11 .f32) (y27 : Vec Ideal S9 .f32) (s0 : Vec Ideal S256x256 .fp8e4m3) (s1 : Vec Ideal S256x128 .fp8e4m3) (s2 : Vec Ideal S28x256x256 .bf16) (s3 : Vec Ideal S640x128 .f32) (s4 : Vec Ideal S640x256 .bf16) (s5 : Vec Ideal S2x512x256 .f32) (s6 : Vec Ideal S2x640x256 .f32) (s7 : Vec Ideal S128x7168 .f32) (s8 : Vec Ideal S128x7040 .f32) (s9 : Vec Ideal S128x128 .f32) (s10 : Vec Ideal S128x128 .f32) (s11 : Vec Ideal S4x16x128 .f32) (s12 : Vec Ideal S128x128 .f32)

theorem runA_v12 (hc0 : cond0_0 i) (hc1 : ¬cond0_1 i) (hf : FinIn x1 x2 x6) :
    (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).1 = outG x0 (limbsG x1 x2 x6) x5 x3 (lrOf x7) := by
  unfold runA; dsimp only
  have hP : IsPerm (permLd arg29 (arg29.view.writes (Elt Ideal) arg29.view.junk (runA.sl.HS0_1 (F := Ideal)))) := by
    unfold permLd; rw [readAt_whole2 arg29.view _ ![0, 0] rfl inb_S256x256_S256x256_0_0]; exact perm_A arg29 _
  have hV := isSel_load arg31 (arg31.view.writes (Elt Ideal) arg31.view.junk (runA.sl.HS2_28 (F := Ideal))) (sel_A arg31 _)
  have hL : limbLd arg33 (arg33.view.writes (Elt Ideal) arg33.view.junk (runA.sl.HS4_10 (F := Ideal) c arg2 harg2 arg3 harg3 arg7 harg7 arg32 x1 x2 x6)) = limbsG x1 x2 x6 := by
    unfold limbLd; rw [readAt_whole2 arg33.view _ ![0, 0] rfl inb_S640x256_S640x256_0_0]; exact limbs_A c arg2 harg2 arg3 harg3 arg7 harg7 arg32 arg33 x1 x2 x6 hf _
  have hR : runA.sl.r_16 (F := Ideal) c arg8 harg8 x7 = lrOf x7 := lr_load arg8 harg8 x7 _ _ _
  funext y
  have hy : (y 1).val < 256 * Scf.trips 0#32 (Scalar.addi 0#32 28#32) 1#32 := by rw [trips_main]; exact (y 1).isLt
  have hST := st_out Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 (runA.sl.r_16 (F := Ideal) c arg8 harg8 x7) k0_pay394 k0_pay395 k0_pay396 k0_pay397 k0_pay398 k0_pay399 k0_pay400 k0_pay401 k0_pay402 k0_pay403 runA.sl.cst_697 (harg1.unread x0) (harg4.unread x3) (harg5.unread x4) (harg6.unread x5) _ _
    (arg33.view.writes (Elt Ideal) arg33.view.junk (runA.sl.HS4_10 (F := Ideal) c arg2 harg2 arg3 harg3 arg7 harg7 arg32 x1 x2 x6)) hP hV
    (k0_pay394, k0_pay395, k0_pay396, k0_pay397, k0_pay398, k0_pay399, k0_pay400, k0_pay401, k0_pay402, k0_pay403, k0_pay404 runA.sl.cst_697, k0_pay405) (Scf.trips 0#32 (Scalar.addi 0#32 28#32) 1#32) (le_of_eq trips_main)
  refine (View.read_writes_apply_of_pieces arg13.view _ _ _ hST.1 y (hST.2 y hy)).trans ?_
  rw [hL, hR, harg1.read_unread, harg6.read_unread, harg4.read_unread]

theorem runA_v13 (hc0 : cond0_0 i) (hc1 : ¬cond0_1 i) (hf : FinIn x1 x2 x6) :
    (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.1 = merG x0 (limbsG x1 x2 x6) x5 x3 x4 (lrOf x7) := by
  unfold runA; dsimp only
  have hP : IsPerm (permLd arg29 (arg29.view.writes (Elt Ideal) arg29.view.junk (runA.sl.HS0_1 (F := Ideal)))) := by
    unfold permLd; rw [readAt_whole2 arg29.view _ ![0, 0] rfl inb_S256x256_S256x256_0_0]; exact perm_A arg29 _
  have hV := isSel_load arg31 (arg31.view.writes (Elt Ideal) arg31.view.junk (runA.sl.HS2_28 (F := Ideal))) (sel_A arg31 _)
  have hL : limbLd arg33 (arg33.view.writes (Elt Ideal) arg33.view.junk (runA.sl.HS4_10 (F := Ideal) c arg2 harg2 arg3 harg3 arg7 harg7 arg32 x1 x2 x6)) = limbsG x1 x2 x6 := by
    unfold limbLd; rw [readAt_whole2 arg33.view _ ![0, 0] rfl inb_S640x256_S640x256_0_0]; exact limbs_A c arg2 harg2 arg3 harg3 arg7 harg7 arg32 arg33 x1 x2 x6 hf _
  have hR : runA.sl.r_16 (F := Ideal) c arg8 harg8 x7 = lrOf x7 := lr_load arg8 harg8 x7 _ _ _
  funext y
  have hy : (y 1).val < 256 * Scf.trips 0#32 (Scalar.addi 0#32 28#32) 1#32 := by rw [trips_main]; exact (y 1).isLt
  have hST := st_mer Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 (runA.sl.r_16 (F := Ideal) c arg8 harg8 x7) k0_pay394 k0_pay395 k0_pay396 k0_pay397 k0_pay398 k0_pay399 k0_pay400 k0_pay401 k0_pay402 k0_pay403 runA.sl.cst_697 (harg1.unread x0) (harg4.unread x3) (harg5.unread x4) (harg6.unread x5) _ _
    (arg33.view.writes (Elt Ideal) arg33.view.junk (runA.sl.HS4_10 (F := Ideal) c arg2 harg2 arg3 harg3 arg7 harg7 arg32 x1 x2 x6)) hP hV
    (k0_pay394, k0_pay395, k0_pay396, k0_pay397, k0_pay398, k0_pay399, k0_pay400, k0_pay401, k0_pay402, k0_pay403, k0_pay404 runA.sl.cst_697, k0_pay405) (Scf.trips 0#32 (Scalar.addi 0#32 28#32) 1#32) (le_of_eq trips_main)
  refine (View.read_writes_apply_of_pieces arg14.view _ _ _ hST.1 y (hST.2 y hy)).trans ?_
  rw [hL, hR, harg1.read_unread, harg6.read_unread, harg4.read_unread, harg5.read_unread]

theorem runB_v12 (hc0 : ¬cond0_0 i) (hc1 : ¬cond0_1 i) (hf : FinIn x1 x2 x6) (hp : IsPerm s0) (hsel : s2 = selAll) (hs : ∀ i : S640x128.Idx, 56 ≤ (i 1).val → s3 i = (0 : EReal)) :
    (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).1 = outG x0 (limbsG x1 x2 x6) x5 x3 (lrOf x7) := by
  unfold runB; dsimp only
  have hP : IsPerm (permLd arg29 (harg29.unread s0)) := by
    unfold permLd; rw [readAt_whole2 arg29.view _ ![0, 0] rfl inb_S256x256_S256x256_0_0, harg29.read_unread]; exact hp
  have hV := isSel_load arg31 (harg31.unread s2) ((harg31.read_unread s2).trans hsel)
  have hL : limbLd arg33 (arg33.view.writes (Elt Ideal) arg33.view.junk (runB.sl.HS4_10 (F := Ideal) c arg2 harg2 arg3 harg3 arg7 harg7 arg32 harg32 x1 x2 x6 s3)) = limbsG x1 x2 x6 := by
    unfold limbLd; rw [readAt_whole2 arg33.view _ ![0, 0] rfl inb_S640x256_S640x256_0_0]; exact limbs_B c arg2 harg2 arg3 harg3 arg7 harg7 arg32 harg32 arg33 x1 x2 x6 s3 hf hs _
  have hR : runB.sl.r_10 (F := Ideal) c arg8 harg8 x7 = lrOf x7 := lr_load arg8 harg8 x7 _ _ _
  funext y
  have hy : (y 1).val < 256 * Scf.trips 0#32 (Scalar.addi 0#32 28#32) 1#32 := by rw [trips_main]; exact (y 1).isLt
  have hST := st_out Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 (runB.sl.r_10 (F := Ideal) c arg8 harg8 x7) k0_pay394 k0_pay395 k0_pay396 k0_pay397 k0_pay398 k0_pay399 k0_pay400 k0_pay401 k0_pay402 k0_pay403 runB.sl.cst_74 (harg1.unread x0) (harg4.unread x3) (harg5.unread x4) (harg6.unread x5) _ _
    (arg33.view.writes (Elt Ideal) arg33.view.junk (runB.sl.HS4_10 (F := Ideal) c arg2 harg2 arg3 harg3 arg7 harg7 arg32 harg32 x1 x2 x6 s3)) hP hV
    (k0_pay394, k0_pay395, k0_pay396, k0_pay397, k0_pay398, k0_pay399, k0_pay400, k0_pay401, k0_pay402, k0_pay403, k0_pay404 runB.sl.cst_74, k0_pay405) (Scf.trips 0#32 (Scalar.addi 0#32 28#32) 1#32) (le_of_eq trips_main)
  refine (View.read_writes_apply_of_pieces arg13.view _ _ _ hST.1 y (hST.2 y hy)).trans ?_
  rw [hL, hR, harg1.read_unread, harg6.read_unread, harg4.read_unread]

theorem runB_v13 (hc0 : ¬cond0_0 i) (hc1 : ¬cond0_1 i) (hf : FinIn x1 x2 x6) (hp : IsPerm s0) (hsel : s2 = selAll) (hs : ∀ i : S640x128.Idx, 56 ≤ (i 1).val → s3 i = (0 : EReal)) :
    (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.1 = merG x0 (limbsG x1 x2 x6) x5 x3 x4 (lrOf x7) := by
  unfold runB; dsimp only
  have hP : IsPerm (permLd arg29 (harg29.unread s0)) := by
    unfold permLd; rw [readAt_whole2 arg29.view _ ![0, 0] rfl inb_S256x256_S256x256_0_0, harg29.read_unread]; exact hp
  have hV := isSel_load arg31 (harg31.unread s2) ((harg31.read_unread s2).trans hsel)
  have hL : limbLd arg33 (arg33.view.writes (Elt Ideal) arg33.view.junk (runB.sl.HS4_10 (F := Ideal) c arg2 harg2 arg3 harg3 arg7 harg7 arg32 harg32 x1 x2 x6 s3)) = limbsG x1 x2 x6 := by
    unfold limbLd; rw [readAt_whole2 arg33.view _ ![0, 0] rfl inb_S640x256_S640x256_0_0]; exact limbs_B c arg2 harg2 arg3 harg3 arg7 harg7 arg32 harg32 arg33 x1 x2 x6 s3 hf hs _
  have hR : runB.sl.r_10 (F := Ideal) c arg8 harg8 x7 = lrOf x7 := lr_load arg8 harg8 x7 _ _ _
  funext y
  have hy : (y 1).val < 256 * Scf.trips 0#32 (Scalar.addi 0#32 28#32) 1#32 := by rw [trips_main]; exact (y 1).isLt
  have hST := st_mer Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 (runB.sl.r_10 (F := Ideal) c arg8 harg8 x7) k0_pay394 k0_pay395 k0_pay396 k0_pay397 k0_pay398 k0_pay399 k0_pay400 k0_pay401 k0_pay402 k0_pay403 runB.sl.cst_74 (harg1.unread x0) (harg4.unread x3) (harg5.unread x4) (harg6.unread x5) _ _
    (arg33.view.writes (Elt Ideal) arg33.view.junk (runB.sl.HS4_10 (F := Ideal) c arg2 harg2 arg3 harg3 arg7 harg7 arg32 harg32 x1 x2 x6 s3)) hP hV
    (k0_pay394, k0_pay395, k0_pay396, k0_pay397, k0_pay398, k0_pay399, k0_pay400, k0_pay401, k0_pay402, k0_pay403, k0_pay404 runB.sl.cst_74, k0_pay405) (Scf.trips 0#32 (Scalar.addi 0#32 28#32) 1#32) (le_of_eq trips_main)
  refine (View.read_writes_apply_of_pieces arg14.view _ _ _ hST.1 y (hST.2 y hy)).trans ?_
  rw [hL, hR, harg1.read_unread, harg6.read_unread, harg4.read_unread, harg5.read_unread]

theorem runC_v12 (hc0 : ¬cond0_0 i) (hc1 : cond0_1 i) (hf : FinIn x1 x2 x6) (hp : IsPerm s0) (hsel : s2 = selAll) (hs : ∀ i : S640x128.Idx, 56 ≤ (i 1).val → s3 i = (0 : EReal)) :
    (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).1 = outG x0 (limbsG x1 x2 x6) x5 x3 (lrOf x7) := by
  unfold runC; dsimp only
  have hP : IsPerm (permLd arg29 (harg29.unread s0)) := by
    unfold permLd; rw [readAt_whole2 arg29.view _ ![0, 0] rfl inb_S256x256_S256x256_0_0, harg29.read_unread]; exact hp
  have hV := isSel_load arg31 (harg31.unread s2) ((harg31.read_unread s2).trans hsel)
  have hL : limbLd arg33 (arg33.view.writes (Elt Ideal) arg33.view.junk (runC.sl.HS4_10 (F := Ideal) c arg2 harg2 arg3 harg3 arg7 harg7 arg32 harg32 x1 x2 x6 s3)) = limbsG x1 x2 x6 := by
    unfold limbLd; rw [readAt_whole2 arg33.view _ ![0, 0] rfl inb_S640x256_S640x256_0_0]; exact limbs_C c arg2 harg2 arg3 harg3 arg7 harg7 arg32 harg32 arg33 x1 x2 x6 s3 hf hs _
  have hR : runC.sl.r_10 (F := Ideal) c arg8 harg8 x7 = lrOf x7 := lr_load arg8 harg8 x7 _ _ _
  funext y
  have hy : (y 1).val < 256 * Scf.trips 0#32 (Scalar.addi 0#32 28#32) 1#32 := by rw [trips_main]; exact (y 1).isLt
  have hST := st_out Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 (runC.sl.r_10 (F := Ideal) c arg8 harg8 x7) k0_pay394 k0_pay395 k0_pay396 k0_pay397 k0_pay398 k0_pay399 k0_pay400 k0_pay401 k0_pay402 k0_pay403 runC.sl.cst_74 (harg1.unread x0) (harg4.unread x3) (harg5.unread x4) (harg6.unread x5) _ _
    (arg33.view.writes (Elt Ideal) arg33.view.junk (runC.sl.HS4_10 (F := Ideal) c arg2 harg2 arg3 harg3 arg7 harg7 arg32 harg32 x1 x2 x6 s3)) hP hV
    (k0_pay394, k0_pay395, k0_pay396, k0_pay397, k0_pay398, k0_pay399, k0_pay400, k0_pay401, k0_pay402, k0_pay403, k0_pay404 runC.sl.cst_74, k0_pay405) (Scf.trips 0#32 (Scalar.addi 0#32 28#32) 1#32) (le_of_eq trips_main)
  refine (View.read_writes_apply_of_pieces arg13.view _ _ _ hST.1 y (hST.2 y hy)).trans ?_
  rw [hL, hR, harg1.read_unread, harg6.read_unread, harg4.read_unread]

theorem runC_v13 (hc0 : ¬cond0_0 i) (hc1 : cond0_1 i) (hf : FinIn x1 x2 x6) (hp : IsPerm s0) (hsel : s2 = selAll) (hs : ∀ i : S640x128.Idx, 56 ≤ (i 1).val → s3 i = (0 : EReal)) :
    (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.1 = merG x0 (limbsG x1 x2 x6) x5 x3 x4 (lrOf x7) := by
  unfold runC; dsimp only
  have hP : IsPerm (permLd arg29 (harg29.unread s0)) := by
    unfold permLd; rw [readAt_whole2 arg29.view _ ![0, 0] rfl inb_S256x256_S256x256_0_0, harg29.read_unread]; exact hp
  have hV := isSel_load arg31 (harg31.unread s2) ((harg31.read_unread s2).trans hsel)
  have hL : limbLd arg33 (arg33.view.writes (Elt Ideal) arg33.view.junk (runC.sl.HS4_10 (F := Ideal) c arg2 harg2 arg3 harg3 arg7 harg7 arg32 harg32 x1 x2 x6 s3)) = limbsG x1 x2 x6 := by
    unfold limbLd; rw [readAt_whole2 arg33.view _ ![0, 0] rfl inb_S640x256_S640x256_0_0]; exact limbs_C c arg2 harg2 arg3 harg3 arg7 harg7 arg32 harg32 arg33 x1 x2 x6 s3 hf hs _
  have hR : runC.sl.r_10 (F := Ideal) c arg8 harg8 x7 = lrOf x7 := lr_load arg8 harg8 x7 _ _ _
  funext y
  have hy : (y 1).val < 256 * Scf.trips 0#32 (Scalar.addi 0#32 28#32) 1#32 := by rw [trips_main]; exact (y 1).isLt
  have hST := st_mer Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 (runC.sl.r_10 (F := Ideal) c arg8 harg8 x7) k0_pay394 k0_pay395 k0_pay396 k0_pay397 k0_pay398 k0_pay399 k0_pay400 k0_pay401 k0_pay402 k0_pay403 runC.sl.cst_74 (harg1.unread x0) (harg4.unread x3) (harg5.unread x4) (harg6.unread x5) _ _
    (arg33.view.writes (Elt Ideal) arg33.view.junk (runC.sl.HS4_10 (F := Ideal) c arg2 harg2 arg3 harg3 arg7 harg7 arg32 harg32 x1 x2 x6 s3)) hP hV
    (k0_pay394, k0_pay395, k0_pay396, k0_pay397, k0_pay398, k0_pay399, k0_pay400, k0_pay401, k0_pay402, k0_pay403, k0_pay404 runC.sl.cst_74, k0_pay405) (Scf.trips 0#32 (Scalar.addi 0#32 28#32) 1#32) (le_of_eq trips_main)
  refine (View.read_writes_apply_of_pieces arg14.view _ _ _ hST.1 y (hST.2 y hy)).trans ?_
  rw [hL, hR, harg1.read_unread, harg6.read_unread, harg4.read_unread, harg5.read_unread]

end Cert.KernelIdeal.Own

end
-- ==== Proof.ValueCarry.lean ====
module

public import proofs.«01_k».proof.Proof.ValueRun

@[expose] public section

set_option maxRecDepth 16384
set_option maxHeartbeats 4000000

/-! What a grid point leaves in the scratch it carries: the permutation, the selections and the zero lanes of the columns. -/

noncomputable section

namespace Cert.KernelIdeal.Own

open Cert.KernelIdeal Cert.KernelIdeal.Gen
open Idealize.ShloMosaic hiding ix1 ix2 ix3
open Idealize.ShloMosaic.ValueIdx

variable (c : Dev nD) (i : grid0.Coords) (arg1 : Memref sig .tc .vmem S4x128x3584 .i8) (harg1 : arg1.IsWhole) (arg2 : Memref sig .tc .vmem S4x128x56 .f32) (harg2 : arg2.IsWhole) (arg3 : Memref sig .tc .smem S4 .f32) (harg3 : arg3.IsWhole) (arg4 : Memref sig .tc .vmem S128x7168 .f32) (harg4 : arg4.IsWhole) (arg5 : Memref sig .tc .vmem S128x7168 .bf16) (harg5 : arg5.IsWhole) (arg6 : Memref sig .tc .vmem S128x7168 .i8) (harg6 : arg6.IsWhole) (arg7 : Memref sig .tc .vmem S128x56 .f32) (harg7 : arg7.IsWhole) (arg8 : Memref sig .tc .smem S1 .f32) (harg8 : arg8.IsWhole) (arg9 : Memref sig .tc .vmem S1x1x128 .i32) (harg9 : arg9.IsWhole) (arg10 : Memref sig .tc .vmem S128x7040 .f32) (harg10 : arg10.IsWhole) (arg11 : Memref sig .tc .vmem S128x7040 .bf16) (harg11 : arg11.IsWhole) (arg12 : Memref sig .tc .vmem S1x1x128 .i32) (harg12 : arg12.IsWhole) (arg13 : Memref sig .tc .vmem S128x7168 .f32) (harg13 : arg13.IsWhole) (arg14 : Memref sig .tc .vmem S128x7168 .f32) (harg14 : arg14.IsWhole) (arg15 : Memref sig .tc .vmem S128x7168 .i8) (harg15 : arg15.IsWhole) (arg16 : Memref sig .tc .vmem S128x56 .f32) (harg16 : arg16.IsWhole) (arg17 : Memref sig .tc .vmem S128x7168 .fp8e4m3) (harg17 : arg17.IsWhole) (arg18 : Memref sig .tc .vmem S1x1x56 .f32) (harg18 : arg18.IsWhole) (arg19 : Memref sig .tc .vmem S128x3520 .i8) (harg19 : arg19.IsWhole) (arg20 : Memref sig .tc .vmem S128x55 .f32) (harg20 : arg20.IsWhole) (arg21 : Memref sig .tc .vmem S1x1x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .smem S11 .f32) (harg25 : arg25.IsWhole) (arg26 : Memref sig .tc .smem S11 .f32) (harg26 : arg26.IsWhole) (arg27 : Memref sig .tc .smem S11 .f32) (harg27 : arg27.IsWhole) (arg28 : Memref sig .tc .smem S9 .f32) (harg28 : arg28.IsWhole) (arg29 : Memref sig .tc .vmem S256x256 .fp8e4m3) (harg29 : arg29.IsWhole) (arg30 : Memref sig .tc .vmem S256x128 .fp8e4m3) (harg30 : arg30.IsWhole) (arg31 : Memref sig .tc .vmem S28x256x256 .bf16) (harg31 : arg31.IsWhole) (arg32 : Memref sig .tc .vmem S640x128 .f32) (harg32 : arg32.IsWhole) (arg33 : Memref sig .tc .vmem S640x256 .bf16) (harg33 : arg33.IsWhole) (arg34 : Memref sig .tc .vmem S2x512x256 .f32) (harg34 : arg34.IsWhole) (arg35 : Memref sig .tc .vmem S2x640x256 .f32) (harg35 : arg35.IsWhole) (arg36 : Memref sig .tc .vmem S128x7168 .f32) (harg36 : arg36.IsWhole) (arg37 : Memref sig .tc .vmem S128x7040 .f32) (harg37 : arg37.IsWhole) (arg38 : Memref sig .tc .vmem S128x128 .f32) (harg38 : arg38.IsWhole) (arg39 : Memref sig .tc .vmem S128x128 .f32) (harg39 : arg39.IsWhole) (arg40 : Memref sig .tc .vmem S4x16x128 .f32) (harg40 : arg40.IsWhole) (arg41 : Memref sig .tc .vmem S128x128 .f32) (harg41 : arg41.IsWhole)
  (x0 : Vec Ideal S4x128x3584 .i8) (x1 : Vec Ideal S4x128x56 .f32) (x2 : Vec Ideal S4 .f32) (x3 : Vec Ideal S128x7168 .f32) (x4 : Vec Ideal S128x7168 .bf16) (x5 : Vec Ideal S128x7168 .i8) (x6 : Vec Ideal S128x56 .f32) (x7 : Vec Ideal S1 .f32) (x8 : Vec Ideal S1x1x128 .i32) (x9 : Vec Ideal S128x7040 .f32) (x10 : Vec Ideal S128x7040 .bf16) (x11 : Vec Ideal S1x1x128 .i32) (y12 : Vec Ideal S128x7168 .f32) (y13 : Vec Ideal S128x7168 .f32) (y14 : Vec Ideal S128x7168 .i8) (y15 : Vec Ideal S128x56 .f32) (y16 : Vec Ideal S128x7168 .fp8e4m3) (y17 : Vec Ideal S1x1x56 .f32) (y18 : Vec Ideal S128x3520 .i8) (y19 : Vec Ideal S128x55 .f32) (y20 : Vec Ideal S1x1x128 .f32) (y21 : Vec Ideal S1x1x128 .f32) (y22 : Vec Ideal S1x1x128 .f32) (y23 : Vec Ideal S1x1x128 .f32) (y24 : Vec Ideal S11 .f32) (y25 : Vec Ideal S11 .f32) (y26 : Vec Ideal S11 .f32) (y27 : Vec Ideal S9 .f32) (s0 : Vec Ideal S256x256 .fp8e4m3) (s1 : Vec Ideal S256x128 .fp8e4m3) (s2 : Vec Ideal S28x256x256 .bf16) (s3 : Vec Ideal S640x128 .f32) (s4 : Vec Ideal S640x256 .bf16) (s5 : Vec Ideal S2x512x256 .f32) (s6 : Vec Ideal S2x640x256 .f32) (s7 : Vec Ideal S128x7168 .f32) (s8 : Vec Ideal S128x7040 .f32) (s9 : Vec Ideal S128x128 .f32) (s10 : Vec Ideal S128x128 .f32) (s11 : Vec Ideal S4x16x128 .f32) (s12 : Vec Ideal S128x128 .f32)

theorem runA_r0 (hc0 : cond0_0 i) (hc1 : ¬cond0_1 i) : IsPerm (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.1 := by
  unfold runA; dsimp only
  exact perm_A arg29 _

theorem runA_r2 (hc0 : cond0_0 i) (hc1 : ¬cond0_1 i) : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.2.2.1 = selAll := by
  unfold runA; dsimp only
  exact sel_A arg31 _

theorem runA_r3 (hc0 : cond0_0 i) (hc1 : ¬cond0_1 i) : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.2.2.2.1 = colsG x1 x2 x6 := by
  unfold runA; dsimp only
  exact cols_A c arg2 harg2 arg3 harg3 arg7 harg7 arg32 x1 x2 x6 _

theorem runB_r0 (hc0 : ¬cond0_0 i) (hc1 : ¬cond0_1 i) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.1 = s0 := by
  unfold runB; dsimp only
  exact harg29.read_unread s0

theorem runB_r2 (hc0 : ¬cond0_0 i) (hc1 : ¬cond0_1 i) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.2.2.1 = s2 := by
  unfold runB; dsimp only
  exact harg31.read_unread s2

theorem runB_r3 (hc0 : ¬cond0_0 i) (hc1 : ¬cond0_1 i) (hs : ∀ i : S640x128.Idx, 56 ≤ (i 1).val → s3 i = (0 : EReal)) : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.2.2.2.1 = colsG x1 x2 x6 := by
  unfold runB; dsimp only
  exact cols_B c arg2 harg2 arg3 harg3 arg7 harg7 arg32 harg32 x1 x2 x6 s3 hs

theorem runC_r0 (hc0 : ¬cond0_0 i) (hc1 : cond0_1 i) : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.1 = s0 := by
  unfold runC; dsimp only
  exact harg29.read_unread s0

theorem runC_r2 (hc0 : ¬cond0_0 i) (hc1 : cond0_1 i) : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.2.2.1 = s2 := by
  unfold runC; dsimp only
  exact harg31.read_unread s2

theorem runC_r3 (hc0 : ¬cond0_0 i) (hc1 : cond0_1 i) (hs : ∀ i : S640x128.Idx, 56 ≤ (i 1).val → s3 i = (0 : EReal)) : (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 y12 y13 y14 y15 y16 y17 y18 y19 y20 y21 y22 y23 y24 y25 y26 y27 s0 s1 s2 s3 s4 s5 s6 s7 s8 s9 s10 s11 s12).2.2.2.2.2.2.2.2.2.2.2.2.2.2.2.1 = colsG x1 x2 x6 := by
  unfold runC; dsimp only
  exact cols_C c arg2 harg2 arg3 harg3 arg7 harg7 arg32 harg32 x1 x2 x6 s3 hs

end Cert.KernelIdeal.Own

end
-- ==== Proof.ValueStep.lean ====
module

public import proofs.«01_k».proof.Proof.ValueCarry
public import proofs.«01_k».proof.Proof.StepKernelIdeal

@[expose] public section

set_option maxRecDepth 16384
set_option maxHeartbeats 4000000

/-! What every grid point leaves in the outer and the merged window, whatever it finds that the points before can leave. -/

noncomputable section

namespace Cert.KernelIdeal.Own

open Cert.KernelIdeal Cert.KernelIdeal.Gen
open Idealize.ShloMosaic hiding ix1 ix2 ix3
open Idealize.ShloMosaic.TcCoe Idealize.ShloMosaic.ValueIdx

variable (m : (ℓ : Loc nD τ sig) → Buf (Elt Ideal) ℓ)

/-- What the carried scratch holds after any grid point: the permutation, the selections, and zero lanes past the blocks. -/
structure Inv (s : Scr Ideal) : Prop where
  perm : IsPerm s.s0
  sel : s.s2 = selAll
  zero : ∀ i : S640x128.Idx, 56 ≤ (i 1).val → s.s3 i = (0 : EReal)

/-- The blocks' scales, weights and momentum scales are finite at every point. -/
def Fins (c : Dev nD) : Prop := ∀ t : Fin cfg0.N, FinIn (iblk m c 1 t) (iblk m c 2 t) (iblk m c 6 t)

theorem first (t : Fin cfg0.N) (h : t.val = 0) : t.val % 66 = 0 ∧ ¬t.val % 66 = 65 := by rw [h]; decide

theorem later (t : Fin cfg0.N) (h : t.val ≠ 0) : ¬t.val % 66 = 0 := by
  have : t.val < 66 := t.isLt
  omega

theorem stepA_inv (c : Dev nD) (t : Fin cfg0.N) (h0 : t.val % 66 = 0) (h1 : ¬t.val % 66 = 65) (y : Outs Ideal) (s : Scr Ideal) :
    IsPerm (resA m c t h0 h1 y s).r0 ∧ (resA m c t h0 h1 y s).r2 = selAll
      ∧ (resA m c t h0 h1 y s).r3 = colsG (iblk m c 1 t) (iblk m c 2 t) (iblk m c 6 t) := by
  refine ⟨?_, ?_, ?_⟩
  · unfold resA resOf; dsimp only
    apply runA_r0
  · unfold resA resOf; dsimp only
    apply runA_r2
  · unfold resA resOf; dsimp only
    apply runA_r3

theorem stepB_inv (c : Dev nD) (t : Fin cfg0.N) (h0 : ¬t.val % 66 = 0) (h1 : ¬t.val % 66 = 65) (y : Outs Ideal) (s : Scr Ideal)
    (hs : Inv s) :
    (resB m c t h0 h1 y s).r0 = s.s0 ∧ (resB m c t h0 h1 y s).r2 = s.s2
      ∧ (resB m c t h0 h1 y s).r3 = colsG (iblk m c 1 t) (iblk m c 2 t) (iblk m c 6 t) := by
  refine ⟨?_, ?_, ?_⟩
  · unfold resB resOf; dsimp only
    apply runB_r0
  · unfold resB resOf; dsimp only
    apply runB_r2
  · unfold resB resOf; dsimp only
    apply runB_r3
    exact hs.zero

theorem stepC_inv (c : Dev nD) (t : Fin cfg0.N) (h0 : ¬t.val % 66 = 0) (h1 : t.val % 66 = 65) (y : Outs Ideal) (s : Scr Ideal)
    (hs : Inv s) :
    (resC m c t h0 h1 y s).r0 = s.s0 ∧ (resC m c t h0 h1 y s).r2 = s.s2
      ∧ (resC m c t h0 h1 y s).r3 = colsG (iblk m c 1 t) (iblk m c 2 t) (iblk m c 6 t) := by
  refine ⟨?_, ?_, ?_⟩
  · unfold resC resOf; dsimp only
    apply runC_r0
  · unfold resC resOf; dsimp only
    apply runC_r2
  · unfold resC resOf; dsimp only
    apply runC_r3
    exact hs.zero

/-- One point keeps the invariant, and the first establishes it. -/
theorem step_inv (c : Dev nD) (t : Fin cfg0.N) (y : Outs Ideal) (s : Scr Ideal) (hs : t.val ≠ 0 → Inv s) :
    IsPerm (step m c t y s).r0 ∧ (step m c t y s).r2 = selAll
      ∧ (step m c t y s).r3 = colsG (iblk m c 1 t) (iblk m c 2 t) (iblk m c 6 t) := by
  by_cases h : t.val = 0
  · rw [step_A m c t (first t h).1 (first t h).2]
    exact stepA_inv m c t _ _ y s
  · by_cases h1 : t.val % 66 = 65
    · rw [step_C m c t (later t h) h1]
      obtain ⟨a, b, d⟩ := stepC_inv m c t (later t h) h1 y s (hs h)
      exact ⟨by rw [a]; exact (hs h).perm, by rw [b]; exact (hs h).sel, d⟩
    · rw [step_B m c t (later t h) h1]
      obtain ⟨a, b, d⟩ := stepB_inv m c t (later t h) h1 y s (hs h)
      exact ⟨by rw [a]; exact (hs h).perm, by rw [b]; exact (hs h).sel, d⟩

/-- After any point the carried scratch is as the invariant says. -/
theorem reach_inv (c : Dev nD) : ∀ (n : ℕ) (h : n ≤ cfg0.N) (s : Scr Ideal), Reach m c n h s → n ≠ 0 → Inv s
  | 0, _, _, _, h => absurd rfl h
  | n + 1, h, s, hr, _ => by
    obtain ⟨y, s', hr', e0, _, e2, e3, _⟩ := hr
    obtain ⟨a, b, d⟩ := step_inv m c ⟨n, h⟩ y s' (fun hn => reach_inv c n _ s' hr' hn)
    exact ⟨by rw [e0]; exact a, by rw [e2]; exact b, fun i hi => by rw [e3, d]; exact cols_zero _ _ _ i hi⟩

/-- What the outer window holds after point `t`. -/
abbrev outT (c : Dev nD) (t : Fin cfg0.N) : S128x7168.Idx → EReal :=
  outG (iblk m c 0 t) (limbsG (iblk m c 1 t) (iblk m c 2 t) (iblk m c 6 t)) (iblk m c 5 t) (iblk m c 3 t) (lrOf (iblk m c 7 t))

/-- What the merged window holds after point `t`. -/
abbrev merT (c : Dev nD) (t : Fin cfg0.N) : S128x7168.Idx → EReal :=
  merG (iblk m c 0 t) (limbsG (iblk m c 1 t) (iblk m c 2 t) (iblk m c 6 t)) (iblk m c 5 t) (iblk m c 3 t) (iblk m c 4 t) (lrOf (iblk m c 7 t))

theorem stepA_val (c : Dev nD) (t : Fin cfg0.N) (h0 : t.val % 66 = 0) (h1 : ¬t.val % 66 = 65) (y : Outs Ideal) (s : Scr Ideal)
    (hf : Fins m c) : (resA m c t h0 h1 y s).v12 = outT m c t ∧ (resA m c t h0 h1 y s).v13 = merT m c t := by
  refine ⟨?_, ?_⟩
  · unfold resA resOf; dsimp only
    apply runA_v12
    exact hf t
  · unfold resA resOf; dsimp only
    apply runA_v13
    exact hf t

theorem stepB_val (c : Dev nD) (t : Fin cfg0.N) (h0 : ¬t.val % 66 = 0) (h1 : ¬t.val % 66 = 65) (y : Outs Ideal) (s : Scr Ideal)
    (hs : Inv s) (hf : Fins m c) : (resB m c t h0 h1 y s).v12 = outT m c t ∧ (resB m c t h0 h1 y s).v13 = merT m c t := by
  refine ⟨?_, ?_⟩
  · unfold resB resOf; dsimp only
    apply runB_v12
    exacts [hf t, hs.perm, hs.sel, hs.zero]
  · unfold resB resOf; dsimp only
    apply runB_v13
    exacts [hf t, hs.perm, hs.sel, hs.zero]

theorem stepC_val (c : Dev nD) (t : Fin cfg0.N) (h0 : ¬t.val % 66 = 0) (h1 : t.val % 66 = 65) (y : Outs Ideal) (s : Scr Ideal)
    (hs : Inv s) (hf : Fins m c) : (resC m c t h0 h1 y s).v12 = outT m c t ∧ (resC m c t h0 h1 y s).v13 = merT m c t := by
  refine ⟨?_, ?_⟩
  · unfold resC resOf; dsimp only
    apply runC_v12
    exacts [hf t, hs.perm, hs.sel, hs.zero]
  · unfold resC resOf; dsimp only
    apply runC_v13
    exacts [hf t, hs.perm, hs.sel, hs.zero]

theorem step_val (c : Dev nD) (t : Fin cfg0.N) (y : Outs Ideal) (s : Scr Ideal) (hs : t.val ≠ 0 → Inv s) (hf : Fins m c) :
    (step m c t y s).v12 = outT m c t ∧ (step m c t y s).v13 = merT m c t := by
  by_cases h : t.val = 0
  · rw [step_A m c t (first t h).1 (first t h).2]
    exact stepA_val m c t _ _ y s hf
  · by_cases h1 : t.val % 66 = 65
    · rw [step_C m c t (later t h) h1]
      exact stepC_val m c t (later t h) h1 y s (hs h) hf
    · rw [step_B m c t (later t h) h1]
      exact stepB_val m c t (later t h) h1 y s (hs h) hf

theorem leaves12 (c : Dev nD) (t : Fin cfg0.N) (X : Vec Ideal S128x7168 .f32) (hf : Fins m c) (h : Leaves12 m c t X) :
    X = outT m c t := by
  obtain ⟨y, s, hr, e⟩ := h
  exact e.trans (step_val m c t y s (reach_inv m c _ _ s hr) hf).1

theorem leaves13 (c : Dev nD) (t : Fin cfg0.N) (X : Vec Ideal S128x7168 .f32) (hf : Fins m c) (h : Leaves13 m c t X) :
    X = merT m c t := by
  obtain ⟨y, s, hr, e⟩ := h
  exact e.trans (step_val m c t y s (reach_inv m c _ _ s hr) hf).2

end Cert.KernelIdeal.Own

end
-- ==== Proof.ValueMatch.lean ====
module

public import proofs.«01_k».proof.Proof.ValueRun
public import proofs.«01_k».proof.Proof.Reference
public import proofs.«01_k».proof.Pre_finite

@[expose] public section

set_option maxRecDepth 16384
set_option maxHeartbeats 4000000

/-! The windows of one grid point, element by element, are the reference's results at the rows of that point. -/

noncomputable section

namespace Cert.KernelIdeal.Own

open Cert.KernelIdeal Cert.KernelIdeal.Gen
open Idealize.ShloMosaic hiding ix1 ix2 ix3
open Idealize.ShloMosaic.ValueIdx

/-- A value whose magnitude is below infinity is neither infinity. -/
theorem fin_of_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine ⟨fun e => ?_, fun e => ?_⟩
  · rw [e] at h'; simp [Ideal.cmp] at h'
  · rw [e] at h'; simp [Ideal.cmp] at h'

/-- The precondition's operations have their side conditions. -/
theorem preFacts : Cert.Pre_finite.Facts where
  bcast_S_S4x8448x56 := by decide
  bcast_S_S4 := by decide
  bcast_S_S8448x56 := by decide

variable (gs : Vec Ideal S4x128x56 .f32) (ww : Vec Ideal S4 .f32) (ms : Vec Ideal S128x56 .f32)

/-- The three parts of a scale added are the column. -/
theorem Sin_cols (R b : ℕ) (hR : R < 640) (hb : b < 56) :
    Sin (limbsG gs ww ms) R b = colsG gs ww ms (ix2 (n0 := 640) (n1 := 128) ⟨R, hR⟩ ⟨b, by omega⟩) := by
  have e1 : limbsG gs ww ms (ix2 (n0 := 640) (n1 := 256) ⟨R % 640, by omega⟩ ⟨b % 256, by omega⟩)
      = colsG gs ww ms (ix2 (n0 := 640) (n1 := 128) ⟨R, hR⟩ ⟨b, by omega⟩) :=
    limbsG_hi gs ww ms _ _ (Nat.mod_eq_of_lt hR).symm (show b = b % 256 by omega)
  have e2 : limbsG gs ww ms (ix2 (n0 := 640) (n1 := 256) ⟨R % 640, by omega⟩ ⟨(b + 64) % 256, by omega⟩) = 0 := by
    rw [limbsG_hi gs ww ms _ (ix2 (n0 := 640) (n1 := 128) ⟨R, hR⟩ ⟨b + 64, by omega⟩) (Nat.mod_eq_of_lt hR).symm
      (show b + 64 = (b + 64) % 256 by omega)]
    exact cols_zero gs ww ms _ (show 56 ≤ b + 64 by omega)
  have e3 : limbsG gs ww ms (ix2 (n0 := 640) (n1 := 256) ⟨R % 640, by omega⟩ ⟨(b + 128) % 256, by omega⟩) = 0 :=
    limbsG_lo gs ww ms _ (show 128 ≤ (b + 128) % 256 by omega)
  unfold Sin
  rw [e1, e2, e3, add_zero, add_zero]

/-- A worker's scale with its weight. -/
theorem Sin_worker (w : Fin 4) (r : Fin 128) (R b : ℕ) (hR : R = 128 * w.val + r.val) (hb : b < 56) :
    Sin (limbsG gs ww ms) R b = gs (ix3 (n0 := 4) (n1 := 128) (n2 := 56) w r ⟨b, hb⟩) * ww (ix1 (n := 4) w) := by
  rw [Sin_cols gs ww ms R b (by omega) hb]
  unfold colsG
  have e0 : R / 128 = w.val := by omega
  have e1 : R % 128 = r.val := by omega
  rw [dif_pos (show b < 56 from hb), dif_pos (show R < 512 by omega)]
  have e2 : (ix3 (n0 := 4) (n1 := 128) (n2 := 56) ⟨R / 128, by omega⟩ ⟨R % 128, by omega⟩ ⟨b, hb⟩) = ix3 (n0 := 4) (n1 := 128) (n2 := 56) w r ⟨b, hb⟩ :=
    ix3_ext _ _ _ _ e0 e1 rfl
  have e3 : (ix1 (n := 4) ⟨R / 128, by omega⟩) = ix1 (n := 4) w := congrArg (ix1 (n := 4)) (Fin.ext e0)
  exact congrArg₂ (fun a b : EReal => a * b) (congrArg gs e2) (congrArg ww e3)

/-- The momentum's scale. -/
theorem Sin_mom (r : Fin 128) (b : ℕ) (hb : b < 56) :
    Sin (limbsG gs ww ms) (512 + r.val) b = ms (ix2 (n0 := 128) (n1 := 56) r ⟨b, hb⟩) := by
  rw [Sin_cols gs ww ms _ b (by omega) hb]
  unfold colsG
  rw [dif_pos (show b < 56 from hb), dif_neg (show ¬512 + r.val < 512 by omega)]
  exact congrArg ms (ix2_ext _ _ _ (show 512 + r.val - 512 = r.val by omega) rfl)

section Point

variable (t : ℕ) (ht : t < 66)
  (x0 : Vec Ideal S4x128x3584 .i8) (x1 : Vec Ideal S4x128x56 .f32) (x2 : Vec Ideal S4 .f32) (x3 : Vec Ideal S128x7168 .f32)
  (x4 : Vec Ideal S128x7168 .bf16) (x5 : Vec Ideal S128x7168 .i8) (x6 : Vec Ideal S128x56 .f32) (x7 : Vec Ideal S1 .f32)
  (A0 : Vec Ideal S4x8448x3584 .i8) (A1 : Vec Ideal S4x8448x56 .f32) (A2 : Vec Ideal S4 .f32) (A3 : Vec Ideal S8448x7168 .f32)
  (A4 : Vec Ideal S8448x7168 .bf16) (A5 : Vec Ideal S8448x7168 .i8) (A6 : Vec Ideal S8448x56 .f32) (A7 : Vec Ideal S1 .f32)
  (h0 : ∀ (y : S4x128x3584.Idx) (i : S4x8448x3584.Idx), (i 0).val = (y 0).val → (i 1).val = 128 * t + (y 1).val → (i 2).val = (y 2).val → x0 y = A0 i)
  (h1 : ∀ (y : S4x128x56.Idx) (i : S4x8448x56.Idx), (i 0).val = (y 0).val → (i 1).val = 128 * t + (y 1).val → (i 2).val = (y 2).val → x1 y = A1 i)
  (h2 : x2 = A2)
  (h3 : ∀ (y : S128x7168.Idx) (i : S8448x7168.Idx), (i 0).val = 128 * t + (y 0).val → (i 1).val = (y 1).val → x3 y = A3 i)
  (h4 : ∀ (y : S128x7168.Idx) (i : S8448x7168.Idx), (i 0).val = 128 * t + (y 0).val → (i 1).val = (y 1).val → x4 y = A4 i)
  (h5 : ∀ (y : S128x7168.Idx) (i : S8448x7168.Idx), (i 0).val = 128 * t + (y 0).val → (i 1).val = (y 1).val → x5 y = A5 i)
  (h6 : ∀ (y : S128x56.Idx) (i : S8448x56.Idx), (i 0).val = 128 * t + (y 0).val → (i 1).val = (y 1).val → x6 y = A6 i)
  (h7 : x7 = A7)

include h0 h1 h2 in
/-- One worker's contribution to an element. -/
theorem worker_eq (w : Fin 4) (y : S128x7168.Idx) (i : S8448x7168.Idx) (hi0 : (i 0).val = 128 * t + (y 0).val) (hi1 : (i 1).val = (y 1).val)
    (R : ℕ) (hR : R = 128 * w.val + (y 0).val) :
    (Din x0 w.val (y 0).val (y 1).val * Sin (limbsG x1 x2 x6) R ((y 1).val / 128) : EReal)
      = Spec.term (Spec.nib (A0 (Cert.ReferenceIdeal.Own.byteIx w i)) (i 1).val) (A1 (Cert.ReferenceIdeal.Own.scaleIx w i)) (A2 (ix1 (n := 4) w)) := by
  have hy0 : (y 0).val < 128 := (y 0).isLt
  have hy1 : (y 1).val < 7168 := (y 1).isLt
  have hw : w.val < 4 := w.isLt
  have hb : (y 1).val / 128 < 56 := by omega
  rw [Sin_worker x1 x2 x6 w ⟨(y 0).val, hy0⟩ R _ hR hb]
  unfold Din
  rw [h0 _ (Cert.ReferenceIdeal.Own.byteIx w i) (show w.val = w.val % 4 by omega) (show (i 0).val = 128 * t + (y 0).val % 128 by omega)
    (show (i 1).val / 2 = (y 1).val / 2 % 3584 by omega)]
  rw [h1 _ (Cert.ReferenceIdeal.Own.scaleIx w i) rfl (show (i 0).val = 128 * t + (y 0).val from hi0)
    (show (i 1).val / 128 = (y 1).val / 128 by omega)]
  rw [h2, ← hi1]
  exact term_eq _ _ _

include h0 h1 h2 h3 h5 h6 h7 in
/-- The outer window's element. -/
theorem outG_eq (y : S128x7168.Idx) (i : S8448x7168.Idx) (hi0 : (i 0).val = 128 * t + (y 0).val) (hi1 : (i 1).val = (y 1).val) :
    outG x0 (limbsG x1 x2 x6) x5 x3 (lrOf x7) y = Cert.ReferenceIdeal.Own.outerAt A0 A1 A2 A3 A5 A6 A7 i := by
  have hy0 : (y 0).val < 128 := (y 0).isLt
  have hy1 : (y 1).val < 7168 := (y 1).isLt
  have hb : (y 1).val / 128 < 56 := by omega
  have w0 := worker_eq t x0 x1 x2 x6 A0 A1 A2 h0 h1 h2 0 y i hi0 hi1 (y 0).val (by simp)
  have w1 := worker_eq t x0 x1 x2 x6 A0 A1 A2 h0 h1 h2 1 y i hi0 hi1 (128 + (y 0).val) (by simp)
  have w2 := worker_eq t x0 x1 x2 x6 A0 A1 A2 h0 h1 h2 2 y i hi0 hi1 (256 + (y 0).val) (by simp)
  have w3 := worker_eq t x0 x1 x2 x6 A0 A1 A2 h0 h1 h2 3 y i hi0 hi1 (384 + (y 0).val) (by simp)
  have hd : dG x0 (limbsG x1 x2 x6) (y 0).val (y 1).val = Cert.ReferenceIdeal.Own.dAt A0 A1 A2 i :=
    congrArg₂ (fun a b : EReal => a + b) (congrArg₂ (fun a b : EReal => a + b) (congrArg₂ (fun a b : EReal => a + b) w0 w1) w2) w3
  have hm : Sin (limbsG x1 x2 x6) (512 + (y 0).val) ((y 1).val / 128) = A6 (Cert.ReferenceIdeal.Own.momIx i) :=
    (Sin_mom x1 x2 x6 ⟨(y 0).val, hy0⟩ _ hb).trans
      (h6 _ (Cert.ReferenceIdeal.Own.momIx i) hi0 (show (i 1).val / 128 = (y 1).val / 128 by omega))
  unfold outG
  rw [hd, hm, h5 y i hi0 hi1, h3 y i hi0 hi1, h7]
  rfl

include h0 h1 h2 h3 h4 h5 h6 h7 in
/-- The merged window's element. -/
theorem merG_eq (y : S128x7168.Idx) (i : S8448x7168.Idx) (hi0 : (i 0).val = 128 * t + (y 0).val) (hi1 : (i 1).val = (y 1).val) :
    merG x0 (limbsG x1 x2 x6) x5 x3 x4 (lrOf x7) y = Spec.mergedE (A4 i) (Cert.ReferenceIdeal.Own.outerAt A0 A1 A2 A3 A5 A6 A7 i) := by
  unfold merG
  rw [h4 y i hi0 hi1, outG_eq t x0 x1 x2 x3 x5 x6 x7 A0 A1 A2 A3 A5 A6 A7 h0 h1 h2 h3 h5 h6 h7 y i hi0 hi1]

end Point

end Cert.KernelIdeal.Own

end
-- ==== Proof.ValueEnd.lean ====
module

public import proofs.«01_k».proof.Proof.ValueStep
public import proofs.«01_k».proof.Proof.ValueMatch
public import proofs.«01_k».proof.Proof.FrameKernelIdeal
public import Idealize.ShloMosaic.Lib.Pipeline.ArrRel

@[expose] public section

set_option maxRecDepth 16384
set_option maxHeartbeats 4000000

/-! The outer and the merged array after the whole grid. -/

noncomputable section

namespace Cert.KernelIdeal.Own

open Cert.KernelIdeal Cert.KernelIdeal.Gen
open Idealize.ShloMosaic hiding ix1 ix2 ix3
open Idealize.ShloMosaic.TcCoe Idealize.ShloMosaic.ValueIdx Idealize.SL.Sem Idealize.ShloMosaic.Rounds

variable (m : (ℓ : Loc nD τ sig) → Buf (Elt Ideal) ℓ) (ρ : Dev nD → PrngReg)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

/-- The argument arrays of device `c`. -/
abbrev a0 (c : Dev nD) : Vec Ideal S4x8448x3584 .i8 := m ((c.tc : Thread nD τ).loc main_arg0)
abbrev a1 (c : Dev nD) : Vec Ideal S4x8448x56 .f32 := m ((c.tc : Thread nD τ).loc main_arg1)
abbrev a2 (c : Dev nD) : Vec Ideal S4 .f32 := m ((c.tc : Thread nD τ).loc main_arg2)
abbrev a3 (c : Dev nD) : Vec Ideal S8448x7168 .f32 := m ((c.tc : Thread nD τ).loc main_arg3)
abbrev a4 (c : Dev nD) : Vec Ideal S8448x7168 .bf16 := m ((c.tc : Thread nD τ).loc main_arg4)
abbrev a5 (c : Dev nD) : Vec Ideal S8448x7168 .i8 := m ((c.tc : Thread nD τ).loc main_arg5)
abbrev a6 (c : Dev nD) : Vec Ideal S8448x56 .f32 := m ((c.tc : Thread nD τ).loc main_arg6)
abbrev a7 (c : Dev nD) : Vec Ideal S1 .f32 := m ((c.tc : Thread nD τ).loc main_arg7)

/-- Window 0's block at a point is the array's rows of that point. -/
theorem blk0 (c : Dev nD) (t : Fin cfg0.N) (y : S4x128x3584.Idx) (i : S4x8448x3584.Idx) (e0 : (i 0).val = (y 0).val)
    (e1 : (i 1).val = 128 * t.val + (y 1).val) (e2 : (i 2).val = (y 2).val) : (iblk m c 0 t : S4x128x3584.Idx → BitVec 8) y = a0 m c i := by
  blk_simp [iblk]
  rw [V_main_arg0]
  refine congrArg (a0 m c) (funext fun d => Fin.ext ?_)
  match d with
  | ⟨0, _⟩ => blk_simp [idx0] <;> simp <;> omega
  | ⟨1, _⟩ => blk_simp [idx0] <;> simp <;> omega
  | ⟨2, _⟩ => blk_simp [idx0] <;> simp <;> omega

/-- Window 1's block at a point is the array's rows of that point. -/
theorem blk1 (c : Dev nD) (t : Fin cfg0.N) (y : S4x128x56.Idx) (i : S4x8448x56.Idx) (e0 : (i 0).val = (y 0).val)
    (e1 : (i 1).val = 128 * t.val + (y 1).val) (e2 : (i 2).val = (y 2).val) : (iblk m c 1 t : S4x128x56.Idx → EReal) y = a1 m c i := by
  blk_simp [iblk]
  rw [V_main_arg1]
  refine congrArg (a1 m c) (funext fun d => Fin.ext ?_)
  match d with
  | ⟨0, _⟩ => blk_simp [idx1] <;> simp <;> omega
  | ⟨1, _⟩ => blk_simp [idx1] <;> simp <;> omega
  | ⟨2, _⟩ => blk_simp [idx1] <;> simp <;> omega

/-- Window 2's block is its whole array. -/
theorem blk2 (c : Dev nD) (t : Fin cfg0.N) : (iblk m c 2 t : S4.Idx → EReal) = a2 m c := by
  funext y
  blk_simp [iblk]
  rw [V_main_arg2]
  refine congrArg (a2 m c) (funext fun d => Fin.ext ?_)
  match d with
  | ⟨0, _⟩ => blk_simp [idx2] <;> simp

/-- Window 3's block at a point is the array's rows of that point. -/
theorem blk3 (c : Dev nD) (t : Fin cfg0.N) (y : S128x7168.Idx) (i : S8448x7168.Idx) (e0 : (i 0).val = 128 * t.val + (y 0).val)
    (e1 : (i 1).val = (y 1).val) : (iblk m c 3 t : S128x7168.Idx → EReal) y = a3 m c i := by
  blk_simp [iblk]
  rw [V_main_arg3]
  refine congrArg (a3 m c) (funext fun d => Fin.ext ?_)
  match d with
  | ⟨0, _⟩ => blk_simp [idx3] <;> simp <;> omega
  | ⟨1, _⟩ => blk_simp [idx3] <;> simp <;> omega

/-- Window 4's block at a point is the array's rows of that point. -/
theorem blk4 (c : Dev nD) (t : Fin cfg0.N) (y : S128x7168.Idx) (i : S8448x7168.Idx) (e0 : (i 0).val = 128 * t.val + (y 0).val)
    (e1 : (i 1).val = (y 1).val) : (iblk m c 4 t : S128x7168.Idx → EReal) y = a4 m c i := by
  blk_simp [iblk]
  rw [V_main_arg4]
  refine congrArg (a4 m c) (funext fun d => Fin.ext ?_)
  match d with
  | ⟨0, _⟩ => blk_simp [idx4] <;> simp <;> omega
  | ⟨1, _⟩ => blk_simp [idx4] <;> simp <;> omega

/-- Window 5's block at a point is the array's rows of that point. -/
theorem blk5 (c : Dev nD) (t : Fin cfg0.N) (y : S128x7168.Idx) (i : S8448x7168.Idx) (e0 : (i 0).val = 128 * t.val + (y 0).val)
    (e1 : (i 1).val = (y 1).val) : (iblk m c 5 t : S128x7168.Idx → BitVec 8) y = a5 m c i := by
  blk_simp [iblk]
  rw [V_main_arg5]
  refine congrArg (a5 m c) (funext fun d => Fin.ext ?_)
  match d with
  | ⟨0, _⟩ => blk_simp [idx5] <;> simp <;> omega
  | ⟨1, _⟩ => blk_simp [idx5] <;> simp <;> omega

/-- Window 6's block at a point is the array's rows of that point. -/
theorem blk6 (c : Dev nD) (t : Fin cfg0.N) (y : S128x56.Idx) (i : S8448x56.Idx) (e0 : (i 0).val = 128 * t.val + (y 0).val)
    (e1 : (i 1).val = (y 1).val) : (iblk m c 6 t : S128x56.Idx → EReal) y = a6 m c i := by
  blk_simp [iblk]
  rw [V_main_arg6]
  refine congrArg (a6 m c) (funext fun d => Fin.ext ?_)
  match d with
  | ⟨0, _⟩ => blk_simp [idx6] <;> simp <;> omega
  | ⟨1, _⟩ => blk_simp [idx6] <;> simp <;> omega

/-- Window 7's block is its whole array. -/
theorem blk7 (c : Dev nD) (t : Fin cfg0.N) : (iblk m c 7 t : S1.Idx → EReal) = a7 m c := by
  funext y
  blk_simp [iblk]
  rw [V_main_arg7]
  refine congrArg (a7 m c) (funext fun d => Fin.ext ?_)
  match d with
  | ⟨0, _⟩ => blk_simp [idx7] <;> simp

/-- The outer array. -/
abbrev outer (c : Dev nD) : S8448x7168.Idx → EReal := fun i => Cert.ReferenceIdeal.Own.outerAt (a0 m c) (a1 m c) (a2 m c) (a3 m c) (a5 m c) (a6 m c) (a7 m c) i

/-- The merged array. -/
abbrev merged (c : Dev nD) : S8448x7168.Idx → EReal := fun i => Spec.mergedE (a4 m c i) (outer m c i)

/-- Scales, weights and momentum scales are finite on the whole arrays. -/
structure FinArr (c : Dev nD) : Prop where
  gs : ∀ i, a1 m c i ≠ ⊤ ∧ a1 m c i ≠ ⊥
  ww : ∀ i, a2 m c i ≠ ⊤ ∧ a2 m c i ≠ ⊥
  ms : ∀ i, a6 m c i ≠ ⊤ ∧ a6 m c i ≠ ⊥

theorem row_lt (t : Fin cfg0.N) (r : Fin 128) : 128 * t.val + r.val < 8448 := by
  have : t.val < 66 := t.isLt
  omega

theorem fins (c : Dev nD) (h : FinArr m c) : Fins m c := fun t => by
  refine ⟨fun y => ?_, fun y => ?_, fun y => ?_⟩
  · rw [blk1 m c t y (ix3 (n0 := 4) (n1 := 8448) (n2 := 56) (y 0) ⟨128 * t.val + (y 1).val, row_lt t (y 1)⟩ (y 2)) rfl rfl rfl]
    exact h.gs _
  · have e := blk2 m c t
    rw [e]
    exact h.ww _
  · rw [blk6 m c t y (ix2 (n0 := 8448) (n1 := 56) ⟨128 * t.val + (y 0).val, row_lt t (y 0)⟩ (y 1)) rfl rfl]
    exact h.ms _

theorem outT_eq (c : Dev nD) (t : Fin cfg0.N) (y : S128x7168.Idx) (i : S8448x7168.Idx) (e0 : (i 0).val = 128 * t.val + (y 0).val)
    (e1 : (i 1).val = (y 1).val) : outT m c t y = outer m c i :=
  outG_eq t.val _ _ _ _ _ _ _ (a0 m c) (a1 m c) (a2 m c) (a3 m c) (a5 m c) (a6 m c) (a7 m c)
    (blk0 m c t) (blk1 m c t) (blk2 m c t) (blk3 m c t) (blk5 m c t) (blk6 m c t) (blk7 m c t) y i e0 e1

theorem merT_eq (c : Dev nD) (t : Fin cfg0.N) (y : S128x7168.Idx) (i : S8448x7168.Idx) (e0 : (i 0).val = 128 * t.val + (y 0).val)
    (e1 : (i 1).val = (y 1).val) : merT m c t y = merged m c i :=
  merG_eq t.val _ _ _ _ _ _ _ _ (a0 m c) (a1 m c) (a2 m c) (a3 m c) (a4 m c) (a5 m c) (a6 m c) (a7 m c)
    (blk0 m c t) (blk1 m c t) (blk2 m c t) (blk3 m c t) (blk4 m c t) (blk5 m c t) (blk6 m c t) (blk7 m c t) y i e0 e1

/-- Exact data whose outer window holds at each point what the points leave there end with the outer array. -/
theorem arr12 (c : Dev nD) (dat : Pipeline.Dat τ (Elt Ideal) Unit ℕ (UR sig nD τ) ℕ cfg0 c)
    (h : ∀ t : Fin cfg0.N, dat.after 12 t = outT m c t) : dat.arrAt 12 cfg0.N = outer m c := by
  refine dat.arrAt_eq_of_covers 12 (outer m c) (by decide +kernel) (fun t hf y => ?_)
  blk_simp
  rw [h t]
  refine outT_eq m c t _ _ ?_ ?_
  · blk_simp [idx12] <;> simp <;> omega
  · blk_simp [idx12] <;> simp

/-- The same of the merged window. -/
theorem arr13 (c : Dev nD) (dat : Pipeline.Dat τ (Elt Ideal) Unit ℕ (UR sig nD τ) ℕ cfg0 c)
    (h : ∀ t : Fin cfg0.N, dat.after 13 t = merT m c t) : dat.arrAt 13 cfg0.N = merged m c := by
  refine dat.arrAt_eq_of_covers 13 (merged m c) (by decide +kernel) (fun t hf y => ?_)
  blk_simp
  rw [h t]
  refine merT_eq m c t _ _ ?_ ?_
  · blk_simp [idx13] <;> simp <;> omega
  · blk_simp [idx13] <;> simp

/-- After the run the two arrays are these. -/
theorem outputs (hfin : ∀ c : Dev nD, FinArr m c) :
    θ_run defs (onTc (τ := τ) (main (F := Ideal))) ⟨m, fun _ => 0, ρ⟩ (fun r => ∀ c : Dev nD,
      r.2.mem ((c.tc : Thread nD τ).loc main_v2_0) = outer m c ∧ r.2.mem ((c.tc : Thread nD τ).loc main_v2_1) = merged m c) := by
  refine (θ_run defs _ _).mono (fun r h c => ?_) (run_main m ρ)
  obtain ⟨after, hL, hA⟩ := Pipeline.RDat.FramePost.exists_exact h c
  have hf := fins m c (hfin c)
  have h12 : ∀ t : Fin cfg0.N, after 12 t = outT m c t := fun t =>
    leaves12 m c t _ hf ((dats m 0 c).toRRel_leaves (w := 12) rfl (hL 12 t ((flush0_12 t))))
  have h13 : ∀ t : Fin cfg0.N, after 13 t = merT m c t := fun t =>
    leaves13 m c t _ hf ((dats m 0 c).toRRel_leaves (w := 13) rfl (hL 13 t ((flush0_13 t))))
  exact ⟨(hA 12).trans (arr12 m c ((rdat m c).withAfter after) h12), (hA 13).trans (arr13 m c ((rdat m c).withAfter after) h13)⟩

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameKernel
public import proofs.«01_k».proof.Proof.FrameKernelIdeal
public import proofs.«01_k».proof.Proof.Reference
public import proofs.«01_k».proof.Proof.ValueEnd
public import Idealize.ShloMosaic.Adequacy
public import Idealize.ShloMosaic.Init

@[expose] public section

noncomputable section

namespace Cert.Proof

open Idealize.ShloMosaic Idealize.SL.Sem Cert.Kernel

/-- The precondition says that the scales, the weights and the momentum scales are finite. -/
theorem finArr (m : (ℓ : Loc Cert.KernelIdeal.nD Cert.KernelIdeal.τ Cert.KernelIdeal.sig) → Buf (Elt Ideal) ℓ)
    (h : Cert.Pre_KernelIdeal_finite (hPre_finite := Cert.KernelIdeal.Own.preFacts) m) (c : Dev Cert.KernelIdeal.nD) :
    Cert.KernelIdeal.Own.FinArr m c where
  gs := fun i => Cert.KernelIdeal.Own.fin_of_lt _ (congrFun (h c).1 i)
  ww := fun i => Cert.KernelIdeal.Own.fin_of_lt _ (congrFun (h c).2.1 i)
  ms := fun i => Cert.KernelIdeal.Own.fin_of_lt _ (congrFun (h c).2.2 i)

/-- At the ideal instance the kernel's outer and merged arrays are the reference's. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Own.preFacts) := by
  intro m g m' g' hp heq
  refine ⟨Cert.KernelIdeal.Own.outer m, Cert.KernelIdeal.Own.merged m, ?_, ?_⟩
  · refine (θ_run _ _ _).mono (fun r h c => ?_)
      (θ_run_and (Cert.KernelIdeal.Own.outputs m g (finArr m hp)) (Cert.KernelIdeal.Own.unchanged (F := Ideal) m g))
    exact ⟨(h.1 c).1, (h.1 c).2, h.2 c⟩
  · refine (θ_run _ _ _).mono (fun r h c => ?_) (Cert.ReferenceIdeal.Own.values m' g')
    obtain ⟨h0, h1, hr⟩ := h c
    obtain ⟨e0, e1, e2, e3, e4, e5, e6, e7, _⟩ := heq c
    rw [e0, e1, e2, e3, e5, e6, e7] at h0
    rw [e0, e1, e2, e3, e4, e5, e6, e7] at h1
    exact ⟨h0, h1, hr⟩

theorem claim : Cert.Claim := ⟨Cert.Kernel.Gen.facts, Cert.KernelIdeal.Gen.facts, Cert.ReferenceIdeal.Gen.facts,
  Cert.KernelIdeal.Own.preFacts,
  fun m g _ => Cert.Kernel.Own.frame (F := Bits) m g,
  fun m g _ => Cert.KernelIdeal.Own.frame (F := Ideal) m g,
  fun m g _ => Cert.KernelIdeal.Own.frame (F := Ideal) m g,
  fun m g _ => Cert.ReferenceIdeal.Own.frame m g,
  fun m g _ => Cert.ReferenceIdeal.Own.frame m g,
  IdealRules.bf16_pack.statement _,
  algebraic⟩

end Cert.Proof

end
